-- ==== Defs.lean ====
def Pre_Kernel [hPre_runs_ok : Cert.Pre_runs_ok.Facts] (m : (ℓ : Loc Cert.Kernel.nD Cert.Kernel.τ Cert.Kernel.sig) → Buf (Elt Bits) ℓ) : Prop :=
  ∀ c : Dev Cert.Kernel.nD,
    (Cert.Pre_runs_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_runs_ok : Cert.Pre_runs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_runs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_runs_ok [hPre_runs_ok : Cert.Pre_runs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_runs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Bag (m : (ℓ : Loc Cert.Bag.nD Cert.Bag.τ Cert.Bag.sig) → Buf (Elt Bits) ℓ) : Prop :=
  True

def Pre_BagReference (m : (ℓ : Loc Cert.BagReference.nD Cert.BagReference.τ Cert.BagReference.sig) → Buf (Elt Bits) ℓ) : Prop :=
  True

def quiescent_Kernel [hKernel : Cert.Kernel.Facts] [hPre_runs_ok : Cert.Pre_runs_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_runs_ok : Cert.Pre_runs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_runs_ok [hReferenceIdeal : Cert.ReferenceIdeal.Facts] [hPre_runs_ok : Cert.Pre_runs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_runs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Bag [hBag : Cert.Bag.Facts] : Prop :=
  ∀ (m : (ℓ : Loc Cert.Bag.nD Cert.Bag.τ Cert.Bag.sig) → Buf (Elt Bits) ℓ) (g : Dev Cert.Bag.nD → PrngReg), Pre_Bag m →
    θ_run (Cert.Bag.defs (F := Bits)) (onTc (τ := Cert.Bag.τ) (Cert.Bag.main (F := Bits))) ⟨m, fun _ => 0, g⟩ (fun r => (∀ c : Dev Cert.Bag.nD,
      r.2.mem ((c.tc : Thread Cert.Bag.nD Cert.Bag.τ).loc Cert.Bag.main_arg0) = m ((c.tc : Thread Cert.Bag.nD Cert.Bag.τ).loc Cert.Bag.main_arg0)
      ∧ r.2.mem ((c.tc : Thread Cert.Bag.nD Cert.Bag.τ).loc Cert.Bag.main_arg1) = m ((c.tc : Thread Cert.Bag.nD Cert.Bag.τ).loc Cert.Bag.main_arg1))
      ∧ r.2.sem = fun _ => 0)

def quiescent_BagReference [hBagReference : Cert.BagReference.Facts] : Prop :=
  ∀ (m : (ℓ : Loc Cert.BagReference.nD Cert.BagReference.τ Cert.BagReference.sig) → Buf (Elt Bits) ℓ) (g : Dev Cert.BagReference.nD → PrngReg), Pre_BagReference m →
    θ_run (Cert.BagReference.defs (F := Bits)) (onTc (τ := Cert.BagReference.τ) (Cert.BagReference.main (F := Bits))) ⟨m, fun _ => 0, g⟩ (fun r => (∀ c : Dev Cert.BagReference.nD,
      r.2.mem ((c.tc : Thread Cert.BagReference.nD Cert.BagReference.τ).loc Cert.BagReference.main_arg0) = m ((c.tc : Thread Cert.BagReference.nD Cert.BagReference.τ).loc Cert.BagReference.main_arg0)
      ∧ r.2.mem ((c.tc : Thread Cert.BagReference.nD Cert.BagReference.τ).loc Cert.BagReference.main_arg1) = m ((c.tc : Thread Cert.BagReference.nD Cert.BagReference.τ).loc Cert.BagReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_runs_ok : Cert.Pre_runs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Bag_BagReference [hBag : Cert.Bag.Facts] [hBagReference : Cert.BagReference.Facts] : Prop :=
  ∀ (m : (ℓ : Loc Cert.Bag.nD Cert.Bag.τ Cert.Bag.sig) → Buf (Elt Bits) ℓ) (g : Dev Cert.Bag.nD → PrngReg)
    (m' : (ℓ : Loc Cert.BagReference.nD Cert.BagReference.τ Cert.BagReference.sig) → Buf (Elt Bits) ℓ) (g' : Dev Cert.BagReference.nD → PrngReg), Pre_Bag m →
    (∀ c : Dev Cert.Bag.nD,
      m' ((c.tc : Thread Cert.BagReference.nD Cert.BagReference.τ).loc Cert.BagReference.main_arg0) = m ((c.tc : Thread Cert.Bag.nD Cert.Bag.τ).loc Cert.Bag.main_arg0)
      ∧ m' ((c.tc : Thread Cert.BagReference.nD Cert.BagReference.τ).loc Cert.BagReference.main_arg1) = m ((c.tc : Thread Cert.Bag.nD Cert.Bag.τ).loc Cert.Bag.main_arg1)) →
    ∃ (v0 : (c : Dev Cert.Bag.nD) → Buf (Elt Bits) ((c.tc : Thread Cert.Bag.nD Cert.Bag.τ).loc Cert.Bag.main_v2)),
      θ_run (Cert.Bag.defs (F := Bits)) (onTc (τ := Cert.Bag.τ) (Cert.Bag.main (F := Bits))) ⟨m, fun _ => 0, g⟩ (fun r => ∀ c : Dev Cert.Bag.nD,
          r.2.mem ((c.tc : Thread Cert.Bag.nD Cert.Bag.τ).loc Cert.Bag.main_v2) = v0 c
          ∧ r.2.mem ((c.tc : Thread Cert.Bag.nD Cert.Bag.τ).loc Cert.Bag.main_arg0) = m ((c.tc : Thread Cert.Bag.nD Cert.Bag.τ).loc Cert.Bag.main_arg0)
          ∧ r.2.mem ((c.tc : Thread Cert.Bag.nD Cert.Bag.τ).loc Cert.Bag.main_arg1) = m ((c.tc : Thread Cert.Bag.nD Cert.Bag.τ).loc Cert.Bag.main_arg1))
      ∧ θ_run (Cert.BagReference.defs (F := Bits)) (onTc (τ := Cert.BagReference.τ) (Cert.BagReference.main (F := Bits))) ⟨m', fun _ => 0, g'⟩ (fun r => ∀ c : Dev Cert.BagReference.nD,
          r.2.mem ((c.tc : Thread Cert.BagReference.nD Cert.BagReference.τ).loc Cert.BagReference.main_v3) = v0 c
          ∧ r.2.mem ((c.tc : Thread Cert.BagReference.nD Cert.BagReference.τ).loc Cert.BagReference.main_arg0) = m' ((c.tc : Thread Cert.BagReference.nD Cert.BagReference.τ).loc Cert.BagReference.main_arg0)
          ∧ r.2.mem ((c.tc : Thread Cert.BagReference.nD Cert.BagReference.τ).loc Cert.BagReference.main_arg1) = m' ((c.tc : Thread Cert.BagReference.nD Cert.BagReference.τ).loc Cert.BagReference.main_arg1))

def Claim : Prop :=
  ∃ (hKernel : Cert.Kernel.Facts) (hKernelIdeal : Cert.KernelIdeal.Facts) (hReferenceIdeal : Cert.ReferenceIdeal.Facts) (hBag : Cert.Bag.Facts) (hBagReference : Cert.BagReference.Facts) (hPre_runs_ok : Cert.Pre_runs_ok.Facts),
    quiescent_Kernel (hKernel := hKernel) (hPre_runs_ok := hPre_runs_ok)
    ∧ quiescent_KernelIdeal (hKernelIdeal := hKernelIdeal) (hPre_runs_ok := hPre_runs_ok)
    ∧ quiescent_ReferenceIdeal (hReferenceIdeal := hReferenceIdeal)
    ∧ quiescent_ReferenceIdeal_pre_runs_ok (hReferenceIdeal := hReferenceIdeal) (hPre_runs_ok := hPre_runs_ok)
    ∧ quiescent_Bag (hBag := hBag)
    ∧ quiescent_BagReference (hBagReference := hBagReference)
    ∧ preserves_Kernel_KernelIdeal
    ∧ algebraic_KernelIdeal_ReferenceIdeal (hKernelIdeal := hKernelIdeal) (hReferenceIdeal := hReferenceIdeal) (hPre_runs_ok := hPre_runs_ok)
    ∧ bitexact_Bag_BagReference (hBag := hBag) (hBagReference := hBagReference)
-- ==== Pre_runs_ok.lean ====
abbrev S983040x128 : Shape := ⟨2, ![983040, 128]⟩
abbrev S122880x256 : Shape := ⟨2, ![122880, 256]⟩
abbrev S122881 : Shape := ⟨1, ![122881]⟩
abbrev S122880 : Shape := ⟨1, ![122880]⟩
abbrev S1 : Shape := ⟨1, ![1]⟩
abbrev S_ : Shape := ⟨0, ![]⟩

class Facts : Prop where
  slices_S122881_S122880_0 : S122881.Slices ![0] S122880
  slices_S122881_S122880_1 : S122881.Slices ![1] S122880
  slices_S122881_S1_0 : S122881.Slices ![0] S1
  shapeCasts_S1_S_ : S1.ShapeCasts S_
  bcast_S_S122880 : S_.BroadcastsInDim S122880 (![] : Fin 0 → Fin S122880.rank)
  slices_S122881_S1_122880 : S122881.Slices ![122880] S1

variable [Facts]

def fn {F : FTy → Type} [FloatOps F] (main_arg0 : IVec S983040x128 32) (main_arg1 : IVec S122880x256 8) (main_arg2 : IVec S122881 32) (main_arg3 : FVec F S122880 .f32) (main_arg4 : FVec F S122880 .f32) (main_arg5 : FVec F S122880 .f32) : IVec S122880 1 :=
  let main_v0 : IVec S122880 32 := (extractStridedSlice S122880 ![0] · slices_S122881_S122880_0) main_arg2
  let main_v1 : IVec S122880 32 := (extractStridedSlice S122880 ![1] · slices_S122881_S122880_1) main_arg2
  let main_v2 : IVec S122880 1 := cmpi .sle main_v0 main_v1
  let main_v3 : IVec S1 32 := (extractStridedSlice S1 ![0] · slices_S122881_S1_0) main_arg2
  let main_v4 : IVec S_ 32 := shapeCast S_ main_v3 shapeCasts_S1_S_
  let main_c : IVec S_ 32 := constantI S_ 32 0#32
  let main_v5 : IVec S_ 1 := cmpi .eq main_v4 main_c
  let main_v6 : IVec S122880 1 := broadcastInDim S122880 ![] bcast_S_S122880 main_v5
  let main_v7 : IVec S122880 1 := andi main_v2 main_v6
  let main_v8 : IVec S1 32 := (extractStridedSlice S1 ![122880] · slices_S122881_S1_122880) main_arg2
  let main_v9 : IVec S_ 32 := shapeCast S_ main_v8 shapeCasts_S1_S_
  let main_c_0 : IVec S_ 32 := constantI S_ 32 983040#32
  let main_v10 : IVec S_ 1 := cmpi .eq main_v9 main_c_0
  let main_v11 : IVec S122880 1 := broadcastInDim S122880 ![] bcast_S_S122880 main_v10
  let main_v12 : IVec S122880 1 := andi main_v7 main_v11
  main_v12
-- ==== Kernel.lean ====
abbrev S983040x128 : Shape := ⟨2, ![983040, 128]⟩
abbrev S122880x256 : Shape := ⟨2, ![122880, 256]⟩
abbrev S122881 : Shape := ⟨1, ![122881]⟩
abbrev S122880 : Shape := ⟨1, ![122880]⟩
abbrev S481 : Shape := ⟨1, ![481]⟩
abbrev S480x2x128 : Shape := ⟨3, ![480, 2, 128]⟩
abbrev S256x256 : Shape := ⟨2, ![256, 256]⟩
abbrev S1x2x128 : Shape := ⟨3, ![1, 2, 128]⟩
abbrev S4x256x128 : Shape := ⟨3, ![4, 256, 128]⟩
abbrev S4 : Shape := ⟨1, ![4]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S1x1x128 : Shape := ⟨3, ![1, 1, 128]⟩
abbrev S1x128 : Shape := ⟨2, ![1, 128]⟩
abbrev S128x128 : Shape := ⟨2, ![128, 128]⟩
abbrev S128x256 : Shape := ⟨2, ![128, 256]⟩
abbrev S128 : Shape := ⟨1, ![128]⟩
abbrev S128x1 : Shape := ⟨2, ![128, 1]⟩

abbrev nBuf : Space → Nat
  | .hbm => 17
  | .vmem => 22
  | .smem => 2
  | _ => 0

abbrev bufTy : (tb : Table) → Fin (tcTables nBuf tb) → BufTy
  | .hbm, ⟨0, _⟩ => ⟨S983040x128, .i32⟩
  | .hbm, ⟨1, _⟩ => ⟨S122880x256, .i8⟩
  | .hbm, ⟨2, _⟩ => ⟨S122881, .i32⟩
  | .hbm, ⟨3, _⟩ => ⟨S122880, .f32⟩
  | .hbm, ⟨4, _⟩ => ⟨S122880, .f32⟩
  | .hbm, ⟨5, _⟩ => ⟨S122880, .f32⟩
  | .hbm, ⟨6, _⟩ => ⟨S122880, .i32⟩
  | .hbm, ⟨7, _⟩ => ⟨S122880, .i32⟩
  | .hbm, ⟨8, _⟩ => ⟨S480x2x128, .i32⟩
  | .hbm, ⟨9, _⟩ => ⟨S480x2x128, .i32⟩
  | .hbm, ⟨10, _⟩ => ⟨S480x2x128, .f32⟩
  | .hbm, ⟨11, _⟩ => ⟨S480x2x128, .f32⟩
  | .hbm, ⟨12, _⟩ => ⟨S480x2x128, .f32⟩
  | .hbm, ⟨13, _⟩ => ⟨S122880x256, .i8⟩
  | .hbm, ⟨14, _⟩ => ⟨S480x2x128, .f32⟩
  | .hbm, ⟨15, _⟩ => ⟨S480x2x128, .f32⟩
  | .hbm, ⟨16, _⟩ => ⟨S480x2x128, .f32⟩
  | .local _ .vmem, ⟨0, _⟩ => ⟨S256x256, .i8⟩
  | .local _ .vmem, ⟨1, _⟩ => ⟨S256x256, .i8⟩
  | .local _ .vmem, ⟨2, _⟩ => ⟨S1x2x128, .i32⟩
  | .local _ .vmem, ⟨3, _⟩ => ⟨S1x2x128, .i32⟩
  | .local _ .vmem, ⟨4, _⟩ => ⟨S1x2x128, .i32⟩
  | .local _ .vmem, ⟨5, _⟩ => ⟨S1x2x128, .i32⟩
  | .local _ .vmem, ⟨6, _⟩ => ⟨S1x2x128, .f32⟩
  | .local _ .vmem, ⟨7, _⟩ => ⟨S1x2x128, .f32⟩
  | .local _ .vmem, ⟨8, _⟩ => ⟨S1x2x128, .f32⟩
  | .local _ .vmem, ⟨9, _⟩ => ⟨S1x2x128, .f32⟩
  | .local _ .vmem, ⟨10, _⟩ => ⟨S1x2x128, .f32⟩
  | .local _ .vmem, ⟨11, _⟩ => ⟨S1x2x128, .f32⟩
  | .local _ .vmem, ⟨12, _⟩ => ⟨S256x256, .i8⟩
  | .local _ .vmem, ⟨13, _⟩ => ⟨S256x256, .i8⟩
  | .local _ .vmem, ⟨14, _⟩ => ⟨S1x2x128, .f32⟩
  | .local _ .vmem, ⟨15, _⟩ => ⟨S1x2x128, .f32⟩
  | .local _ .vmem, ⟨16, _⟩ => ⟨S1x2x128, .f32⟩
  | .local _ .vmem, ⟨17, _⟩ => ⟨S1x2x128, .f32⟩
  | .local _ .vmem, ⟨18, _⟩ => ⟨S1x2x128, .f32⟩
  | .local _ .vmem, ⟨19, _⟩ => ⟨S1x2x128, .f32⟩
  | .local _ .vmem, ⟨20, _⟩ => ⟨S4x256x128, .i32⟩
  | .local _ .vmem, ⟨21, _⟩ => ⟨S256x256, .f32⟩
  | .local _ .smem, ⟨0, _⟩ => ⟨S481, .i32⟩
  | .local _ .smem, ⟨1, _⟩ => ⟨S1, .i32⟩
  | _, _ => ⟨S983040x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch3 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![480], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_111 : BitVec 32 := 0#32
  c0_i32_111
def k0_off1 (c0_i32_110 : BitVec 32) : Fin 1 → Nat :=
  let c4_i32 : BitVec 32 := 4#32
  let v283 : BitVec 32 := Scalar.remsi c0_i32_110 c4_i32
  ![v283.toNat]
def k0_off2 (c0_i32_110 : BitVec 32) : Fin 3 → Nat :=
  let c4_i32 : BitVec 32 := 4#32
  let v283 : BitVec 32 := Scalar.remsi c0_i32_110 c4_i32
  let c0_i32_112 : BitVec 32 := 0#32
  let c0_i32_113 : BitVec 32 := 0#32
  ![v283.toNat, 0, 0]
def k0_mult2 : BitVec 32 :=
  let c256_i32_117 : BitVec 32 := 256#32
  c256_i32_117
def k0_mult3 : BitVec 32 :=
  let c512_i32 : BitVec 32 := 512#32
  c512_i32
def k0_off3 (i : grid0.Coords) : Fin 1 → Nat :=
  let arg0 : BitVec 32 := BitVec.ofNat 32 (i 0).val
  let v3 : Index := Scalar.indexCast arg0
  ![v3.toNat]
def k0_off4 (i : grid0.Coords) : Fin 1 → Nat :=
  let arg0 : BitVec 32 := BitVec.ofNat 32 (i 0).val
  let c1_i32 : BitVec 32 := 1#32
  let v5 : BitVec 32 := Scalar.addi arg0 c1_i32
  let v6 : Index := Scalar.indexCast v5
  ![v6.toNat]
@[reducible] def k0_t1_loop (v4 : BitVec 32) (v7 : BitVec 32) : Scf.Loop 32 :=
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_34 : BitVec 32 := 1#32
  ⟨c0_i32_32, v79, c1_i32_34⟩

def k0_mult4 (v4 : BitVec 32) (v7 : BitVec 32) (k0_t1 : Fin (k0_t1_loop v4 v7).trips) : BitVec 32 :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c256_i32_125 : BitVec 32 := 256#32
  let v330 : BitVec 32 := Scalar.muli v283 c256_i32_125
  v330
def k0_cond2 (v4 : BitVec 32) (v7 : BitVec 32) (k0_t1 : Fin (k0_t1_loop v4 v7).trips) (v284 : BitVec 32) : BitVec 1 :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let v285 : BitVec 1 := Scalar.cmpi .sge v283 v284
  let v286 : BitVec 32 := Scalar.extui v285
  let c0_i32_109 : BitVec 32 := 0#32
  let v287 : BitVec 1 := Scalar.cmpi .ne v286 c0_i32_109
  v287

def k0_off5 (v4 : BitVec 32) (v7 : BitVec 32) (k0_t1 : Fin (k0_t1_loop v4 v7).trips) : Fin 1 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c4_i32_124 : BitVec 32 := 4#32
  let v329 : BitVec 32 := Scalar.remsi v283 c4_i32_124
  ![v329.toNat]
def k0_off6 (v4 : BitVec 32) (v7 : BitVec 32) (k0_t1 : Fin (k0_t1_loop v4 v7).trips) : Fin 3 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c4_i32_124 : BitVec 32 := 4#32
  let v329 : BitVec 32 := Scalar.remsi v283 c4_i32_124
  let c0_i32_126 : BitVec 32 := 0#32
  let c0_i32_127 : BitVec 32 := 0#32
  ![v329.toNat, 0, 0]
def k0_off7 (v4 : BitVec 32) (v7 : BitVec 32) (k0_t1 : Fin (k0_t1_loop v4 v7).trips) : Fin 2 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c256_i32_125 : BitVec 32 := 256#32
  let v330 : BitVec 32 := Scalar.muli v283 c256_i32_125
  let v331 : BitVec 32 := v330
  let c0_i32_128 : BitVec 32 := 0#32
  ![v331.toNat, 0]
def k0_mult5 (v4 : BitVec 32) (v7 : BitVec 32) (k0_t1 : Fin (k0_t1_loop v4 v7).trips) : BitVec 32 :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c4_i32_134 : BitVec 32 := 4#32
  let v344 : BitVec 32 := Scalar.addi v283 c4_i32_134
  let c1_i32_135 : BitVec 32 := 1#32
  let v345 : BitVec 32 := Scalar.subi v344 c1_i32_135
  let c256_i32_137 : BitVec 32 := 256#32
  let v347 : BitVec 32 := Scalar.muli v345 c256_i32_137
  v347
def k0_cond3 (v4 : BitVec 32) (v7 : BitVec 32) (k0_t1 : Fin (k0_t1_loop v4 v7).trips) : BitVec 1 :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c4_i32_131 : BitVec 32 := 4#32
  let v339 : BitVec 32 := Scalar.addi v283 c4_i32_131
  let c1_i32_132 : BitVec 32 := 1#32
  let v340 : BitVec 32 := Scalar.subi v339 c1_i32_132
  let c3840_i32 : BitVec 32 := 3840#32
  let v341 : BitVec 1 := Scalar.cmpi .slt v340 c3840_i32
  let v342 : BitVec 32 := Scalar.extui v341
  let c0_i32_133 : BitVec 32 := 0#32
  let v343 : BitVec 1 := Scalar.cmpi .ne v342 c0_i32_133
  v343

def k0_off8 (v4 : BitVec 32) (v7 : BitVec 32) (k0_t1 : Fin (k0_t1_loop v4 v7).trips) : Fin 1 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c4_i32_134 : BitVec 32 := 4#32
  let v344 : BitVec 32 := Scalar.addi v283 c4_i32_134
  let c1_i32_135 : BitVec 32 := 1#32
  let v345 : BitVec 32 := Scalar.subi v344 c1_i32_135
  let c4_i32_136 : BitVec 32 := 4#32
  let v346 : BitVec 32 := Scalar.remsi v345 c4_i32_136
  ![v346.toNat]
def k0_off9 (v4 : BitVec 32) (v7 : BitVec 32) (k0_t1 : Fin (k0_t1_loop v4 v7).trips) : Fin 3 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c4_i32_134 : BitVec 32 := 4#32
  let v344 : BitVec 32 := Scalar.addi v283 c4_i32_134
  let c1_i32_135 : BitVec 32 := 1#32
  let v345 : BitVec 32 := Scalar.subi v344 c1_i32_135
  let c4_i32_136 : BitVec 32 := 4#32
  let v346 : BitVec 32 := Scalar.remsi v345 c4_i32_136
  let c0_i32_138 : BitVec 32 := 0#32
  let c0_i32_139 : BitVec 32 := 0#32
  ![v346.toNat, 0, 0]
def k0_off10 (v4 : BitVec 32) (v7 : BitVec 32) (k0_t1 : Fin (k0_t1_loop v4 v7).trips) : Fin 2 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c4_i32_134 : BitVec 32 := 4#32
  let v344 : BitVec 32 := Scalar.addi v283 c4_i32_134
  let c1_i32_135 : BitVec 32 := 1#32
  let v345 : BitVec 32 := Scalar.subi v344 c1_i32_135
  let c256_i32_137 : BitVec 32 := 256#32
  let v347 : BitVec 32 := Scalar.muli v345 c256_i32_137
  let v348 : BitVec 32 := v347
  let c0_i32_140 : BitVec 32 := 0#32
  ![v348.toNat, 0]

def k0_chk2 (v4 : BitVec 32) (v7 : BitVec 32) (k0_t1 : Fin (k0_t1_loop v4 v7).trips) (v284 : BitVec 32) : Prop :=
  (∀ (k0_h2 : k0_cond2 v4 v7 k0_t1 v284 = 1#1), 256 ∣ (k0_mult4 v4 v7 k0_t1).toNat) ∧
  (∀ (k0_h2 : k0_cond2 v4 v7 k0_t1 v284 = 1#1), ∀ a, (k0_off5 v4 v7 k0_t1) a + S1.size a ≤ S4.size a) ∧
  (∀ (k0_h2 : k0_cond2 v4 v7 k0_t1 v284 = 1#1), ∀ a, (k0_off6 v4 v7 k0_t1) a + S1x256x128.size a ≤ S4x256x128.size a) ∧
  (∀ (k0_h2 : k0_cond2 v4 v7 k0_t1 v284 = 1#1), ∀ a, (k0_off7 v4 v7 k0_t1) a + S256x128.size a ≤ S983040x128.size a) ∧
  (∀ (k0_h2 : k0_cond2 v4 v7 k0_t1 v284 = 1#1), ∀ (k0_h3 : k0_cond3 v4 v7 k0_t1 = 1#1), 256 ∣ (k0_mult5 v4 v7 k0_t1).toNat) ∧
  (∀ (k0_h2 : k0_cond2 v4 v7 k0_t1 v284 = 1#1), ∀ (k0_h3 : k0_cond3 v4 v7 k0_t1 = 1#1), ∀ a, (k0_off8 v4 v7 k0_t1) a + S1.size a ≤ S4.size a) ∧
  (∀ (k0_h2 : k0_cond2 v4 v7 k0_t1 v284 = 1#1), ∀ (k0_h3 : k0_cond3 v4 v7 k0_t1 = 1#1), ∀ a, (k0_off9 v4 v7 k0_t1) a + S1x256x128.size a ≤ S4x256x128.size a) ∧
  (∀ (k0_h2 : k0_cond2 v4 v7 k0_t1 v284 = 1#1), ∀ (k0_h3 : k0_cond3 v4 v7 k0_t1 = 1#1), ∀ a, (k0_off10 v4 v7 k0_t1) a + S256x128.size a ≤ S983040x128.size a)
theorem k0_mult4_dvd : ∀ (v4 : BitVec 32) (v7 : BitVec 32) (k0_t1 : Fin (k0_t1_loop v4 v7).trips) (v284 : BitVec 32) (k0_hw2 : k0_chk2 v4 v7 k0_t1 v284), ∀ (k0_h2 : k0_cond2 v4 v7 k0_t1 v284 = 1#1), 256 ∣ (k0_mult4 v4 v7 k0_t1).toNat := fun v4 v7 k0_t1 v284 k0_hw2 k0_h2 => k0_hw2.1 k0_h2
theorem k0_off5_inb : ∀ (v4 : BitVec 32) (v7 : BitVec 32) (k0_t1 : Fin (k0_t1_loop v4 v7).trips) (v284 : BitVec 32) (k0_hw2 : k0_chk2 v4 v7 k0_t1 v284), ∀ (k0_h2 : k0_cond2 v4 v7 k0_t1 v284 = 1#1), ∀ a, (k0_off5 v4 v7 k0_t1) a + S1.size a ≤ S4.size a := fun v4 v7 k0_t1 v284 k0_hw2 k0_h2 => k0_hw2.2.1 k0_h2
theorem k0_off6_inb : ∀ (v4 : BitVec 32) (v7 : BitVec 32) (k0_t1 : Fin (k0_t1_loop v4 v7).trips) (v284 : BitVec 32) (k0_hw2 : k0_chk2 v4 v7 k0_t1 v284), ∀ (k0_h2 : k0_cond2 v4 v7 k0_t1 v284 = 1#1), ∀ a, (k0_off6 v4 v7 k0_t1) a + S1x256x128.size a ≤ S4x256x128.size a := fun v4 v7 k0_t1 v284 k0_hw2 k0_h2 => k0_hw2.2.2.1 k0_h2
theorem k0_off7_inb : ∀ (v4 : BitVec 32) (v7 : BitVec 32) (k0_t1 : Fin (k0_t1_loop v4 v7).trips) (v284 : BitVec 32) (k0_hw2 : k0_chk2 v4 v7 k0_t1 v284), ∀ (k0_h2 : k0_cond2 v4 v7 k0_t1 v284 = 1#1), ∀ a, (k0_off7 v4 v7 k0_t1) a + S256x128.size a ≤ S983040x128.size a := fun v4 v7 k0_t1 v284 k0_hw2 k0_h2 => k0_hw2.2.2.2.1 k0_h2
theorem k0_mult5_dvd : ∀ (v4 : BitVec 32) (v7 : BitVec 32) (k0_t1 : Fin (k0_t1_loop v4 v7).trips) (v284 : BitVec 32) (k0_hw2 : k0_chk2 v4 v7 k0_t1 v284), ∀ (k0_h2 : k0_cond2 v4 v7 k0_t1 v284 = 1#1), ∀ (k0_h3 : k0_cond3 v4 v7 k0_t1 = 1#1), 256 ∣ (k0_mult5 v4 v7 k0_t1).toNat := fun v4 v7 k0_t1 v284 k0_hw2 k0_h2 k0_h3 => k0_hw2.2.2.2.2.1 k0_h2 k0_h3
theorem k0_off8_inb : ∀ (v4 : BitVec 32) (v7 : BitVec 32) (k0_t1 : Fin (k0_t1_loop v4 v7).trips) (v284 : BitVec 32) (k0_hw2 : k0_chk2 v4 v7 k0_t1 v284), ∀ (k0_h2 : k0_cond2 v4 v7 k0_t1 v284 = 1#1), ∀ (k0_h3 : k0_cond3 v4 v7 k0_t1 = 1#1), ∀ a, (k0_off8 v4 v7 k0_t1) a + S1.size a ≤ S4.size a := fun v4 v7 k0_t1 v284 k0_hw2 k0_h2 k0_h3 => k0_hw2.2.2.2.2.2.1 k0_h2 k0_h3
theorem k0_off9_inb : ∀ (v4 : BitVec 32) (v7 : BitVec 32) (k0_t1 : Fin (k0_t1_loop v4 v7).trips) (v284 : BitVec 32) (k0_hw2 : k0_chk2 v4 v7 k0_t1 v284), ∀ (k0_h2 : k0_cond2 v4 v7 k0_t1 v284 = 1#1), ∀ (k0_h3 : k0_cond3 v4 v7 k0_t1 = 1#1), ∀ a, (k0_off9 v4 v7 k0_t1) a + S1x256x128.size a ≤ S4x256x128.size a := fun v4 v7 k0_t1 v284 k0_hw2 k0_h2 k0_h3 => k0_hw2.2.2.2.2.2.2.1 k0_h2 k0_h3
theorem k0_off10_inb : ∀ (v4 : BitVec 32) (v7 : BitVec 32) (k0_t1 : Fin (k0_t1_loop v4 v7).trips) (v284 : BitVec 32) (k0_hw2 : k0_chk2 v4 v7 k0_t1 v284), ∀ (k0_h2 : k0_cond2 v4 v7 k0_t1 v284 = 1#1), ∀ (k0_h3 : k0_cond3 v4 v7 k0_t1 = 1#1), ∀ a, (k0_off10 v4 v7 k0_t1) a + S256x128.size a ≤ S983040x128.size a := fun v4 v7 k0_t1 v284 k0_hw2 k0_h2 k0_h3 => k0_hw2.2.2.2.2.2.2.2 k0_h2 k0_h3

def k0_off11 (v4 : BitVec 32) (v7 : BitVec 32) (k0_t1 : Fin (k0_t1_loop v4 v7).trips) : Fin 3 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c1_i32_34 : BitVec 32 := 1#32
  let arg17 : BitVec 32 := Scf.iv c0_i32_32 c1_i32_34 k0_t1
  let c1_i32_31 : BitVec 32 := 1#32
  let v282 : BitVec 32 := Scalar.muli arg17 c1_i32_31
  let v283 : BitVec 32 := Scalar.addi v24 v282
  let c4_i32 : BitVec 32 := 4#32
  let v288 : BitVec 32 := Scalar.remsi v283 c4_i32
  let v289 : Index := Scalar.indexCast v288
  let c0_110 : Index := 0#32
  let c0_111 : Index := 0#32
  ![v289.toNat, 0, 0]
@[reducible] def k0_t2_loop (v4 : BitVec 32) (v7 : BitVec 32) : Scf.Loop 32 :=
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let v76 : BitVec 32 := Scalar.addi c0_i32_32 v75
  let c1_i32_35 : BitVec 32 := 1#32
  ⟨v79, v76, c1_i32_35⟩
def k0_mult6 (v4 : BitVec 32) (v7 : BitVec 32) (k0_t2 : Fin (k0_t2_loop v4 v7).trips) : BitVec 32 :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c256_i32_125 : BitVec 32 := 256#32
  let v330 : BitVec 32 := Scalar.muli v283 c256_i32_125
  v330
def k0_cond4 (v4 : BitVec 32) (v7 : BitVec 32) (k0_t2 : Fin (k0_t2_loop v4 v7).trips) (v284 : BitVec 32) : BitVec 1 :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let v285 : BitVec 1 := Scalar.cmpi .sge v283 v284
  let v286 : BitVec 32 := Scalar.extui v285
  let c0_i32_109 : BitVec 32 := 0#32
  let v287 : BitVec 1 := Scalar.cmpi .ne v286 c0_i32_109
  v287

def k0_off12 (v4 : BitVec 32) (v7 : BitVec 32) (k0_t2 : Fin (k0_t2_loop v4 v7).trips) : Fin 1 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c4_i32_124 : BitVec 32 := 4#32
  let v329 : BitVec 32 := Scalar.remsi v283 c4_i32_124
  ![v329.toNat]
def k0_off13 (v4 : BitVec 32) (v7 : BitVec 32) (k0_t2 : Fin (k0_t2_loop v4 v7).trips) : Fin 3 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c4_i32_124 : BitVec 32 := 4#32
  let v329 : BitVec 32 := Scalar.remsi v283 c4_i32_124
  let c0_i32_126 : BitVec 32 := 0#32
  let c0_i32_127 : BitVec 32 := 0#32
  ![v329.toNat, 0, 0]
def k0_off14 (v4 : BitVec 32) (v7 : BitVec 32) (k0_t2 : Fin (k0_t2_loop v4 v7).trips) : Fin 2 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c256_i32_125 : BitVec 32 := 256#32
  let v330 : BitVec 32 := Scalar.muli v283 c256_i32_125
  let v331 : BitVec 32 := v330
  let c0_i32_128 : BitVec 32 := 0#32
  ![v331.toNat, 0]
def k0_mult7 (v4 : BitVec 32) (v7 : BitVec 32) (k0_t2 : Fin (k0_t2_loop v4 v7).trips) : BitVec 32 :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c4_i32_134 : BitVec 32 := 4#32
  let v344 : BitVec 32 := Scalar.addi v283 c4_i32_134
  let c1_i32_135 : BitVec 32 := 1#32
  let v345 : BitVec 32 := Scalar.subi v344 c1_i32_135
  let c256_i32_137 : BitVec 32 := 256#32
  let v347 : BitVec 32 := Scalar.muli v345 c256_i32_137
  v347
def k0_cond5 (v4 : BitVec 32) (v7 : BitVec 32) (k0_t2 : Fin (k0_t2_loop v4 v7).trips) : BitVec 1 :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c4_i32_131 : BitVec 32 := 4#32
  let v339 : BitVec 32 := Scalar.addi v283 c4_i32_131
  let c1_i32_132 : BitVec 32 := 1#32
  let v340 : BitVec 32 := Scalar.subi v339 c1_i32_132
  let c3840_i32 : BitVec 32 := 3840#32
  let v341 : BitVec 1 := Scalar.cmpi .slt v340 c3840_i32
  let v342 : BitVec 32 := Scalar.extui v341
  let c0_i32_133 : BitVec 32 := 0#32
  let v343 : BitVec 1 := Scalar.cmpi .ne v342 c0_i32_133
  v343

def k0_off15 (v4 : BitVec 32) (v7 : BitVec 32) (k0_t2 : Fin (k0_t2_loop v4 v7).trips) : Fin 1 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c4_i32_134 : BitVec 32 := 4#32
  let v344 : BitVec 32 := Scalar.addi v283 c4_i32_134
  let c1_i32_135 : BitVec 32 := 1#32
  let v345 : BitVec 32 := Scalar.subi v344 c1_i32_135
  let c4_i32_136 : BitVec 32 := 4#32
  let v346 : BitVec 32 := Scalar.remsi v345 c4_i32_136
  ![v346.toNat]
def k0_off16 (v4 : BitVec 32) (v7 : BitVec 32) (k0_t2 : Fin (k0_t2_loop v4 v7).trips) : Fin 3 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c4_i32_134 : BitVec 32 := 4#32
  let v344 : BitVec 32 := Scalar.addi v283 c4_i32_134
  let c1_i32_135 : BitVec 32 := 1#32
  let v345 : BitVec 32 := Scalar.subi v344 c1_i32_135
  let c4_i32_136 : BitVec 32 := 4#32
  let v346 : BitVec 32 := Scalar.remsi v345 c4_i32_136
  let c0_i32_138 : BitVec 32 := 0#32
  let c0_i32_139 : BitVec 32 := 0#32
  ![v346.toNat, 0, 0]
def k0_off17 (v4 : BitVec 32) (v7 : BitVec 32) (k0_t2 : Fin (k0_t2_loop v4 v7).trips) : Fin 2 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c4_i32_134 : BitVec 32 := 4#32
  let v344 : BitVec 32 := Scalar.addi v283 c4_i32_134
  let c1_i32_135 : BitVec 32 := 1#32
  let v345 : BitVec 32 := Scalar.subi v344 c1_i32_135
  let c256_i32_137 : BitVec 32 := 256#32
  let v347 : BitVec 32 := Scalar.muli v345 c256_i32_137
  let v348 : BitVec 32 := v347
  let c0_i32_140 : BitVec 32 := 0#32
  ![v348.toNat, 0]

def k0_chk3 (v4 : BitVec 32) (v7 : BitVec 32) (k0_t2 : Fin (k0_t2_loop v4 v7).trips) (v284 : BitVec 32) : Prop :=
  (∀ (k0_h4 : k0_cond4 v4 v7 k0_t2 v284 = 1#1), 256 ∣ (k0_mult6 v4 v7 k0_t2).toNat) ∧
  (∀ (k0_h4 : k0_cond4 v4 v7 k0_t2 v284 = 1#1), ∀ a, (k0_off12 v4 v7 k0_t2) a + S1.size a ≤ S4.size a) ∧
  (∀ (k0_h4 : k0_cond4 v4 v7 k0_t2 v284 = 1#1), ∀ a, (k0_off13 v4 v7 k0_t2) a + S1x256x128.size a ≤ S4x256x128.size a) ∧
  (∀ (k0_h4 : k0_cond4 v4 v7 k0_t2 v284 = 1#1), ∀ a, (k0_off14 v4 v7 k0_t2) a + S256x128.size a ≤ S983040x128.size a) ∧
  (∀ (k0_h4 : k0_cond4 v4 v7 k0_t2 v284 = 1#1), ∀ (k0_h5 : k0_cond5 v4 v7 k0_t2 = 1#1), 256 ∣ (k0_mult7 v4 v7 k0_t2).toNat) ∧
  (∀ (k0_h4 : k0_cond4 v4 v7 k0_t2 v284 = 1#1), ∀ (k0_h5 : k0_cond5 v4 v7 k0_t2 = 1#1), ∀ a, (k0_off15 v4 v7 k0_t2) a + S1.size a ≤ S4.size a) ∧
  (∀ (k0_h4 : k0_cond4 v4 v7 k0_t2 v284 = 1#1), ∀ (k0_h5 : k0_cond5 v4 v7 k0_t2 = 1#1), ∀ a, (k0_off16 v4 v7 k0_t2) a + S1x256x128.size a ≤ S4x256x128.size a) ∧
  (∀ (k0_h4 : k0_cond4 v4 v7 k0_t2 v284 = 1#1), ∀ (k0_h5 : k0_cond5 v4 v7 k0_t2 = 1#1), ∀ a, (k0_off17 v4 v7 k0_t2) a + S256x128.size a ≤ S983040x128.size a)
theorem k0_mult6_dvd : ∀ (v4 : BitVec 32) (v7 : BitVec 32) (k0_t2 : Fin (k0_t2_loop v4 v7).trips) (v284 : BitVec 32) (k0_hw3 : k0_chk3 v4 v7 k0_t2 v284), ∀ (k0_h4 : k0_cond4 v4 v7 k0_t2 v284 = 1#1), 256 ∣ (k0_mult6 v4 v7 k0_t2).toNat := fun v4 v7 k0_t2 v284 k0_hw3 k0_h4 => k0_hw3.1 k0_h4
theorem k0_off12_inb : ∀ (v4 : BitVec 32) (v7 : BitVec 32) (k0_t2 : Fin (k0_t2_loop v4 v7).trips) (v284 : BitVec 32) (k0_hw3 : k0_chk3 v4 v7 k0_t2 v284), ∀ (k0_h4 : k0_cond4 v4 v7 k0_t2 v284 = 1#1), ∀ a, (k0_off12 v4 v7 k0_t2) a + S1.size a ≤ S4.size a := fun v4 v7 k0_t2 v284 k0_hw3 k0_h4 => k0_hw3.2.1 k0_h4
theorem k0_off13_inb : ∀ (v4 : BitVec 32) (v7 : BitVec 32) (k0_t2 : Fin (k0_t2_loop v4 v7).trips) (v284 : BitVec 32) (k0_hw3 : k0_chk3 v4 v7 k0_t2 v284), ∀ (k0_h4 : k0_cond4 v4 v7 k0_t2 v284 = 1#1), ∀ a, (k0_off13 v4 v7 k0_t2) a + S1x256x128.size a ≤ S4x256x128.size a := fun v4 v7 k0_t2 v284 k0_hw3 k0_h4 => k0_hw3.2.2.1 k0_h4
theorem k0_off14_inb : ∀ (v4 : BitVec 32) (v7 : BitVec 32) (k0_t2 : Fin (k0_t2_loop v4 v7).trips) (v284 : BitVec 32) (k0_hw3 : k0_chk3 v4 v7 k0_t2 v284), ∀ (k0_h4 : k0_cond4 v4 v7 k0_t2 v284 = 1#1), ∀ a, (k0_off14 v4 v7 k0_t2) a + S256x128.size a ≤ S983040x128.size a := fun v4 v7 k0_t2 v284 k0_hw3 k0_h4 => k0_hw3.2.2.2.1 k0_h4
theorem k0_mult7_dvd : ∀ (v4 : BitVec 32) (v7 : BitVec 32) (k0_t2 : Fin (k0_t2_loop v4 v7).trips) (v284 : BitVec 32) (k0_hw3 : k0_chk3 v4 v7 k0_t2 v284), ∀ (k0_h4 : k0_cond4 v4 v7 k0_t2 v284 = 1#1), ∀ (k0_h5 : k0_cond5 v4 v7 k0_t2 = 1#1), 256 ∣ (k0_mult7 v4 v7 k0_t2).toNat := fun v4 v7 k0_t2 v284 k0_hw3 k0_h4 k0_h5 => k0_hw3.2.2.2.2.1 k0_h4 k0_h5
theorem k0_off15_inb : ∀ (v4 : BitVec 32) (v7 : BitVec 32) (k0_t2 : Fin (k0_t2_loop v4 v7).trips) (v284 : BitVec 32) (k0_hw3 : k0_chk3 v4 v7 k0_t2 v284), ∀ (k0_h4 : k0_cond4 v4 v7 k0_t2 v284 = 1#1), ∀ (k0_h5 : k0_cond5 v4 v7 k0_t2 = 1#1), ∀ a, (k0_off15 v4 v7 k0_t2) a + S1.size a ≤ S4.size a := fun v4 v7 k0_t2 v284 k0_hw3 k0_h4 k0_h5 => k0_hw3.2.2.2.2.2.1 k0_h4 k0_h5
theorem k0_off16_inb : ∀ (v4 : BitVec 32) (v7 : BitVec 32) (k0_t2 : Fin (k0_t2_loop v4 v7).trips) (v284 : BitVec 32) (k0_hw3 : k0_chk3 v4 v7 k0_t2 v284), ∀ (k0_h4 : k0_cond4 v4 v7 k0_t2 v284 = 1#1), ∀ (k0_h5 : k0_cond5 v4 v7 k0_t2 = 1#1), ∀ a, (k0_off16 v4 v7 k0_t2) a + S1x256x128.size a ≤ S4x256x128.size a := fun v4 v7 k0_t2 v284 k0_hw3 k0_h4 k0_h5 => k0_hw3.2.2.2.2.2.2.1 k0_h4 k0_h5
theorem k0_off17_inb : ∀ (v4 : BitVec 32) (v7 : BitVec 32) (k0_t2 : Fin (k0_t2_loop v4 v7).trips) (v284 : BitVec 32) (k0_hw3 : k0_chk3 v4 v7 k0_t2 v284), ∀ (k0_h4 : k0_cond4 v4 v7 k0_t2 v284 = 1#1), ∀ (k0_h5 : k0_cond5 v4 v7 k0_t2 = 1#1), ∀ a, (k0_off17 v4 v7 k0_t2) a + S256x128.size a ≤ S983040x128.size a := fun v4 v7 k0_t2 v284 k0_hw3 k0_h4 k0_h5 => k0_hw3.2.2.2.2.2.2.2 k0_h4 k0_h5

def k0_off18 (v4 : BitVec 32) (v7 : BitVec 32) (k0_t2 : Fin (k0_t2_loop v4 v7).trips) : Fin 3 → Nat :=
  let c0_i32_1 : BitVec 32 := 0#32
  let v9 : BitVec 1 := Scalar.cmpi .sgt v4 c0_i32_1
  let v10 : BitVec 32 := Scalar.extui v9
  let c0_i32_2 : BitVec 32 := 0#32
  let v11 : BitVec 1 := Scalar.cmpi .slt v4 c0_i32_2
  let v12 : BitVec 32 := Scalar.extui v11
  let v13 : BitVec 32 := Scalar.subi v10 v12
  let c256_i32 : BitVec 32 := 256#32
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v4 c256_i32
  let c0_i32_5 : BitVec 32 := 0#32
  let v21 : BitVec 1 := Scalar.cmpi .ne v20 c0_i32_5
  let v22 : BitVec 1 := Scalar.andi v19 v21
  let v8 : BitVec 32 := Scalar.divsi v4 c256_i32
  let c1_i32_6 : BitVec 32 := 1#32
  let v23 : BitVec 32 := Scalar.subi v8 c1_i32_6
  let v24 : BitVec 32 := Scalar.select v22 v23 v8
  let c0_i32_32 : BitVec 32 := 0#32
  let c256_i32_7 : BitVec 32 := 256#32
  let v25 : BitVec 32 := Scalar.addi v7 c256_i32_7
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v71 : BitVec 32 := Scalar.subi v43 v24
  let c1_i32_28 : BitVec 32 := 1#32
  let c1_i32_29 : BitVec 32 := 1#32
  let v72 : BitVec 32 := Scalar.subi c1_i32_28 c1_i32_29
  let v73 : BitVec 32 := Scalar.addi v71 v72
  let c1_i32_30 : BitVec 32 := 1#32
  let v74 : BitVec 32 := Scalar.divsi v73 c1_i32_30
  let v75 : BitVec 32 := Scalar.subi v74 c0_i32_32
  let c1_i32_33 : BitVec 32 := 1#32
  let v77 : BitVec 32 := Scalar.divsi v75 c1_i32_33
  let v78 : BitVec 32 := Scalar.muli v77 c1_i32_33
  let v79 : BitVec 32 := Scalar.addi c0_i32_32 v78
  let c1_i32_35 : BitVec 32 := 1#32
  let arg17 : BitVec 32 := Scf.iv v79 c1_i32_35 k0_t2
  let c1_i32_31 : BitVec 32 := 1#32
  let v282 : BitVec 32 := Scalar.muli arg17 c1_i32_31
  let v283 : BitVec 32 := Scalar.addi v24 v282
  let c4_i32 : BitVec 32 := 4#32
  let v288 : BitVec 32 := Scalar.remsi v283 c4_i32
  let v289 : Index := Scalar.indexCast v288
  let c0_110 : Index := 0#32
  let c0_111 : Index := 0#32
  ![v289.toNat, 0, 0]

def k0_chk1 (v4 : BitVec 32) (v7 : BitVec 32) : Prop :=
  ((k0_t1_loop v4 v7).OK) ∧
  (∀ k0_t1 : Fin (k0_t1_loop v4 v7).trips, ∀ a, (k0_off11 v4 v7 k0_t1) a + S1x256x128.size a ≤ S4x256x128.size a) ∧
  ((k0_t2_loop v4 v7).OK) ∧
  (∀ k0_t2 : Fin (k0_t2_loop v4 v7).trips, ∀ a, (k0_off18 v4 v7 k0_t2) a + S1x256x128.size a ≤ S4x256x128.size a)
theorem k0_t1_ok : ∀ (v4 : BitVec 32) (v7 : BitVec 32) (k0_hw1 : k0_chk1 v4 v7), (k0_t1_loop v4 v7).OK := fun v4 v7 k0_hw1 => k0_hw1.1
theorem k0_off11_inb : ∀ (v4 : BitVec 32) (v7 : BitVec 32) (k0_hw1 : k0_chk1 v4 v7) (k0_t1 : Fin (k0_t1_loop v4 v7).trips), ∀ a, (k0_off11 v4 v7 k0_t1) a + S1x256x128.size a ≤ S4x256x128.size a := fun v4 v7 k0_hw1 k0_t1 => k0_hw1.2.1 k0_t1
theorem k0_t2_ok : ∀ (v4 : BitVec 32) (v7 : BitVec 32) (k0_hw1 : k0_chk1 v4 v7), (k0_t2_loop v4 v7).OK := fun v4 v7 k0_hw1 => k0_hw1.2.2.1
theorem k0_off18_inb : ∀ (v4 : BitVec 32) (v7 : BitVec 32) (k0_hw1 : k0_chk1 v4 v7) (k0_t2 : Fin (k0_t2_loop v4 v7).trips), ∀ a, (k0_off18 v4 v7 k0_t2) a + S1x256x128.size a ≤ S4x256x128.size a := fun v4 v7 k0_hw1 k0_t2 => k0_hw1.2.2.2 k0_t2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S983040x128 : Shape := ⟨2, ![983040, 128]⟩
abbrev S122880x256 : Shape := ⟨2, ![122880, 256]⟩
abbrev S122881 : Shape := ⟨1, ![122881]⟩
abbrev S122880 : Shape := ⟨1, ![122880]⟩
abbrev S_ : Shape := ⟨0, ![]⟩
abbrev S983040x256 : Shape := ⟨2, ![983040, 256]⟩
abbrev S983040 : Shape := ⟨1, ![983040]⟩
abbrev S1x983040 : Shape := ⟨2, ![1, 983040]⟩
abbrev S122881x1 : Shape := ⟨2, ![122881, 1]⟩
abbrev S122881x983040 : Shape := ⟨2, ![122881, 983040]⟩
abbrev S983040x1 : Shape := ⟨2, ![983040, 1]⟩
abbrev S122880x1 : Shape := ⟨2, ![122880, 1]⟩
abbrev S480x2x128 : Shape := ⟨3, ![480, 2, 128]⟩

abbrev nBuf : Space → Nat
  | .hbm => 89
  | .vmem => 0
  | .smem => 0
  | _ => 0

abbrev bufTy : (tb : Table) → Fin (tcTables nBuf tb) → BufTy
  | .hbm, ⟨0, _⟩ => ⟨S983040x128, .i32⟩
  | .hbm, ⟨1, _⟩ => ⟨S122880x256, .i8⟩
  | .hbm, ⟨2, _⟩ => ⟨S122881, .i32⟩
  | .hbm, ⟨3, _⟩ => ⟨S122880, .f32⟩
  | .hbm, ⟨4, _⟩ => ⟨S122880, .f32⟩
  | .hbm, ⟨5, _⟩ => ⟨S122880, .f32⟩
  | .hbm, ⟨6, _⟩ => ⟨S_, .i32⟩
  | .hbm, ⟨7, _⟩ => ⟨S983040x128, .i32⟩
  | .hbm, ⟨8, _⟩ => ⟨S983040x128, .i32⟩
  | .hbm, ⟨9, _⟩ => ⟨S983040x128, .f32⟩
  | .hbm, ⟨10, _⟩ => ⟨S_, .i32⟩
  | .hbm, ⟨11, _⟩ => ⟨S983040x128, .i32⟩
  | .hbm, ⟨12, _⟩ => ⟨S983040x128, .i32⟩
  | .hbm, ⟨13, _⟩ => ⟨S983040x128, .f32⟩
  | .hbm, ⟨14, _⟩ => ⟨S983040x256, .f32⟩
  | .hbm, ⟨15, _⟩ => ⟨S983040, .i32⟩
  | .hbm, ⟨16, _⟩ => ⟨S1x983040, .i32⟩
  | .hbm, ⟨17, _⟩ => ⟨S122881x1, .i32⟩
  | .hbm, ⟨18, _⟩ => ⟨S122881x983040, .i32⟩
  | .hbm, ⟨19, _⟩ => ⟨S122881x983040, .i32⟩
  | .hbm, ⟨20, _⟩ => ⟨S122881x983040, .i1⟩
  | .hbm, ⟨21, _⟩ => ⟨S122881x983040, .i32⟩
  | .hbm, ⟨22, _⟩ => ⟨S_, .i32⟩
  | .hbm, ⟨23, _⟩ => ⟨S983040, .i32⟩
  | .hbm, ⟨24, _⟩ => ⟨S_, .i32⟩
  | .hbm, ⟨25, _⟩ => ⟨S983040, .i32⟩
  | .hbm, ⟨26, _⟩ => ⟨S983040, .i32⟩
  | .hbm, ⟨27, _⟩ => ⟨S_, .f32⟩
  | .hbm, ⟨28, _⟩ => ⟨S122880x256, .f32⟩
  | .hbm, ⟨29, _⟩ => ⟨S983040x1, .i32⟩
  | .hbm, ⟨30, _⟩ => ⟨S122880x256, .f32⟩
  | .hbm, ⟨31, _⟩ => ⟨S122880x256, .i32⟩
  | .hbm, ⟨32, _⟩ => ⟨S122880x256, .f32⟩
  | .hbm, ⟨33, _⟩ => ⟨S122880x1, .f32⟩
  | .hbm, ⟨34, _⟩ => ⟨S122880x256, .f32⟩
  | .hbm, ⟨35, _⟩ => ⟨S122880x256, .f32⟩
  | .hbm, ⟨36, _⟩ => ⟨S122880x1, .f32⟩
  | .hbm, ⟨37, _⟩ => ⟨S122880x256, .f32⟩
  | .hbm, ⟨38, _⟩ => ⟨S122880x256, .f32⟩
  | .hbm, ⟨39, _⟩ => ⟨S122880x256, .f32⟩
  | .hbm, ⟨40, _⟩ => ⟨S_, .f32⟩
  | .hbm, ⟨41, _⟩ => ⟨S122880, .f32⟩
  | .hbm, ⟨42, _⟩ => ⟨S_, .f32⟩
  | .hbm, ⟨43, _⟩ => ⟨S122880, .f32⟩
  | .hbm, ⟨44, _⟩ => ⟨S122880, .f32⟩
  | .hbm, ⟨45, _⟩ => ⟨S122880, .f32⟩
  | .hbm, ⟨46, _⟩ => ⟨S_, .f32⟩
  | .hbm, ⟨47, _⟩ => ⟨S122880x256, .f32⟩
  | .hbm, ⟨48, _⟩ => ⟨S122880x256, .f32⟩
  | .hbm, ⟨49, _⟩ => ⟨S122880, .f32⟩
  | .hbm, ⟨50, _⟩ => ⟨S_, .f32⟩
  | .hbm, ⟨51, _⟩ => ⟨S122880, .f32⟩
  | .hbm, ⟨52, _⟩ => ⟨S122880, .f32⟩
  | .hbm, ⟨53, _⟩ => ⟨S122880x1, .f32⟩
  | .hbm, ⟨54, _⟩ => ⟨S122880x256, .f32⟩
  | .hbm, ⟨55, _⟩ => ⟨S122880x256, .f32⟩
  | .hbm, ⟨56, _⟩ => ⟨S122880x256, .f32⟩
  | .hbm, ⟨57, _⟩ => ⟨S_, .f32⟩
  | .hbm, ⟨58, _⟩ => ⟨S122880, .f32⟩
  | .hbm, ⟨59, _⟩ => ⟨S_, .f32⟩
  | .hbm, ⟨60, _⟩ => ⟨S122880, .f32⟩
  | .hbm, ⟨61, _⟩ => ⟨S122880, .i1⟩
  | .hbm, ⟨62, _⟩ => ⟨S122880, .f32⟩
  | .hbm, ⟨63, _⟩ => ⟨S_, .f32⟩
  | .hbm, ⟨64, _⟩ => ⟨S122880, .f32⟩
  | .hbm, ⟨65, _⟩ => ⟨S122880, .f32⟩
  | .hbm, ⟨66, _⟩ => ⟨S_, .f32⟩
  | .hbm, ⟨67, _⟩ => ⟨S122880, .f32⟩
  | .hbm, ⟨68, _⟩ => ⟨S122880, .f32⟩
  | .hbm, ⟨69, _⟩ => ⟨S122880x1, .f32⟩
  | .hbm, ⟨70, _⟩ => ⟨S122880x256, .f32⟩
  | .hbm, ⟨71, _⟩ => ⟨S122880x256, .f32⟩
  | .hbm, ⟨72, _⟩ => ⟨S122880x1, .f32⟩
  | .hbm, ⟨73, _⟩ => ⟨S122880x256, .f32⟩
  | .hbm, ⟨74, _⟩ => ⟨S122880x256, .f32⟩
  | .hbm, ⟨75, _⟩ => ⟨S122880x256, .f32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S122880x256, .f32⟩
  | .hbm, ⟨80, _⟩ => ⟨S122880x256, .f32⟩
  | .hbm, ⟨81, _⟩ => ⟨S_, .f32⟩
  | .hbm, ⟨82, _⟩ => ⟨S122880x256, .f32⟩
  | .hbm, ⟨83, _⟩ => ⟨S122880x256, .f32⟩
  | .hbm, ⟨84, _⟩ => ⟨S122880x256, .i32⟩
  | .hbm, ⟨85, _⟩ => ⟨S122880x256, .i8⟩
  | .hbm, ⟨86, _⟩ => ⟨S480x2x128, .f32⟩
  | .hbm, ⟨87, _⟩ => ⟨S480x2x128, .f32⟩
  | .hbm, ⟨88, _⟩ => ⟨S480x2x128, .f32⟩
  | _, _ => ⟨S983040x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_c : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_call1_v0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_c_11 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩

abbrev nD : Nat := 1
abbrev τ : Topo := Topo.v7x

variable {F : FTy → Type} [FloatOps F]
-- ==== Bag.lean ====
abbrev S64x512x256 : Shape := ⟨3, ![64, 512, 256]⟩
abbrev S64x512 : Shape := ⟨2, ![64, 512]⟩
abbrev S32768x256 : Shape := ⟨2, ![32768, 256]⟩
abbrev S256x128 : Shape := ⟨2, ![256, 128]⟩
abbrev S32768x128 : Shape := ⟨2, ![32768, 128]⟩
abbrev S2048x256 : Shape := ⟨2, ![2048, 256]⟩
abbrev S16x128 : Shape := ⟨2, ![16, 128]⟩
abbrev S2048x128 : Shape := ⟨2, ![2048, 128]⟩
abbrev S1x128 : Shape := ⟨2, ![1, 128]⟩
abbrev S128x128 : Shape := ⟨2, ![128, 128]⟩
abbrev S128x256 : Shape := ⟨2, ![128, 256]⟩

abbrev nBuf : Space → Nat
  | .hbm => 5
  | .vmem => 6
  | .smem => 0
  | _ => 0

abbrev bufTy : (tb : Table) → Fin (tcTables nBuf tb) → BufTy
  | .hbm, ⟨0, _⟩ => ⟨S64x512x256, .fp8e4m3⟩
  | .hbm, ⟨1, _⟩ => ⟨S64x512, .f32⟩
  | .hbm, ⟨2, _⟩ => ⟨S32768x256, .fp8e4m3⟩
  | .hbm, ⟨3, _⟩ => ⟨S256x128, .f32⟩
  | .hbm, ⟨4, _⟩ => ⟨S32768x128, .i32⟩
  | .local _ .vmem, ⟨0, _⟩ => ⟨S2048x256, .fp8e4m3⟩
  | .local _ .vmem, ⟨1, _⟩ => ⟨S2048x256, .fp8e4m3⟩
  | .local _ .vmem, ⟨2, _⟩ => ⟨S16x128, .f32⟩
  | .local _ .vmem, ⟨3, _⟩ => ⟨S16x128, .f32⟩
  | .local _ .vmem, ⟨4, _⟩ => ⟨S2048x128, .i32⟩
  | .local _ .vmem, ⟨5, _⟩ => ⟨S2048x128, .i32⟩
  | _, _ => ⟨S64x512x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BagReference.lean ====
abbrev S64x512x256 : Shape := ⟨3, ![64, 512, 256]⟩
abbrev S64x512 : Shape := ⟨2, ![64, 512]⟩
abbrev S32768x256 : Shape := ⟨2, ![32768, 256]⟩
abbrev S32768 : Shape := ⟨1, ![32768]⟩
abbrev S32768x1 : Shape := ⟨2, ![32768, 1]⟩
abbrev S32768x128 : Shape := ⟨2, ![32768, 128]⟩

abbrev nBuf : Space → Nat
  | .hbm => 6
  | .vmem => 3
  | .smem => 0
  | _ => 0

abbrev bufTy : (tb : Table) → Fin (tcTables nBuf tb) → BufTy
  | .hbm, ⟨0, _⟩ => ⟨S64x512x256, .fp8e4m3⟩
  | .hbm, ⟨1, _⟩ => ⟨S64x512, .f32⟩
  | .hbm, ⟨2, _⟩ => ⟨S32768x256, .fp8e4m3⟩
  | .hbm, ⟨3, _⟩ => ⟨S32768, .f32⟩
  | .hbm, ⟨4, _⟩ => ⟨S32768x1, .f32⟩
  | .hbm, ⟨5, _⟩ => ⟨S32768x128, .i32⟩
  | .local _ .vmem, ⟨0, _⟩ => ⟨S32768x256, .fp8e4m3⟩
  | .local _ .vmem, ⟨1, _⟩ => ⟨S32768x1, .f32⟩
  | .local _ .vmem, ⟨2, _⟩ => ⟨S32768x128, .i32⟩
  | _, _ => ⟨S64x512x256, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S32768x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Offs.lean ====
/-
  The run offsets: what the precondition says of them.
-/
module

public import proofs.«01_k».proof.Pre_runs_ok
public import proofs.«01_k».proof.Proof.Gen.Pre_runs_ok
public import Idealize.ShloMosaic.Lib.Pointwise.Index

@[expose] public section

noncomputable section

namespace Cert.Proof

open Idealize.ShloMosaic Cert.Pre_runs_ok

variable {F : FTy → Type} [FloatOps F]

/-- The run offset `n`. -/
abbrev ofs (f : IVec S122881 32) (n : ℕ) (h : n < 122881) : BitVec 32 := f (ix1 (⟨n, h⟩ : Fin 122881))

/-- The run offsets go up, from 0 to the number of occurrences. -/
structure Sorted (f : IVec S122881 32) : Prop where
  step : ∀ (n : ℕ) (h : n + 1 < 122881), (ofs f n (by omega)).toNat ≤ (ofs f (n + 1) h).toNat
  zero : (ofs f 0 (by omega)).toNat = 0
  last : (ofs f 122880 (by omega)).toNat = 983040

theorem idx_ext {j : S122881.Idx} {n : ℕ} (h : n < 122881) (e : (j 0).val = n) : j = ix1 (⟨n, h⟩ : Fin 122881) := by
  funext a
  match a with
  | ⟨0, _⟩ => exact Fin.ext e

theorem idx1_zero (j : S1.Idx) : (j 0).val = 0 := by
  have := (j 0).isLt
  have e : S1.size 0 = 1 := rfl
  omega

theorem andi_one {p q : BitVec 1} (h : IntOp.andi p q = 1#1) : p = 1#1 ∧ q = 1#1 := by
  revert h; revert p q; decide

theorem sorted_of (a0 a1) (f : IVec S122881 32) (a3 a4 a5)
    (h : Cert.Pre_runs_ok.fn (F := F) a0 a1 f a3 a4 a5 = fun _ => 1#1) : Sorted f := by
  have key : ∀ (n : ℕ) (hn : n + 1 < 122881), IntOp.cmpi .sle (ofs f n (by omega)) (ofs f (n + 1) hn) = 1#1
      ∧ IntOp.cmpi .eq (ofs f 0 (by omega)) 0#32 = 1#1 ∧ IntOp.cmpi .eq (ofs f 122880 (by omega)) 983040#32 = 1#1 := by
    intro n hn
    have e := congrFun h (ix1 (⟨n, by omega⟩ : Fin 122880))
    dsimp only [Cert.Pre_runs_ok.fn, andi, cmpi, broadcastInDim, constantI, extractStridedSlice, shapeCast, Function.comp] at e
    obtain ⟨e, e3⟩ := andi_one e
    obtain ⟨e1, e2⟩ := andi_one e
    refine ⟨?_, ?_, ?_⟩
    · refine Eq.trans (congrArg₂ (IntOp.cmpi .sle) (congrArg f (idx_ext _ ?_)) (congrArg f (idx_ext _ ?_))).symm e1
      · show 0 + n = n
        omega
      · show 1 + n = n + 1
        omega
    · refine Eq.trans (congrArg (fun x => IntOp.cmpi .eq x 0#32) (congrArg f (idx_ext _ ?_))).symm e2
      exact congrArg (0 + ·) (idx1_zero _)
    · refine Eq.trans (congrArg (fun x => IntOp.cmpi .eq x 983040#32) (congrArg f (idx_ext _ ?_))).symm e3
      exact congrArg (122880 + ·) (idx1_zero _)
  have hz : (ofs f 0 (by omega)).toNat = 0 := by
    have := (IntOp.cmpi_eq).1 (key 0 (by omega)).2.1
    rw [this]; rfl
  have hl : (ofs f 122880 (by omega)).toNat = 983040 := by
    have := (IntOp.cmpi_eq).1 (key 0 (by omega)).2.2
    rw [this]; rfl
  -- every offset is at most the last, as a signed word, and at least the first
  have step (n : ℕ) (hn : n + 1 < 122881) : (ofs f n (by omega)).toInt ≤ (ofs f (n + 1) hn).toInt := (IntOp.cmpi_sle).1 (key n hn).1
  have up : ∀ (n : ℕ) (hn : n < 122881), 0 ≤ (ofs f n hn).toInt := by
    intro n
    induction n with
    | zero => intro hn; rw [BitVec.toInt_eq_toNat_of_lt (by rw [hz]; decide), hz]; decide
    | succ n ih => intro hn; exact (ih (by omega)).trans (step n hn)
  have nat_eq (n : ℕ) (hn : n < 122881) : (ofs f n hn).toInt = ((ofs f n hn).toNat : ℤ) := by
    have h0 := up n hn
    have := BitVec.toInt_eq_toNat_cond (ofs f n hn)
    have hlt := (ofs f n hn).isLt
    rw [this] at h0 ⊢
    split at h0
    · rw [if_pos (by assumption)]
    · omega
  refine ⟨fun n hn => ?_, hz, hl⟩
  have := step n hn
  rw [nat_eq, nat_eq] at this
  exact_mod_cast this

/-- Run offset `n` as a number; past the end, the number of occurrences. -/
def off (f : IVec S122881 32) (n : ℕ) : ℕ := if h : n < 122881 then (ofs f n h).toNat else 983040

theorem off_of {f : IVec S122881 32} {n : ℕ} (h : n < 122881) : off f n = (ofs f n h).toNat := dif_pos h

theorem Sorted.mono {f : IVec S122881 32} (hs : Sorted f) {a b : ℕ} (hab : a ≤ b) (hb : b < 122881) : off f a ≤ off f b := by
  induction b, hab using Nat.le_induction with
  | base => exact le_refl _
  | succ b hab ih =>
    refine (ih (by omega)).trans ?_
    rw [off_of (show b < 122881 by omega), off_of hb]
    exact hs.step b hb

theorem Sorted.off_zero {f : IVec S122881 32} (hs : Sorted f) : off f 0 = 0 := (off_of (by omega)).trans hs.zero
theorem Sorted.off_last {f : IVec S122881 32} (hs : Sorted f) : off f 122880 = 983040 := (off_of (by omega)).trans hs.last
theorem Sorted.off_le {f : IVec S122881 32} (hs : Sorted f) {a : ℕ} (ha : a < 122881) : off f a ≤ 983040 :=
  hs.off_last ▸ hs.mono (by omega) (by omega)

end Cert.Proof

end
-- ==== Proof.IWords.lean ====
/-
  The words the `rows` kernel computes, in closed form. A tile reads two run offsets `v4 ≤ v7` of the prefetched
  table; it visits the chunks `v4 / 256 … ⌈v7 / 256⌉` of the occurrence rows, and names ring slot and cell
  `chunk % 4` and the HBM rows from `256 · chunk`. Every chain of the printed program (floor division by sign
  tests, remainders, comparisons) is evaluated here once, under `v4 ≤ v7 ≤ 983040`.
-/
module

public import proofs.«01_k».proof.Proof.Gen.KernelIdeal.Launch
public import Idealize.ShloMosaic.Lib.Affine
public import Idealize.ShloMosaic.Lib.WordArith

@[expose] public section

noncomputable section

namespace Cert.Proof.I

open Cert.KernelIdeal Cert.KernelIdeal.Gen
open Idealize.ShloMosaic

/-- Floor division by 256 as the kernel prints it. -/
def fl (v4 : BitVec 32) : BitVec 32 :=
  Scalar.select (Scalar.andi (Scalar.cmpi .ne (Scalar.subi (Scalar.extui (Scalar.cmpi .sgt v4 0#32)) (Scalar.extui (Scalar.cmpi .slt v4 0#32)))
    (Scalar.subi (Scalar.extui (Scalar.cmpi .sgt 256#32 0#32)) (Scalar.extui (Scalar.cmpi .slt 256#32 0#32))))
    (Scalar.cmpi .ne (Scalar.remsi v4 256#32) 0#32)) (Scalar.subi (Scalar.divsi v4 256#32) 1#32) (Scalar.divsi v4 256#32)

theorem toNat_divsi (u : ArithUnit) {x : BitVec 32} (hx : 2 * x.toNat < 2 ^ 32) (k : Nat) (hk : 0 < k) (hk' : 2 * k < 2 ^ 32) :
    (IntOp.divsi u x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  rw [show IntOp.divsi u x (BitVec.ofNat 32 k) = x.sdiv (BitVec.ofNat 32 k) from
    if_neg (IntOp.not_corner_of_pos (by rw [BitVec.toInt_eq_toNat_of_lt (by omega)]; omega)), BitVec.sdiv_eq, hm, hkm]
  show (x / BitVec.ofNat 32 k).toNat = _
  rw [BitVec.toNat_udiv, hkN]

theorem toNat_lt {x : BitVec 32} {n : Nat} (h : x.toNat = n) : x = BitVec.ofNat 32 n := by
  rw [← h, BitVec.ofNat_toNat, BitVec.setWidth_eq]

theorem fl_eq (v : BitVec 32) (h : v.toNat < 2 ^ 24) : fl v = BitVec.ofNat 32 (v.toNat / 256) := by
  have hd : Scalar.divsi v 256#32 = BitVec.ofNat 32 (v.toNat / 256) :=
    toNat_lt (toNat_divsi .scalar (by omega) 256 (by omega) (by omega))
  by_cases hz : v = 0#32
  · subst hz; decide
  · have h0 : v.toNat ≠ 0 := fun e => hz (by rw [toNat_lt e])
    have hs : Scalar.cmpi .sgt v 0#32 = 1#1 := by
      rw [Scalar.cmpi, IntOp.cmpi_sgt, BitVec.toInt_eq_toNat_of_lt (x := v) (by omega),
        show (0#32 : BitVec 32).toInt = 0 from by decide]; omega
    have hl : Scalar.cmpi .slt v 0#32 = 0#1 := by
      refine (by revert h0; generalize Scalar.cmpi .slt v 0#32 = q; intro _; revert q; decide : ∀ _ : ¬ (Scalar.cmpi .slt v 0#32 = 1#1), Scalar.cmpi .slt v 0#32 = 0#1) ?_
      rw [Scalar.cmpi, IntOp.cmpi_slt, BitVec.toInt_eq_toNat_of_lt (x := v) (by omega)]
      rw [show (0#32 : BitVec 32).toInt = 0 from by decide]; omega
    unfold fl
    rw [hs, hl, hd]
    generalize Scalar.cmpi .ne (Scalar.remsi v 256#32) 0#32 = q
    rw [show Scalar.cmpi .ne (Scalar.subi (Scalar.extui 1#1) (Scalar.extui 0#1))
      (Scalar.subi (Scalar.extui (Scalar.cmpi .sgt 256#32 0#32)) (Scalar.extui (Scalar.cmpi .slt 256#32 0#32))) = 0#1 from by decide,
      show Scalar.andi 0#1 q = 0#1 from by revert q; decide]
    rfl

theorem divsi_one' (u : ArithUnit) (x : BitVec 32) : IntOp.divsi u x 1#32 = x := by
  rw [show IntOp.divsi u x 1#32 = x.sdiv 1#32 from if_neg (IntOp.not_corner_of_pos (by decide)), BitVec.sdiv_one]

/-- The first chunk of a tile, and the first past it. -/
def C0 (v4 : BitVec 32) : Nat := v4.toNat / 256
def C1 (v7 : BitVec 32) : Nat := (v7.toNat + 255) / 256

/-- What the precondition says of a tile's two offsets. -/
def Okay (v4 v7 : BitVec 32) : Prop := v4.toNat ≤ v7.toNat ∧ v7.toNat ≤ 983040

theorem fl7 {v7 : BitVec 32} (h : v7.toNat ≤ 983040) :
    fl (Scalar.subi (Scalar.addi v7 256#32) 1#32) = BitVec.ofNat 32 (C1 v7) := by
  have e : (Scalar.subi (Scalar.addi v7 256#32) 1#32).toNat = v7.toNat + 255 := by
    show (v7 + 256#32 - 1#32).toNat = _
    rw [BitVec.toNat_sub, BitVec.toNat_add]
    simp only [BitVec.toNat_ofNat]; omega
  rw [fl_eq _ (by rw [e]; omega), e]; rfl

/-- The number of chunks as a word. -/
theorem ub_eq {v4 v7 : BitVec 32} (h : Okay v4 v7) : (k0_t1_loop v4 v7).ub = BitVec.ofNat 32 (C1 v7 - C0 v4) := by
  obtain ⟨h1, h2⟩ := h
  show Scalar.addi 0#32 (Scalar.muli (Scalar.divsi (Scalar.subi (Scalar.divsi (Scalar.addi (Scalar.subi (fl (Scalar.subi (Scalar.addi v7 256#32) 1#32)) (fl v4)) (Scalar.subi 1#32 1#32)) 1#32) 0#32) 1#32) 1#32) = _
  rw [fl7 h2, fl_eq v4 (by omega)]
  simp only [Scalar.divsi, divsi_one']
  apply BitVec.eq_of_toNat_eq
  show (0#32 + (BitVec.ofNat 32 (C1 v7) - BitVec.ofNat 32 (v4.toNat / 256) + (1#32 - 1#32) - 0#32) * 1#32).toNat = _
  unfold C1 C0
  simp only [BitVec.toNat_add, BitVec.toNat_mul, BitVec.toNat_sub, BitVec.toNat_ofNat]
  omega

theorem trips_eq {v4 v7 : BitVec 32} (h : Okay v4 v7) : (k0_t1_loop v4 v7).trips = C1 v7 - C0 v4 := by
  have hb : C1 v7 - C0 v4 < 2 ^ 20 := by obtain ⟨h1, h2⟩ := h; unfold C1 C0; omega
  show Scf.trips (0#32) (k0_t1_loop v4 v7).ub 1#32 = _
  rw [ub_eq h]; unfold Scf.trips
  rw [BitVec.toInt_eq_toNat_of_lt (by rw [BitVec.toNat_ofNat]; omega), BitVec.toNat_ofNat,
    show (0#32 : BitVec 32).toInt = 0 from by decide, show (1#32 : BitVec 32).toInt = 1 from by decide]
  omega

theorem t1_ok {v4 v7 : BitVec 32} (h : Okay v4 v7) : (k0_t1_loop v4 v7).OK := by
  have ht := trips_eq h
  have hb : C1 v7 - C0 v4 < 2 ^ 20 := by obtain ⟨h1, h2⟩ := h; unfold C1 C0; omega
  refine ⟨show 0 < (1#32 : BitVec 32).toInt by decide, ?_⟩
  show (0#32 : BitVec 32).toInt + (k0_t1_loop v4 v7).trips * (1#32 : BitVec 32).toInt < 2 ^ 31
  rw [ht, show (0#32 : BitVec 32).toInt = 0 from by decide, show (1#32 : BitVec 32).toInt = 1 from by decide]
  omega

/-- The remainder loop of the printed pair makes no trip. -/
theorem trips2_eq {v4 v7 : BitVec 32} (h : Okay v4 v7) : (k0_t2_loop v4 v7).trips = 0 := by
  have hb : C1 v7 - C0 v4 < 2 ^ 20 := by obtain ⟨h1, h2⟩ := h; unfold C1 C0; omega
  have hlb : (k0_t2_loop v4 v7).lb = BitVec.ofNat 32 (C1 v7 - C0 v4) := ub_eq h
  have hub : (k0_t2_loop v4 v7).ub = BitVec.ofNat 32 (C1 v7 - C0 v4) := by
    obtain ⟨h1, h2⟩ := h
    show Scalar.addi 0#32 (Scalar.subi (Scalar.divsi (Scalar.addi (Scalar.subi (fl (Scalar.subi (Scalar.addi v7 256#32) 1#32)) (fl v4)) (Scalar.subi 1#32 1#32)) 1#32) 0#32) = _
    rw [fl7 h2, fl_eq v4 (by omega)]
    simp only [Scalar.divsi, divsi_one']
    apply BitVec.eq_of_toNat_eq
    show (0#32 + (BitVec.ofNat 32 (C1 v7) - BitVec.ofNat 32 (v4.toNat / 256) + (1#32 - 1#32) - 0#32)).toNat = _
    unfold C1 C0
    simp only [BitVec.toNat_add, BitVec.toNat_sub, BitVec.toNat_ofNat]
    omega
  show Scf.trips (k0_t2_loop v4 v7).lb (k0_t2_loop v4 v7).ub 1#32 = 0
  rw [hlb, hub]; unfold Scf.trips
  rw [show (1#32 : BitVec 32).toInt = 1 from by decide]
  omega

theorem t2_ok {v4 v7 : BitVec 32} (h : Okay v4 v7) : (k0_t2_loop v4 v7).OK := by
  have ht := trips2_eq h
  have hb : C1 v7 - C0 v4 < 2 ^ 20 := by obtain ⟨h1, h2⟩ := h; unfold C1 C0; omega
  have hlb : (k0_t2_loop v4 v7).lb = BitVec.ofNat 32 (C1 v7 - C0 v4) := ub_eq h
  refine ⟨show 0 < (1#32 : BitVec 32).toInt by decide, ?_⟩
  show (k0_t2_loop v4 v7).lb.toInt + (k0_t2_loop v4 v7).trips * (1#32 : BitVec 32).toInt < 2 ^ 31
  rw [ht, hlb, BitVec.toInt_eq_toNat_of_lt (by rw [BitVec.toNat_ofNat]; omega), BitVec.toNat_ofNat]
  omega

/-- Trip `k`'s chunk, the word the kernel computes. -/
theorem chunk_word {v4 v7 : BitVec 32} (h : Okay v4 v7) (k : Fin (k0_t1_loop v4 v7).trips) :
    Scalar.addi (fl v4) (Scalar.muli (Scf.iv 0#32 1#32 k) 1#32) = BitVec.ofNat 32 (C0 v4 + k) := by
  have hk := lt_of_lt_of_eq k.isLt (trips_eq h)
  obtain ⟨h1, h2⟩ := h
  rw [fl_eq v4 (by omega)]
  show BitVec.ofNat 32 (v4.toNat / 256) + (0#32 + BitVec.ofNat 32 k * 1#32) * 1#32 = _
  apply BitVec.eq_of_toNat_eq
  unfold C0 C1 at *
  simp only [BitVec.toNat_add, BitVec.toNat_mul, BitVec.toNat_ofNat]
  omega

theorem chunk_lt {v4 v7 : BitVec 32} (h : Okay v4 v7) (k : Fin (k0_t1_loop v4 v7).trips) : C0 v4 + k < 3840 := by
  have hk := lt_of_lt_of_eq k.isLt (trips_eq h)
  obtain ⟨h1, h2⟩ := h
  unfold C0 C1 at *; omega

theorem rem4 {n : Nat} (h : n < 2 ^ 20) : (Scalar.remsi (BitVec.ofNat 32 n) 4#32).toNat = n % 4 := by
  have := IntOp.toNat_remsi .scalar (x := BitVec.ofNat 32 n) (by rw [BitVec.toNat_ofNat]; omega) 4 (by omega) (by omega)
  rw [BitVec.toNat_ofNat] at this
  rw [show Scalar.remsi (BitVec.ofNat 32 n) 4#32 = IntOp.remsi .scalar (BitVec.ofNat 32 n) (BitVec.ofNat 32 4) from rfl, this]
  omega

theorem plus3 {n : Nat} (h : n < 2 ^ 20) : Scalar.subi (Scalar.addi (BitVec.ofNat 32 n) 4#32) 1#32 = BitVec.ofNat 32 (n + 3) := by
  apply BitVec.eq_of_toNat_eq
  show (BitVec.ofNat 32 n + 4#32 - 1#32).toNat = _
  simp only [BitVec.toNat_add, BitVec.toNat_sub, BitVec.toNat_ofNat]
  omega

theorem times256 {n : Nat} (h : n < 2 ^ 20) : (Scalar.muli (BitVec.ofNat 32 n) 256#32).toNat = 256 * n := by
  show (BitVec.ofNat 32 n * 256#32).toNat = _
  simp only [BitVec.toNat_mul, BitVec.toNat_ofNat]
  omega

section
variable {v4 v7 : BitVec 32} (h : Okay v4 v7) (k : Fin (k0_t1_loop v4 v7).trips)
include h

theorem off5_eq : k0_off5 v4 v7 k = ![(C0 v4 + k) % 4] := by
  show ![(Scalar.remsi (Scalar.addi (fl v4) (Scalar.muli (Scf.iv 0#32 1#32 k) 1#32)) 4#32).toNat] = _
  rw [chunk_word h k, rem4 (by have := chunk_lt h k; omega)]
theorem off6_eq : k0_off6 v4 v7 k = ![(C0 v4 + k) % 4, 0, 0] := by
  show ![(Scalar.remsi (Scalar.addi (fl v4) (Scalar.muli (Scf.iv 0#32 1#32 k) 1#32)) 4#32).toNat, 0, 0] = _
  rw [chunk_word h k, rem4 (by have := chunk_lt h k; omega)]
theorem off11_eq : k0_off11 v4 v7 k = ![(C0 v4 + k) % 4, 0, 0] := by
  show ![(Scalar.remsi (Scalar.addi (fl v4) (Scalar.muli (Scf.iv 0#32 1#32 k) 1#32)) 4#32).toNat, 0, 0] = _
  rw [chunk_word h k, rem4 (by have := chunk_lt h k; omega)]
theorem off7_eq : k0_off7 v4 v7 k = ![256 * (C0 v4 + k), 0] := by
  show ![(Scalar.muli (Scalar.addi (fl v4) (Scalar.muli (Scf.iv 0#32 1#32 k) 1#32)) 256#32).toNat, 0] = _
  rw [chunk_word h k, times256 (by have := chunk_lt h k; omega)]
theorem off8_eq : k0_off8 v4 v7 k = ![(C0 v4 + k + 3) % 4] := by
  show ![(Scalar.remsi (Scalar.subi (Scalar.addi (Scalar.addi (fl v4) (Scalar.muli (Scf.iv 0#32 1#32 k) 1#32)) 4#32) 1#32) 4#32).toNat] = _
  rw [chunk_word h k, plus3 (by have := chunk_lt h k; omega), rem4 (by have := chunk_lt h k; omega)]
theorem off9_eq : k0_off9 v4 v7 k = ![(C0 v4 + k + 3) % 4, 0, 0] := by
  show ![(Scalar.remsi (Scalar.subi (Scalar.addi (Scalar.addi (fl v4) (Scalar.muli (Scf.iv 0#32 1#32 k) 1#32)) 4#32) 1#32) 4#32).toNat, 0, 0] = _
  rw [chunk_word h k, plus3 (by have := chunk_lt h k; omega), rem4 (by have := chunk_lt h k; omega)]
theorem off10_eq : k0_off10 v4 v7 k = ![256 * (C0 v4 + k + 3), 0] := by
  show ![(Scalar.muli (Scalar.subi (Scalar.addi (Scalar.addi (fl v4) (Scalar.muli (Scf.iv 0#32 1#32 k) 1#32)) 4#32) 1#32) 256#32).toNat, 0] = _
  rw [chunk_word h k, plus3 (by have := chunk_lt h k; omega), times256 (by have := chunk_lt h k; omega)]
theorem mult4_eq : (k0_mult4 v4 v7 k).toNat = 256 * (C0 v4 + k) := congrFun (off7_eq h k) 0
theorem mult5_eq : (k0_mult5 v4 v7 k).toNat = 256 * (C0 v4 + k + 3) := congrFun (off10_eq h k) 0

/-- The kernel waits exactly when the chunk has not been waited for: chunks below `n` have. -/
theorem cond2_iff (n : Nat) (hn : n ≤ 3840) : k0_cond2 v4 v7 k (BitVec.ofNat 32 n) = 1#1 ↔ n ≤ C0 v4 + k := by
  show Scalar.cmpi .ne (Scalar.extui (Scalar.cmpi .sge (Scalar.addi (fl v4) (Scalar.muli (Scf.iv 0#32 1#32 k) 1#32)) (BitVec.ofNat 32 n))) 0#32 = 1#1 ↔ _
  have hc := chunk_lt h k
  rw [Scalar.guard_iff, chunk_word h k, Scalar.cmpi, IntOp.cmpi_sge, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- It issues the chunk three ahead exactly when there is one. -/
theorem cond3_iff : k0_cond3 v4 v7 k = 1#1 ↔ C0 v4 + k + 3 < 3840 := by
  show Scalar.cmpi .ne (Scalar.extui (Scalar.cmpi .slt (Scalar.subi (Scalar.addi (Scalar.addi (fl v4) (Scalar.muli (Scf.iv 0#32 1#32 k) 1#32)) 4#32) 1#32) 3840#32)) 0#32 = 1#1 ↔ _
  have hc := chunk_lt h k
  rw [Scalar.guard_iff, chunk_word h k, plus3 (by omega), Scalar.cmpi, IntOp.cmpi_slt, BitVec.toInt_eq_toNat_of_lt (by rw [BitVec.toNat_ofNat]; omega),
    BitVec.toNat_ofNat, show (3840#32 : BitVec 32).toInt = 3840 from by decide]
  omega

theorem chk2 (w : BitVec 32) : k0_chk2 v4 v7 k w := by
  have hc := chunk_lt h k
  refine ⟨fun _ => ?_, fun _ => ?_, fun _ => ?_, fun _ => ?_, fun _ h3 => ?_, fun _ h3 => ?_, fun _ h3 => ?_, fun _ h3 => ?_⟩
  · rw [mult4_eq h k]; exact Dvd.intro _ rfl
  · rw [off5_eq h k]; intro a; fin_cases a; show (C0 v4 + k) % 4 + 1 ≤ 4; omega
  · rw [off6_eq h k]; intro a; fin_cases a
    · show (C0 v4 + k) % 4 + 1 ≤ 4; omega
    · show 0 + 256 ≤ 256; omega
    · show 0 + 128 ≤ 128; omega
  · rw [off7_eq h k]; intro a; fin_cases a
    · show 256 * (C0 v4 + k) + 256 ≤ 983040; omega
    · show 0 + 128 ≤ 128; omega
  · rw [mult5_eq h k]; exact Dvd.intro _ rfl
  · rw [off8_eq h k]; intro a; fin_cases a; show (C0 v4 + k + 3) % 4 + 1 ≤ 4; omega
  · rw [off9_eq h k]; intro a; fin_cases a
    · show (C0 v4 + k + 3) % 4 + 1 ≤ 4; omega
    · show 0 + 256 ≤ 256; omega
    · show 0 + 128 ≤ 128; omega
  · rw [cond3_iff h k] at h3; rw [off10_eq h k]; intro a; fin_cases a
    · show 256 * (C0 v4 + k + 3) + 256 ≤ 983040; omega
    · show 0 + 128 ≤ 128; omega
end

theorem chk1 {v4 v7 : BitVec 32} (h : Okay v4 v7) : k0_chk1 v4 v7 := by
  refine ⟨t1_ok h, fun k => ?_, t2_ok h, fun k => ?_⟩
  · rw [off11_eq h k]; intro a; fin_cases a
    · show (C0 v4 + k) % 4 + 1 ≤ 4; omega
    · show 0 + 256 ≤ 256; omega
    · show 0 + 128 ≤ 128; omega
  · exact absurd (lt_of_lt_of_eq k.isLt (trips2_eq h)) (Nat.not_lt_zero _)

end Cert.Proof.I

end
-- ==== Proof.IRing.lean ====
/-
  The ring of the `rows` kernel: four VMEM slots, each with its DMA cell, that hold chunks of 256 occurrence rows on
  their way from HBM. A slot is free, in flight with a chunk, or holds a landed chunk; the whole ring's state is a
  function of one number `n`, how many chunks have been waited for (the kernel's SMEM counter).
-/
module

public import proofs.«01_k».proof.Proof.IWords
public import proofs.«01_k».proof.Proof.Gen.KernelIdeal.Skeleton
public import proofs.«01_k».proof.Proof.Gen.KernelIdeal.Loops
public import Idealize.ShloMosaic.Lib.Pipeline.KitQuiescent
public import Idealize.ShloMosaic.Lib.Ring
public import Idealize.ShloMosaic.Lib.Ring.Pair
public import Idealize.ShloMosaic.Lib.Transfers
public import Idealize.ShloMosaic.Lib.Tactic

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## Names: chunk `j` of the occurrence rows, slot `k`, slot `k`'s cell -/

abbrev xM : Memref sig .tc .hbm S983040x128 .i32 := Memref.whole main_arg0
abbrev tabM : Memref sig .tc .smem S481 .i32 := Memref.whole main_v0
abbrev ringM : Memref sig .tc .vmem S4x256x128 .i32 := Memref.whole cc0_scratch0
abbrev accM : Memref sig .tc .vmem S256x256 .f32 := Memref.whole cc0_scratch1
abbrev nxtM : Memref sig .tc .smem S1 .i32 := Memref.whole cc0_scratch3

abbrev slotOff (k : Fin 4) : Fin 3 → Nat := ![k.val, 0, 0]
theorem slotOff_inb (k : Fin 4) : ∀ a, slotOff k a + S1x256x128.size a ≤ S4x256x128.size a := by
  have := k.isLt; intro a; fin_cases a
  · show k.val + 1 ≤ 4; omega
  · show 0 + 256 ≤ 256; omega
  · show 0 + 128 ≤ 128; omega
abbrev semOff (k : Fin 4) : Fin 1 → Nat := ![k.val]
theorem semOff_inb (k : Fin 4) : ∀ a, semOff k a + S1.size a ≤ S4.size a := by
  have := k.isLt; intro a; fin_cases a; show k.val + 1 ≤ 4; omega
abbrev chunkOff (j : Fin 3840) : Fin 2 → Nat := ![256 * j.val, 0]
theorem chunkOff_inb (j : Fin 3840) : ∀ a, chunkOff j a + S256x128.size a ≤ S983040x128.size a := by
  have := j.isLt; intro a; fin_cases a
  · show 256 * j.val + 256 ≤ 983040; omega
  · show 0 + 128 ≤ 128; omega

/-- Slot `k` of the ring, its cell, chunk `j` of the rows, as the body slices and squeezes them. -/
def slotM (k : Fin 4) : Memref sig .tc .vmem S256x128 .i32 :=
  (ringM.slice (Rect.unit (s := S4x256x128) (slotOff k) S1x256x128.size (slotOff_inb k)) (fun _ => rfl)).squeeze S256x128 squeezes_S1x256x128_S256x128
def csm (k : Fin 4) : DmaSems sig S_ := (cc0_scratch2.slice (Rect.unit (s := S4) (semOff k) S1.size (semOff_inb k))).squeeze S_ squeezes_S1_S_
def chunkM (j : Fin 3840) : Memref sig .tc .hbm S256x128 .i32 :=
  xM.slice (Rect.unit (s := S983040x128) (chunkOff j) S256x128.size (chunkOff_inb j)) (fun _ => rfl)

instance (k : Fin 4) : ClosedOff (slotOff k) := ⟨slotOff k, rfl⟩
instance (j : Fin 3840) : ClosedOff (chunkOff j) := ⟨chunkOff j, rfl⟩

/-- The slot chunk `n` goes to. -/
abbrev sl (n : ℕ) : Fin 4 := ⟨n % 4, Nat.mod_lt _ (by decide)⟩

theorem csm_congr {off : Fin 1 → Nat} {k : Fin 4} (e : off = semOff k) (hh) :
    (cc0_scratch2.slice (Rect.unit (s := S4) off S1.size hh)).squeeze S_ squeezes_S1_S_ = csm k :=
  congrArg (fun A : DmaSems sig S1 => A.squeeze S_ squeezes_S1_S_) (SemArray.slice_unit_congr _ e _ _)
theorem slotM_congr {off : Fin 3 → Nat} {k : Fin 4} (e : off = slotOff k) (hh hs) :
    (ringM.slice (Rect.unit (s := S4x256x128) off S1x256x128.size hh) hs).squeeze S256x128 squeezes_S1x256x128_S256x128 = slotM k :=
  congrArg (fun M : Memref sig .tc .vmem S1x256x128 .i32 => M.squeeze S256x128 squeezes_S1x256x128_S256x128) (Memref.slice_unit_congr _ e _ _ _ _)
theorem chunkM_congr {off : Fin 2 → Nat} {j : Fin 3840} (e : off = chunkOff j) (hh hs) :
    xM.slice (Rect.unit (s := S983040x128) off S256x128.size hh) hs = chunkM j := by
  subst e; rfl

section Canon
variable {v4 v7 : BitVec 32}

/-- The prologue's slots, cells and chunks 0, 1, 2. -/
@[sl_canon] theorem semL0 (hh) : (cc0_scratch2.slice (Rect.unit (s := S4) (k0_off1 0#32) S1.size hh)).squeeze S_ squeezes_S1_S_ = csm 0 := csm_congr (by decide) _
@[sl_canon] theorem semL1 (hh) : (cc0_scratch2.slice (Rect.unit (s := S4) (k0_off1 1#32) S1.size hh)).squeeze S_ squeezes_S1_S_ = csm 1 := csm_congr (by decide) _
@[sl_canon] theorem semL2 (hh) : (cc0_scratch2.slice (Rect.unit (s := S4) (k0_off1 2#32) S1.size hh)).squeeze S_ squeezes_S1_S_ = csm 2 := csm_congr (by decide) _
@[sl_canon] theorem slotL0 (hh hs) : (ringM.slice (Rect.unit (s := S4x256x128) (k0_off2 0#32) S1x256x128.size hh) hs).squeeze S256x128 squeezes_S1x256x128_S256x128 = slotM 0 := slotM_congr (by decide) _ _
@[sl_canon] theorem slotL1 (hh hs) : (ringM.slice (Rect.unit (s := S4x256x128) (k0_off2 1#32) S1x256x128.size hh) hs).squeeze S256x128 squeezes_S1x256x128_S256x128 = slotM 1 := slotM_congr (by decide) _ _
@[sl_canon] theorem slotL2 (hh hs) : (ringM.slice (Rect.unit (s := S4x256x128) (k0_off2 2#32) S1x256x128.size hh) hs).squeeze S256x128 squeezes_S1x256x128_S256x128 = slotM 2 := slotM_congr (by decide) _ _
@[sl_canon] theorem chunkL0 (hh hs) : xM.slice (Rect.unit (s := S983040x128) ![0, 0] S256x128.size hh) hs = chunkM 0 := chunkM_congr (by decide) _ _
@[sl_canon] theorem chunkL1 (hh hs) : xM.slice (Rect.unit (s := S983040x128) ![256, 0] S256x128.size hh) hs = chunkM 1 := chunkM_congr (by decide) _ _
@[sl_canon] theorem chunkL2 (hh hs) : xM.slice (Rect.unit (s := S983040x128) ![512, 0] S256x128.size hh) hs = chunkM 2 := chunkM_congr (by decide) _ _

/-- Trip `k`: cell and slot `c % 4` and chunk `c` waited, `c + 3` issued. -/
@[sl_canon] theorem semW (h : Okay v4 v7) (k : Fin (k0_t1_loop v4 v7).trips) (hh) :
    (cc0_scratch2.slice (Rect.unit (s := S4) (k0_off5 v4 v7 k) S1.size hh)).squeeze S_ squeezes_S1_S_ = csm (sl (C0 v4 + k)) := csm_congr (off5_eq h k) _
@[sl_canon] theorem slotW (h : Okay v4 v7) (k : Fin (k0_t1_loop v4 v7).trips) (hh hs) :
    (ringM.slice (Rect.unit (s := S4x256x128) (k0_off6 v4 v7 k) S1x256x128.size hh) hs).squeeze S256x128 squeezes_S1x256x128_S256x128 = slotM (sl (C0 v4 + k)) := slotM_congr (off6_eq h k) _ _
@[sl_canon] theorem chunkW (h : Okay v4 v7) (k : Fin (k0_t1_loop v4 v7).trips) (hh hs) :
    xM.slice (Rect.unit (s := S983040x128) (k0_off7 v4 v7 k) S256x128.size hh) hs = chunkM ⟨C0 v4 + k, chunk_lt h k⟩ := chunkM_congr (off7_eq h k) _ _
@[sl_canon] theorem semI (h : Okay v4 v7) (k : Fin (k0_t1_loop v4 v7).trips) (hh) :
    (cc0_scratch2.slice (Rect.unit (s := S4) (k0_off8 v4 v7 k) S1.size hh)).squeeze S_ squeezes_S1_S_ = csm (sl (C0 v4 + k + 3)) := csm_congr (off8_eq h k) _
@[sl_canon] theorem slotI (h : Okay v4 v7) (k : Fin (k0_t1_loop v4 v7).trips) (hh hs) :
    (ringM.slice (Rect.unit (s := S4x256x128) (k0_off9 v4 v7 k) S1x256x128.size hh) hs).squeeze S256x128 squeezes_S1x256x128_S256x128 = slotM (sl (C0 v4 + k + 3)) := slotM_congr (off9_eq h k) _ _
@[sl_canon] theorem chunkI (h : Okay v4 v7) (k : Fin (k0_t1_loop v4 v7).trips) (h3 : C0 v4 + k + 3 < 3840) (hh hs) :
    xM.slice (Rect.unit (s := S983040x128) (k0_off10 v4 v7 k) S256x128.size hh) hs = chunkM ⟨C0 v4 + k + 3, h3⟩ := chunkM_congr (off10_eq h k) _ _
end Canon

/-! ## A slot's states -/

inductive Slot
  | free
  | fly (j : Fin 3840)
  | landed (j : Fin 3840)

section Pieces
variable (c : Dev nD) (fx : Buf (Elt F) (xM.view.loc (c : Thread nD τ)))

abbrev cellP (k : Fin 4) : sProp 𝕄 := semVal ((c : Thread nD τ), SemLoc.dma (csm k).sem) 0
abbrev slotP (k : Fin 4) (f : Buf (Elt F) ((slotM k).view.loc (c : Thread nD τ))) : sProp 𝕄 :=
  (slotM k).view.loc (c : Thread nD τ) ↦[(slotM k).view.set]{fullShare} f
/-- Slot `k`'s read share of the rows, on the elements `S`. -/
abbrev tokP (k : Fin 4) (S : Finset (Idx (xM.view.loc (c : Thread nD τ)))) : sProp 𝕄 :=
  xM.view.loc (c : Thread nD τ) ↦[S]{Transfers.shareTok fullShare 4 k} fx
/-- Chunk `j` as a slot's payload. -/
abbrev payload (j : Fin 3840) : S256x128.Idx → Elt F .i32 := ReadAs.same.apply ((chunkM j).view.read (Elt F) fx)
/-- What chunk `j`'s transfer leaves in slot `k` over `f`. -/
abbrev landedB (k : Fin 4) (j : Fin 3840) (f : Buf (Elt F) ((slotM k).view.loc (c : Thread nD τ))) : Buf (Elt F) ((slotM k).view.loc (c : Thread nD τ)) :=
  (slotM k).view.writes (Elt F) f [⟨Rect.whole S256x128, payload c fx j⟩]

abbrev freeP (k : Fin 4) : sProp 𝕄 := iprop(cellP c k ∗ (∃ f, slotP c k f) ∗ tokP c fx k Finset.univ)
abbrev landedP (k : Fin 4) (j : Fin 3840) : sProp 𝕄 := iprop(cellP c k ∗ (∃ f, slotP c k (landedB c fx k j f)) ∗ tokP c fx k Finset.univ)
abbrev flyP (k : Fin 4) (j : Fin 3840) : sProp 𝕄 :=
  iprop((∃ f, Transfers.Flight (countersEmb (U := UU nD τ)) (c : Thread nD τ) (SemLoc.dma (csm k).sem) () 4096
      iprop(slotP c k (landedB c fx k j f) ∗ tokP c fx k (chunkM j).view.set)) ∗ tokP c fx k (Finset.univ \ (chunkM j).view.set))

def Φs (k : Fin 4) : Slot → sProp 𝕄
  | .free => freeP c fx k
  | .fly j => flyP c fx k j
  | .landed j => landedP c fx k j

theorem landed_free (k : Fin 4) (j : Fin 3840) : Φs c fx k (.landed j) ⊢ Φs c fx k .free := by
  unfold Φs landedP freeP
  iintro ⟨Hc, ⟨%f, Hs⟩, Ht⟩
  isplitl [Hc]; · iexact Hc
  isplitl [Hs]; · iexists _; iexact Hs
  iexact Ht

end Pieces

/-- The ring after `n` waits: chunks `n`, `n + 1`, `n + 2` in flight, chunk `n - 1` landed. -/
def st (n : ℕ) (k : Fin 4) : Slot :=
  let j := n + (k.val + 4 - n % 4) % 4
  if j < n + 3 then (if h : j < 3840 then .fly ⟨j, h⟩ else .free)
  else if h : 1 ≤ n ∧ n ≤ 3840 then .landed ⟨n - 1, by omega⟩ else .free

theorem st_fly {n j : ℕ} (h1 : n ≤ j) (h2 : j < n + 3) (h3 : j < 3840) : st n (sl j) = .fly ⟨j, h3⟩ := by
  have e : n + ((sl j).val + 4 - n % 4) % 4 = j := by show n + (j % 4 + 4 - n % 4) % 4 = j; omega
  unfold st; dsimp only; simp only [e, if_pos h2, dif_pos h3]
theorem st_landed {n : ℕ} (h : n < 3840) : st (n + 1) (sl n) = .landed ⟨n, h⟩ := by
  have e : ¬ (n + 1 + ((sl n).val + 4 - (n + 1) % 4) % 4 < n + 1 + 3) := by show ¬ (n + 1 + (n % 4 + 4 - (n + 1) % 4) % 4 < _); omega
  unfold st; dsimp only; rw [if_neg e, dif_pos (by omega)]; rfl
theorem st_past {n j : ℕ} (h1 : n ≤ j) (h2 : j < n + 3) (h3 : ¬ j < 3840) : st n (sl j) = .free := by
  have e : n + ((sl j).val + 4 - n % 4) % 4 = j := by show n + (j % 4 + 4 - n % 4) % 4 = j; omega
  unfold st; dsimp only; simp only [e, if_pos h2, dif_neg h3]
theorem st_next {n : ℕ} (k : Fin 4) (h1 : k ≠ sl n) (h2 : k ≠ sl (n + 3)) : st n k = st (n + 1) k := by
  have h1' : k.val ≠ n % 4 := fun e => h1 (Fin.ext e)
  have h2' : k.val ≠ (n + 3) % 4 := fun e => h2 (Fin.ext e)
  have := k.isLt
  by_cases h : (k.val + 4 - n % 4) % 4 = 1
  · have a : k = sl (n + 1) := Fin.ext (by show k.val = (n + 1) % 4; omega)
    subst a
    by_cases hh : n + 1 < 3840
    · rw [st_fly (by omega) (by omega) hh, st_fly (by omega) (by omega) hh]
    · rw [st_past (by omega) (by omega) hh, st_past (by omega) (by omega) hh]
  · have a : k = sl (n + 2) := Fin.ext (by show k.val = (n + 2) % 4; omega)
    subst a
    by_cases hh : n + 2 < 3840
    · rw [st_fly (by omega) (by omega) hh, st_fly (by omega) (by omega) hh]
    · rw [st_past (by omega) (by omega) hh, st_past (by omega) (by omega) hh]

/-- The slot three ahead is free, or becomes so by forgetting the chunk landed in it. -/
theorem st_old_free (c : Dev nD) (fx : Buf (Elt F) (xM.view.loc (c : Thread nD τ))) (n : ℕ) :
    Φs c fx (sl (n + 3)) (st n (sl (n + 3))) ⊢ Φs c fx (sl (n + 3)) .free := by
  have e : ¬ (n + ((sl (n + 3)).val + 4 - n % 4) % 4 < n + 3) := by show ¬ (n + ((n + 3) % 4 + 4 - n % 4) % 4 < _); omega
  unfold st; dsimp only; rw [if_neg e]
  split
  · exact landed_free c fx _ _
  · exact .rfl

theorem AtW_mono (c : Dev nD) (fx : Buf (Elt F) (xM.view.loc (c : Thread nD τ))) {s s' : Fin 4 → Slot} (h : ∀ k, Φs c fx k (s k) ⊢ Φs c fx k (s' k)) :
    (Ring.AtW (σ := fun _ => Slot) (Φs c fx) s : sProp (MT nD τ sig Unit (Elt F) ℕ (UU nD τ) ℕ)) ⊢ Ring.AtW (σ := fun _ => Slot) (Φs c fx) s' := bigSep_mono fun k _ => h k

theorem sl_ne (n : ℕ) : sl (n + 3) ≠ sl n := by
  intro e; have := congrArg Fin.val e; revert this; show (n + 3) % 4 ≠ n % 4; omega

/-- After the wait for chunk `n`, nothing left to issue: the ring is at `n + 1`. -/
theorem ring_last (c : Dev nD) (fx : Buf (Elt F) (xM.view.loc (c : Thread nD τ))) {n : ℕ} (hc : n < 3840) (hl : ¬ n + 3 < 3840) :
    iprop(Φs c fx (sl n) (.landed ⟨n, hc⟩) ∗ Ring.restW (σ := fun _ => Slot) (Φs c fx) (st n) (sl n))
      ⊢ (Ring.AtW (σ := fun _ => Slot) (Φs c fx) (st (n + 1)) : sProp (MT nD τ sig Unit (Elt F) ℕ (UU nD τ) ℕ)) := by
  refine (Ring.AtW_update (σ := fun _ => Slot) (Φs c fx) (st n) (sl n) _).trans (AtW_mono c fx fun k => ?_)
  by_cases h1 : k = sl n
  · subst h1; rw [Function.update_self, st_landed hc]
  · rw [Function.update_of_ne h1]
    by_cases h2 : k = sl (n + 3)
    · subst h2; rw [st_past (n := n + 1) (by omega) (by omega) hl]; exact st_old_free c fx n
    · rw [st_next k h1 h2]

/-- … and with chunk `n + 3` issued. -/
theorem ring_issue (c : Dev nD) (fx : Buf (Elt F) (xM.view.loc (c : Thread nD τ))) {n : ℕ} (hc : n < 3840) (hl : n + 3 < 3840) :
    iprop(Φs c fx (sl n) (.landed ⟨n, hc⟩) ∗ Φs c fx (sl (n + 3)) (.fly ⟨n + 3, hl⟩) ∗ Ring.rest2 (Φs c fx) (st n) (sl n) (sl (n + 3)))
      ⊢ (Ring.AtW (σ := fun _ => Slot) (Φs c fx) (st (n + 1)) : sProp (MT nD τ sig Unit (Elt F) ℕ (UU nD τ) ℕ)) := by
  refine (Ring.AtW_update2 (Φs c fx) (st n) (sl_ne n) _ _).trans (AtW_mono c fx fun k => ?_)
  by_cases h2 : k = sl (n + 3)
  · subst h2; rw [Function.update_self, st_fly (n := n + 1) (by omega) (by omega) hl]
  · rw [Function.update_of_ne h2]
    by_cases h1 : k = sl n
    · subst h1; rw [Function.update_self, st_landed hc]
    · rw [Function.update_of_ne h1, st_next k h1 h2]

end Cert.Proof.I

end
-- ==== Proof.ITrip.lean ====
/-
  One trip of the chunk loop of the `rows` kernel, at a symbolic trip: wait for the chunk if nobody has, issue the
  chunk three ahead if there is one, then add the chunk's masked rows to the accumulator by a matrix product.
-/
module

public import proofs.«01_k».proof.Proof.IRing
public import Idealize.ShloMosaic.Lib.Pipeline.Value
public import Idealize.ShloMosaic.Lib.VecWindow

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

theorem casts_up : S256x128.ShapeCasts S1x256x128 := by decide

/-- The slot's box as the kernel loads it through the ring lies in the slot. -/
theorem box_sub {off : Fin 3 → Nat} {s : Fin 4} (e : off = slotOff s) (hh) :
    (ringM.access (Rect.unit (s := S4x256x128) off S1x256x128.size hh)).set ⊆ (slotM s).view.set := by
  subst e; exact Finset.subset_of_eq (View.set_reshape (v := (ringM.slice (Rect.unit (s := S4x256x128) (slotOff s) S1x256x128.size (slotOff_inb s)) (fun _ => rfl)).view) _).symm

section Trip
variable (c : Dev nD) (fx : Buf (Elt F) (xM.view.loc (c : Thread nD τ))) (i : grid0.Coords)
  (M3 : Memref sig .tc .vmem S256x256 .i8) (h3 : M3.IsWhole) (M4 : Memref sig .tc .vmem S1x2x128 .i32) (h4 : M4.IsWhole)
  (M5 : Memref sig .tc .vmem S1x2x128 .i32) (h5 : M5.IsWhole) (M6 : Memref sig .tc .vmem S1x2x128 .f32) (h6 : M6.IsWhole)
  (M7 : Memref sig .tc .vmem S1x2x128 .f32) (h7 : M7.IsWhole) (M8 : Memref sig .tc .vmem S1x2x128 .f32) (h8 : M8.IsWhole)
  (M9 : Memref sig .tc .vmem S256x256 .i8) (h9 : M9.IsWhole) (M10 : Memref sig .tc .vmem S1x2x128 .f32) (h10 : M10.IsWhole)
  (M11 : Memref sig .tc .vmem S1x2x128 .f32) (h11 : M11.IsWhole) (M12 : Memref sig .tc .vmem S1x2x128 .f32) (h12 : M12.IsWhole)
  (v4 v7 : BitVec 32) (hw : k0_chk1 v4 v7) (v64 v65 v70 : IVec S256x128 32) (v75 : BitVec 32)

abbrev accP (f : Buf (Elt F) (accM.view.loc (c : Thread nD τ))) : sProp 𝕄 := accM.view.loc (c : Thread nD τ) ↦{fullShare} f
abbrev nxtP (f : Buf (Elt F) (nxtM.view.loc (c : Thread nD τ))) : sProp 𝕄 := nxtM.view.loc (c : Thread nD τ) ↦{fullShare} f

/-- The counter's word, as the kernel's load of it reads. -/
abbrev nxtW (f : Buf (Elt F) (nxtM.view.loc (c : Thread nD τ))) : BitVec 32 :=
  nxtM.view.readAt (Elt F) (Rect.unit (s := S1) ![0] S1.size inb_S1_S1_0).toLoadRect f (Shape.Idx.first (by decide))
/-- The accumulator, as the kernel's load of it reads. -/
abbrev accR : Rect S256x256 := Rect.unit (s := S256x256) ![0, 0] S256x256.size inb_S256x256_S256x256_0_0
abbrev accV (f : Buf (Elt F) (accM.view.loc (c : Thread nD τ))) : Vec F S256x256 .f32 :=
  accM.view.readAt (Elt F) (accR).toLoadRect f

abbrev tripG (k : Fin (k0_t1_loop v4 v7).trips) : Prog (TpuEff nD τ sig (Elt F) Λ₀ .tc) Unit :=
  k0_t1_body (F := F) i tabM (Memref.isWhole_whole _) xM (Memref.isWhole_whole _) M3 h3 M4 h4 M5 h5 M6 h6 M7 h7 M8 h8 M9 h9 M10 h10 M11 h11 M12 h12
    ringM (Memref.isWhole_whole _) accM (Memref.isWhole_whole _) cc0_scratch2 nxtM (Memref.isWhole_whole _) v4 v7 hw (fl v4) v64 v65 v70 1#32 0#32 v75 k ()

/-- The chunk in the ring's spelling: what the kernel loads of its slot. -/
abbrev chunkV (j : Fin 3840) : Vec F S1x256x128 .i32 := shapeCast S1x256x128 (payload c fx j) casts_up

/-- What the kernel loads through the ring of a slot chunk `j` landed in. -/
theorem load_landed {off : Fin 3 → Nat} {s : Fin 4} (e : off = slotOff s) (hh) (j : Fin 3840) (f : Buf (Elt F) ((slotM s).view.loc (c : Thread nD τ))) :
    ringM.view.readAt (Elt F) (Rect.unit (s := S4x256x128) off S1x256x128.size hh).toLoadRect (landedB c fx s j f) = chunkV c fx j := by
  subst e
  have h1 : (slotM s).view.read (Elt F) (landedB c fx s j f) = payload c fx j := by
    funext y
    have := View.read_writes_cons_emb (v := (slotM s).view) (f := f) (Rect.whole S256x128) (payload c fx j) [] y
    rwa [Rect.emb_whole_apply] at this
  exact (shapeCast_shapeCast _ shapeCasts_S1x256x128_S256x128 casts_up).symm.trans (congrArg (shapeCast S1x256x128 · casts_up) h1)

/-- The accumulator after one trip. -/
abbrev accNext (k : Fin (k0_t1_loop v4 v7).trips) (j : Fin 3840) (a : Vec F S256x256 .f32) : Vec F S256x256 .f32 :=
  k0_pay12 (k0_pay5 (chunkV c fx j)) (k0_pay6 v4 v7 (fl v4) v64 v65 v70 1#32 0#32 1#32 k) a

theorem accV_writes (f : Buf (Elt F) (accM.view.loc (c : Thread nD τ))) (w : Vec F S256x256 .f32) :
    accV c (accM.view.writes (Elt F) f [⟨accR, w⟩]) = w := View.readAt_writes_full _ _ _ _ _ _

/-- The counter after a wait. -/
theorem nxt_bump (h : Okay v4 v7) (k : Fin (k0_t1_loop v4 v7).trips) (fn : Buf (Elt F) (nxtM.view.loc (c : Thread nD τ))) :
    nxtW c (nxtM.view.writes (Elt F) fn [⟨Rect.unit (s := S1) ![0] S1.size inb_S1_S1_0,
      fun _ => Scalar.addi (Scalar.addi (fl v4) (Scalar.muli (Scf.iv 0#32 1#32 k) 1#32)) 1#32⟩]) = BitVec.ofNat 32 (C0 v4 + k + 1) := by
  unfold nxtW
  rw [View.readAt_writes_full, chunk_word h k]
  show BitVec.ofNat 32 (C0 v4 + k) + 1#32 = _
  rw [show (1#32 : BitVec 32) = BitVec.ofNat 32 1 from rfl, ← BitVec.ofNat_add]

/-- A trip whose chunk has landed: no wait. -/
theorem trip_landed (h : Okay v4 v7) (k : Fin (k0_t1_loop v4 v7).trips)
    (fn : Buf (Elt F) (nxtM.view.loc (c : Thread nD τ))) (hn : nxtW c fn = BitVec.ofNat 32 (C0 v4 + k + 1))
    (fa : Buf (Elt F) (accM.view.loc (c : Thread nD τ))) (W : Waits sig Unit)  :
    iprop(nxtP c fn ∗ accP c fa ∗ owes (c : Thread nD τ) 0 W ∗ Ring.AtW (Φs c fx) (st (C0 v4 + k + 1)))
    ⊢ wp frame (wpE (defs₀ (F := F)) 𝒱₀ (c : Thread nD τ) none) Set.univ (tripG i M3 h3 M4 h4 M5 h5 M6 h6 M7 h7 M8 h8 M9 h9 M10 h10 M11 h11 M12 h12 v4 v7 hw v64 v65 v70 v75 k)
      (fun _ => iprop(nxtP c fn ∗ (∃ f, accP c f ∗ ⌜accV c f = accNext c fx v4 v7 v64 v65 v70 k ⟨C0 v4 + k, chunk_lt h k⟩ (accV c fa)⌝)
        ∗ (∃ W, owes (c : Thread nD τ) 0 W) ∗ Ring.AtW (Φs c fx) (st (C0 v4 + k + 1)))) := by
  have hc := chunk_lt h k
  have hchk : k0_chk2 v4 v7 k (nxtW c fn) := chk2 h k _
  have hno : ¬ (k0_cond2 v4 v7 k (nxtW c fn) = 1#1) := by
    rw [hn, cond2_iff h k _ (by omega)]; omega
  rw [Ring.AtW_focus (Φs c fx) (st (C0 v4 + k + 1)) (sl (C0 v4 + k)), st_landed hc]
  iintro ⟨Hn, Ha, HO, HS, Hrest⟩
  simp only [Φs]
  icases HS with ⟨Hcell, ⟨%f, Hslot⟩, Htok⟩
  have hbox := box_sub (s := sl (C0 v4 + k)) (off11_eq h k) (k0_off11_inb v4 v7 hw k)
  dsimp only [tripG]
  sl_unfold [k0_t1_body]
  rw [k0_part1_eq_skeleton]
  sl_unfold [k0_part1_skel]
  sl_exec
  sl_step
  isplitl [Hn]; · iexact Hn
  isplitl [Ha]
  · iexists _; isplitl [Ha]; · iexact Ha
    ipureintro
    rw [accV_writes]
    unfold trip_landed.sl.v290
    rw [load_landed c fx (off11_eq h k)]
  isplitl [HO]; · iexists _; iexact HO
  isplitr [Hrest]
  · isplitl [Hcell]; · iexact Hcell
    isplitl [Hslot]; · iexists _; iexact Hslot
    iexact Htok
  iexact Hrest

/-- A trip whose chunk is in flight, the last three chunks: wait, nothing to issue. -/
theorem trip_last (h : Okay v4 v7) (k : Fin (k0_t1_loop v4 v7).trips) (hl : ¬ C0 v4 + k + 3 < 3840)
    (fn : Buf (Elt F) (nxtM.view.loc (c : Thread nD τ))) (hn : nxtW c fn = BitVec.ofNat 32 (C0 v4 + k))
    (fa : Buf (Elt F) (accM.view.loc (c : Thread nD τ))) (W : Waits sig Unit)  :
    iprop(nxtP c fn ∗ accP c fa ∗ owes (c : Thread nD τ) 0 W ∗ Ring.AtW (Φs c fx) (st (C0 v4 + k)))
    ⊢ wp frame (wpE (defs₀ (F := F)) 𝒱₀ (c : Thread nD τ) none) Set.univ (tripG i M3 h3 M4 h4 M5 h5 M6 h6 M7 h7 M8 h8 M9 h9 M10 h10 M11 h11 M12 h12 v4 v7 hw v64 v65 v70 v75 k)
      (fun _ => iprop((∃ f, nxtP c f ∗ ⌜nxtW c f = BitVec.ofNat 32 (C0 v4 + k + 1)⌝)
        ∗ (∃ f, accP c f ∗ ⌜accV c f = accNext c fx v4 v7 v64 v65 v70 k ⟨C0 v4 + k, chunk_lt h k⟩ (accV c fa)⌝)
        ∗ (∃ W, owes (c : Thread nD τ) 0 W) ∗ Ring.AtW (Φs c fx) (st (C0 v4 + k + 1)))) := by
  have hc := chunk_lt h k
  have hchk : k0_chk2 v4 v7 k (nxtW c fn) := chk2 h k _
  have hyes : k0_cond2 v4 v7 k (nxtW c fn) = 1#1 := by
    rw [hn, cond2_iff h k _ (by omega)]
  have hno : ¬ (k0_cond3 v4 v7 k = 1#1) := by rw [cond3_iff h k]; exact hl
  have hij : sl (C0 v4 + k + 3) ≠ sl (C0 v4 + k) := by
    intro e; have := congrArg Fin.val e; revert this; show (C0 v4 + k + 3) % 4 ≠ (C0 v4 + k) % 4; omega
  rw [Ring.AtW_focus (σ := fun _ => Slot) (Φs c fx) (st (C0 v4 + k)) (sl (C0 v4 + k)), st_fly (le_refl _) (by omega) hc]
  iintro ⟨Hn, Ha, HO, HS, Hrest⟩
  simp only [Φs]
  icases HS with ⟨⟨%f, Hfl⟩, Htok⟩
  have hbox := box_sub (s := sl (C0 v4 + k)) (off11_eq h k) (k0_off11_inb v4 v7 hw k)
  dsimp only [tripG]
  sl_unfold [k0_t1_body]
  rw [k0_part1_eq_skeleton]
  sl_unfold [k0_part1_skel]
  sl_exec
  sl_step
  isplitl [Hn]
  · iexists _; isplitl [Hn]; · iexact Hn
    ipureintro
    exact nxt_bump c v4 v7 h k fn
  isplitl [Ha]
  · iexists _; isplitl [Ha]; · iexact Ha
    ipureintro
    rw [accV_writes]
    unfold trip_last.sl.v290
    rw [load_landed c fx (off11_eq h k)]
  isplitl [HO]; · iexists _; iexact HO
  iapply (ring_last c fx hc hl)
  isplitr [Hrest]
  · simp only [Φs]
    isplitl [Hfl]; · iexact Hfl
    isplitl [Hfl_dst]; · iexists _; iexact Hfl_dst
    iexact Htok
  iexact Hrest

/-- A trip whose chunk is in flight: wait for it, issue the chunk three ahead. -/
theorem trip_issue (h : Okay v4 v7) (k : Fin (k0_t1_loop v4 v7).trips) (hl : C0 v4 + k + 3 < 3840)
    (fn : Buf (Elt F) (nxtM.view.loc (c : Thread nD τ))) (hn : nxtW c fn = BitVec.ofNat 32 (C0 v4 + k))
    (fa : Buf (Elt F) (accM.view.loc (c : Thread nD τ))) (W : Waits sig Unit)  :
    iprop(nxtP c fn ∗ accP c fa ∗ owes (c : Thread nD τ) 0 W ∗ Ring.AtW (Φs c fx) (st (C0 v4 + k)))
    ⊢ wp frame (wpE (defs₀ (F := F)) 𝒱₀ (c : Thread nD τ) none) Set.univ (tripG i M3 h3 M4 h4 M5 h5 M6 h6 M7 h7 M8 h8 M9 h9 M10 h10 M11 h11 M12 h12 v4 v7 hw v64 v65 v70 v75 k)
      (fun _ => iprop((∃ f, nxtP c f ∗ ⌜nxtW c f = BitVec.ofNat 32 (C0 v4 + k + 1)⌝)
        ∗ (∃ f, accP c f ∗ ⌜accV c f = accNext c fx v4 v7 v64 v65 v70 k ⟨C0 v4 + k, chunk_lt h k⟩ (accV c fa)⌝)
        ∗ (∃ W, owes (c : Thread nD τ) 0 W) ∗ Ring.AtW (Φs c fx) (st (C0 v4 + k + 1)))) := by
  have hc := chunk_lt h k
  have hchk : k0_chk2 v4 v7 k (nxtW c fn) := chk2 h k _
  have hyes : k0_cond2 v4 v7 k (nxtW c fn) = 1#1 := by
    rw [hn, cond2_iff h k _ (by omega)]
  have hyes3 : k0_cond3 v4 v7 k = 1#1 := by rw [cond3_iff h k]; exact hl
  rw [Ring.AtW_focus2 (Φs c fx) (st (C0 v4 + k)) (sl_ne (C0 v4 + k)), st_fly (le_refl _) (by omega) hc]
  iintro ⟨Hn, Ha, HO, HS, HS3, Hrest⟩
  ihave HS3 := (st_old_free c fx (C0 v4 + k)) $$ HS3
  simp only [Φs]
  icases HS with ⟨⟨%f, Hfl⟩, Htok⟩
  icases HS3 with ⟨Hcell3, ⟨%f3, Hslot3⟩, Htok3⟩
  have hbox := box_sub (s := sl (C0 v4 + k)) (off11_eq h k) (k0_off11_inb v4 v7 hw k)
  dsimp only [tripG]
  sl_unfold [k0_t1_body]
  rw [k0_part1_eq_skeleton]
  sl_unfold [k0_part1_skel]
  sl_exec
  sl_step
  isplitl [Hn]
  · iexists _; isplitl [Hn]; · iexact Hn
    ipureintro
    exact nxt_bump c v4 v7 h k fn
  isplitl [Ha]
  · iexists _; isplitl [Ha]; · iexact Ha
    ipureintro
    rw [accV_writes]
    unfold trip_issue.sl.v290
    rw [load_landed c fx (off11_eq h k)]
  isplitl [HO]; · iexists _; iexact HO
  iapply (ring_issue c fx hc hl)
  isplitl [Hfl Hfl_dst Htok]
  · simp only [Φs]
    isplitl [Hfl]; · iexact Hfl
    isplitl [Hfl_dst]; · iexists _; iexact Hfl_dst
    iexact Htok
  isplitr [Hrest]
  · simp only [Φs]
    isplitl [Hcell3]; · iexists f3; iexact Hcell3
    iexact Htok3
  iexact Hrest
/-- The accumulator after the first `k` trips from `a`. -/
def fold (h : Okay v4 v7) (a : Vec F S256x256 .f32) : ℕ → Vec F S256x256 .f32
  | 0 => a
  | k + 1 => if hk : k < (k0_t1_loop v4 v7).trips then
      accNext c fx v4 v7 v64 v65 v70 ⟨k, hk⟩ ⟨C0 v4 + k, chunk_lt h ⟨k, hk⟩⟩ (fold h a k) else fold h a k

theorem fold_succ (h : Okay v4 v7) (a : Vec F S256x256 .f32) (k : Fin (k0_t1_loop v4 v7).trips) :
    fold c fx v4 v7 v64 v65 v70 h a (k + 1) = accNext c fx v4 v7 v64 v65 v70 k ⟨C0 v4 + k, chunk_lt h k⟩ (fold c fx v4 v7 v64 v65 v70 h a k) := by
  rw [fold, dif_pos k.isLt]

/-- Before trip `k`, the counter `N` on entry: the counter and the ring are at the larger of `N` and the next chunk,
    the accumulator holds the first `k` chunks' sums. -/
abbrev inv (h : Okay v4 v7) (N : ℕ) (a : Vec F S256x256 .f32) (k : ℕ) : sProp 𝕄 :=
  iprop(∃ (fn : Buf (Elt F) (nxtM.view.loc (c : Thread nD τ))) (fa : Buf (Elt F) (accM.view.loc (c : Thread nD τ))) (W : Waits sig Unit),
    nxtP c fn ∗ accP c fa ∗ owes (c : Thread nD τ) 0 W ∗ Ring.AtW (σ := fun _ => Slot) (Φs c fx) (st (max N (C0 v4 + k)))
      ∗ ⌜nxtW c fn = BitVec.ofNat 32 (max N (C0 v4 + k))⌝ ∗ ⌜accV c fa = fold c fx v4 v7 v64 v65 v70 h a k⌝)

theorem trip_any (h : Okay v4 v7) (N : ℕ) (hN : N = C0 v4 ∨ N = C0 v4 + 1) (a : Vec F S256x256 .f32) (k : Fin (k0_t1_loop v4 v7).trips) :
    inv c fx v4 v7 v64 v65 v70 h N a k
    ⊢ wp frame (wpE (defs₀ (F := F)) 𝒱₀ (c : Thread nD τ) none) Set.univ (tripG i M3 h3 M4 h4 M5 h5 M6 h6 M7 h7 M8 h8 M9 h9 M10 h10 M11 h11 M12 h12 v4 v7 hw v64 v65 v70 v75 k)
      (fun _ => inv c fx v4 v7 v64 v65 v70 h N a (k + 1)) := by
  unfold inv
  iintro ⟨%fn, %fa, %W, Hn, Ha, HO, HR, %hn, %ha⟩
  by_cases hk : N = C0 v4 + k + 1
  · rw [show max N (C0 v4 + ↑k) = C0 v4 + k + 1 by omega] at hn ⊢
    rw [show max N (C0 v4 + (↑k + 1)) = C0 v4 + k + 1 by omega]
    iapply (wp_wand_r frame (wpE (defs₀ (F := F)) 𝒱₀ (c : Thread nD τ) none) Set.univ)
    isplitl [Hn Ha HO HR]
    · iapply (trip_landed c fx i M3 h3 M4 h4 M5 h5 M6 h6 M7 h7 M8 h8 M9 h9 M10 h10 M11 h11 M12 h12 v4 v7 hw v64 v65 v70 v75 h k fn hn fa W)
      isplitl [Hn]; · iexact Hn
      isplitl [Ha]; · iexact Ha
      isplitl [HO]; · iexact HO
      iexact HR
    iintro %_ ⟨Hn, ⟨%fa', Ha, %ha'⟩, ⟨%W', HO⟩, HR⟩
    iexists fn; iexists fa'; iexists W'
    isplitl [Hn]; · iexact Hn
    isplitl [Ha]; · iexact Ha
    isplitl [HO]; · iexact HO
    isplitl [HR]; · iexact HR
    isplitr; · ipureintro; exact hn
    ipureintro; rw [ha', ha, fold_succ]
  · rw [show max N (C0 v4 + ↑k) = C0 v4 + k by omega] at hn ⊢
    rw [show max N (C0 v4 + (↑k + 1)) = C0 v4 + k + 1 by omega]
    iapply (wp_wand_r frame (wpE (defs₀ (F := F)) 𝒱₀ (c : Thread nD τ) none) Set.univ)
    isplitl [Hn Ha HO HR]
    · by_cases hl : C0 v4 + k + 3 < 3840
      · iapply (trip_issue c fx i M3 h3 M4 h4 M5 h5 M6 h6 M7 h7 M8 h8 M9 h9 M10 h10 M11 h11 M12 h12 v4 v7 hw v64 v65 v70 v75 h k hl fn hn fa W)
        isplitl [Hn]; · iexact Hn
        isplitl [Ha]; · iexact Ha
        isplitl [HO]; · iexact HO
        iexact HR
      · iapply (trip_last c fx i M3 h3 M4 h4 M5 h5 M6 h6 M7 h7 M8 h8 M9 h9 M10 h10 M11 h11 M12 h12 v4 v7 hw v64 v65 v70 v75 h k hl fn hn fa W)
        isplitl [Hn]; · iexact Hn
        isplitl [Ha]; · iexact Ha
        isplitl [HO]; · iexact HO
        iexact HR
    iintro %_ ⟨⟨%fn', Hn, %hn'⟩, ⟨%fa', Ha, %ha'⟩, ⟨%W', HO⟩, HR⟩
    iexists fn'; iexists fa'; iexists W'
    isplitl [Hn]; · iexact Hn
    isplitl [Ha]; · iexact Ha
    isplitl [HO]; · iexact HO
    isplitl [HR]; · iexact HR
    isplitr; · ipureintro; exact hn'
    ipureintro; rw [ha', ha, fold_succ]

theorem accV_eq (f : Buf (Elt F) (accM.view.loc (c : Thread nD τ))) : accV c f = f := View.readAt_full _ _ _

end Trip

end Cert.Proof.I

end
-- ==== Proof.IOut.lean ====
/-
  What one grid point of the `rows` kernel stores: the four output blocks as functions of the accumulator and of the
  blocks of the weights and of the three per-row scalars. Each output is stored in two halves.
-/
module

public import proofs.«01_k».proof.Proof.ITrip

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- Two windows that together cover the shape hide what was there before. -/
theorem put_cover {α : Type} {s : Shape} (x x' : s.Idx → α) (o0 z0 o1 z1 : Fin s.rank → ℕ) (w0 : ((a : Fin s.rank) → Fin (z0 a)) → α) (w1 : ((a : Fin s.rank) → Fin (z1 a)) → α)
    (h : ∀ y : s.Idx, (∀ a, o0 a ≤ (y a).val ∧ (y a).val < o0 a + z0 a) ∨ (∀ a, o1 a ≤ (y a).val ∧ (y a).val < o1 a + z1 a)) :
    VecWindow.put (VecWindow.put x o0 z0 w0) o1 z1 w1 = VecWindow.put (VecWindow.put x' o0 z0 w0) o1 z1 w1 := by
  funext y
  unfold VecWindow.put
  by_cases h1 : ∀ a, o1 a ≤ (y a).val ∧ (y a).val < o1 a + z1 a
  · rw [dif_pos h1, dif_pos h1]
  · rw [dif_neg h1, dif_neg h1]
    have h0 := (h y).resolve_right h1
    rw [dif_pos h0, dif_pos h0]

/-- The two halves of a block of codes, and of a block of per-row values. -/
def halves2 (w0 w1 : Vec F S128x256 .i8) : Vec F S256x256 .i8 :=
  VecWindow.put (s := S256x256) (VecWindow.put (s := S256x256) (fun _ => (0#8 : BitVec 8)) ![0, 0] S128x256.size w0) ![128, 0] S128x256.size w1
def halves3 (w0 w1 : Vec F S1x1x128 .f32) : Vec F S1x2x128 .f32 :=
  VecWindow.put (s := S1x2x128) (VecWindow.put (s := S1x2x128) (fun _ => w0 (Shape.Idx.first (show 0 < S1x1x128.numel by decide))) ![0, 0, 0] S1x1x128.size w0) ![0, 1, 0] S1x1x128.size w1

theorem cover2 (y : S256x256.Idx) : (∀ a, (![0, 0] : Fin 2 → ℕ) a ≤ (y a).val ∧ (y a).val < (![0, 0] : Fin 2 → ℕ) a + S128x256.size a)
    ∨ (∀ a, (![128, 0] : Fin 2 → ℕ) a ≤ (y a).val ∧ (y a).val < (![128, 0] : Fin 2 → ℕ) a + S128x256.size a) := by
  have e0 : (y 0).val < 256 := (y 0).isLt
  have e1 : (y 1).val < 256 := (y 1).isLt
  by_cases h : (y 0).val < 128
  · left
    refine Fin.forall_fin_two.2 ⟨⟨Nat.zero_le _, ?_⟩, ⟨Nat.zero_le _, ?_⟩⟩
    · show (y 0).val < 0 + 128; omega
    · show (y 1).val < 0 + 256; omega
  · right
    refine Fin.forall_fin_two.2 ⟨⟨?_, ?_⟩, ⟨Nat.zero_le _, ?_⟩⟩
    · show 128 ≤ (y 0).val; omega
    · show (y 0).val < 128 + 128; omega
    · show (y 1).val < 0 + 256; omega

theorem cover3 (y : S1x2x128.Idx) : (∀ a, (![0, 0, 0] : Fin 3 → ℕ) a ≤ (y a).val ∧ (y a).val < (![0, 0, 0] : Fin 3 → ℕ) a + S1x1x128.size a)
    ∨ (∀ a, (![0, 1, 0] : Fin 3 → ℕ) a ≤ (y a).val ∧ (y a).val < (![0, 1, 0] : Fin 3 → ℕ) a + S1x1x128.size a) := by
  have e0 : (y 0).val < 1 := (y 0).isLt
  have e1 : (y 1).val < 2 := (y 1).isLt
  have e2 : (y 2).val < 128 := (y 2).isLt
  by_cases h : (y 1).val < 1
  · left
    refine Fin.forall_fin_succ.2 ⟨⟨Nat.zero_le _, ?_⟩, Fin.forall_fin_two.2 ⟨⟨Nat.zero_le _, ?_⟩, ⟨Nat.zero_le _, ?_⟩⟩⟩
    · show (y 0).val < 0 + 1; omega
    · show (y 1).val < 0 + 1; omega
    · show (y 2).val < 0 + 128; omega
  · right
    refine Fin.forall_fin_succ.2 ⟨⟨Nat.zero_le _, ?_⟩, Fin.forall_fin_two.2 ⟨⟨?_, ?_⟩, ⟨Nat.zero_le _, ?_⟩⟩⟩
    · show (y 0).val < 0 + 1; omega
    · show 1 ≤ (y 1).val; omega
    · show (y 1).val < 1 + 1; omega
    · show (y 2).val < 0 + 128; omega

theorem read_halves2 {sp : Space} (M : Memref sig .tc sp S256x256 .i8) (g : M.view.ty.Contents (Elt F)) (i0 i1) (w0 w1 : Vec F S128x256 .i8) :
    M.view.read (Elt F) (M.view.writes (Elt F) g [⟨Rect.unit ![128, 0] S128x256.size i1, w1⟩, ⟨Rect.unit ![0, 0] S128x256.size i0, w0⟩]) = halves2 w0 w1 := by
  rw [View.read_writes_cons_put _ _ _ _ _ rfl, View.read_writes_cons_put _ _ _ _ _ rfl]
  exact put_cover _ _ _ _ _ _ _ _ cover2

theorem read_halves3 {sp : Space} (M : Memref sig .tc sp S1x2x128 .f32) (g : M.view.ty.Contents (Elt F)) (i0 i1) (w0 w1 : Vec F S1x1x128 .f32) :
    M.view.read (Elt F) (M.view.writes (Elt F) g [⟨Rect.unit ![0, 1, 0] S1x1x128.size i1, w1⟩, ⟨Rect.unit ![0, 0, 0] S1x1x128.size i0, w0⟩]) = halves3 w0 w1 := by
  rw [View.read_writes_cons_put _ _ _ _ _ rfl, View.read_writes_cons_put _ _ _ _ _ rfl]
  exact put_cover _ _ _ _ _ _ _ _ cover3

/-! The upper and the lower half of a block. -/

abbrev topA {e : EltTy} (X : Vec F S256x256 e) : Vec F S128x256 e := VecWindow.window (s := S256x256) X ![0, 0] S128x256.size (by decide)
abbrev botA {e : EltTy} (X : Vec F S256x256 e) : Vec F S128x256 e := VecWindow.window (s := S256x256) X ![128, 0] S128x256.size (by decide)
abbrev topS {e : EltTy} (X : Vec F S1x2x128 e) : Vec F S1x1x128 e := VecWindow.window (s := S1x2x128) X ![0, 0, 0] S1x1x128.size (by decide)
abbrev botS {e : EltTy} (X : Vec F S1x2x128 e) : Vec F S1x1x128 e := VecWindow.window (s := S1x2x128) X ![0, 1, 0] S1x1x128.size (by decide)

section Out
variable (A : Vec F S256x256 .f32) (X3 : Vec F S256x256 .i8) (X6 X7 X8 : Vec F S1x2x128 .f32)

/-- The upper half: the new momenta, the smallest new weight, the scale, the codes. -/
def mom0 : FVec F S128x128 .f32 := k0_pay21 (topA A) (topS X8)
def min0 : FVec F S128x128 .f32 := k0_pay25 (k0_pay14 (topA A)) (k0_pay15 (topA A)) (k0_pay19 (topS X6) (topS X7) (topA X3)) (k0_pay20 (topS X6) (topS X7) (topA X3)) (mom0 A X8)
def scl0 : FVec F S128x128 .f32 := k0_pay26 (k0_pay14 (topA A)) (k0_pay15 (topA A)) (k0_pay19 (topS X6) (topS X7) (topA X3)) (k0_pay20 (topS X6) (topS X7) (topA X3)) (mom0 A X8)
def cod0 : IVec S128x256 8 := k0_pay27 (k0_pay14 (topA A)) (k0_pay15 (topA A)) (k0_pay19 (topS X6) (topS X7) (topA X3)) (k0_pay20 (topS X6) (topS X7) (topA X3)) (mom0 A X8)
/-- The lower half. -/
def mom1 : FVec F S128x128 .f32 := k0_pay37 (k0_pay31 (botA A)) (k0_pay32 (botA A)) (k0_pay35 (botS X8))
def hi1 : FVec F S128x128 .f32 := k0_pay40 (k0_pay31 (botA A)) (k0_pay32 (botA A)) (k0_pay33 (botS X6)) (k0_pay34 (botS X7)) (k0_pay35 (botS X8)) (botA X3)
def min1 : FVec F S128x128 .f32 := k0_pay41 (k0_pay31 (botA A)) (k0_pay32 (botA A)) (k0_pay33 (botS X6)) (k0_pay34 (botS X7)) (k0_pay35 (botS X8)) (botA X3)
def scl1 : FVec F S128x128 .f32 := k0_pay42 (k0_pay31 (botA A)) (k0_pay32 (botA A)) (k0_pay33 (botS X6)) (k0_pay34 (botS X7)) (k0_pay35 (botS X8)) (botA X3)
def q1 : FVec F S128x128 .f32 := k0_pay43 (k0_pay31 (botA A)) (k0_pay32 (botA A)) (k0_pay33 (botS X6)) (k0_pay34 (botS X7)) (k0_pay35 (botS X8)) (botA X3)
def cod1 : IVec S128x256 8 := k0_pay1 (hi1 A X3 X6 X7 X8) (min1 A X3 X6 X7 X8) (scl1 A X3 X6 X7 X8) (q1 A X3 X6 X7 X8) 0#32

/-- The four blocks stored. -/
def out9 : Vec F S256x256 .i8 := halves2 (cod0 A X3 X6 X7 X8) (cod1 A X3 X6 X7 X8)
def out10 : Vec F S1x2x128 .f32 := halves3 (k0_pay28 (scl0 A X3 X6 X7 X8)) (k0_pay2 (scl1 A X3 X6 X7 X8))
def out11 : Vec F S1x2x128 .f32 := halves3 (k0_pay29 (min0 A X3 X6 X7 X8)) (k0_pay3 (min1 A X3 X6 X7 X8))
def out12 : Vec F S1x2x128 .f32 := halves3 (k0_pay30 (mom0 A X8)) (k0_pay4 (mom1 A X8))
end Out

/-- The bounds of the runs of a block's rows, the row numbers of a chunk, and the sums of the block's rows. -/
def startW (X4 : Vec F S1x2x128 .i32) : IVec S256x128 32 := k0_pay9 (F := F) (topS X4) (botS X4)
def endW (X5 : Vec F S1x2x128 .i32) : IVec S256x128 32 := k0_pay10 (F := F) (topS X5) (botS X5)
def iotaW : IVec S256x128 32 := iota .tc S256x128 32 [1] iota_S256x128_d1_w32

def tileAcc (c : Dev nD) (fx : Buf (Elt F) (xM.view.loc (c : Thread nD τ))) (v4 v7 : BitVec 32) (X4 X5 : Vec F S1x2x128 .i32) (h : Okay v4 v7) : Vec F S256x256 .f32 :=
  fold c fx v4 v7 (startW X4) (endW X5) iotaW h (k0_pay11 (F := F)) (k0_t1_loop v4 v7).trips

end Cert.Proof.I

end
-- ==== Proof.IBody.lean ====
/-
  The body of the `rows` kernel at one grid point: the prologue (first point only), the two words of the offset
  table, the chunk loop by its invariant, then the update and the quantisation of the 256 rows in two halves.
-/
module

public import proofs.«01_k».proof.Proof.IOut

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (fx : Buf (Elt F) (xM.view.loc (c : Thread nD τ))) (ftab : Buf (Elt F) (tabM.view.loc (c : Thread nD τ))) (i : grid0.Coords)
  (M3 : Memref sig .tc .vmem S256x256 .i8) (h3 : M3.IsWhole) (M4 : Memref sig .tc .vmem S1x2x128 .i32) (h4 : M4.IsWhole)
  (M5 : Memref sig .tc .vmem S1x2x128 .i32) (h5 : M5.IsWhole) (M6 : Memref sig .tc .vmem S1x2x128 .f32) (h6 : M6.IsWhole)
  (M7 : Memref sig .tc .vmem S1x2x128 .f32) (h7 : M7.IsWhole) (M8 : Memref sig .tc .vmem S1x2x128 .f32) (h8 : M8.IsWhole)
  (M9 : Memref sig .tc .vmem S256x256 .i8) (h9 : M9.IsWhole) (M10 : Memref sig .tc .vmem S1x2x128 .f32) (h10 : M10.IsWhole)
  (M11 : Memref sig .tc .vmem S1x2x128 .f32) (h11 : M11.IsWhole) (M12 : Memref sig .tc .vmem S1x2x128 .f32) (h12 : M12.IsWhole)
  (g3 : Buf (Elt F) (M3.view.loc (c : Thread nD τ))) (g4 : Buf (Elt F) (M4.view.loc (c : Thread nD τ))) (g5 : Buf (Elt F) (M5.view.loc (c : Thread nD τ)))
  (g6 : Buf (Elt F) (M6.view.loc (c : Thread nD τ))) (g7 : Buf (Elt F) (M7.view.loc (c : Thread nD τ))) (g8 : Buf (Elt F) (M8.view.loc (c : Thread nD τ)))
  (g9 : Buf (Elt F) (M9.view.loc (c : Thread nD τ))) (g10 : Buf (Elt F) (M10.view.loc (c : Thread nD τ))) (g11 : Buf (Elt F) (M11.view.loc (c : Thread nD τ)))
  (g12 : Buf (Elt F) (M12.view.loc (c : Thread nD τ)))

/-- The table's word at this grid point, and the next. -/
abbrev w4 : BitVec 32 := tabM.view.readAt (Elt F) (Rect.unit (s := S481) (k0_off3 i) S1.size (k0_off3_inb i)).toLoadRect ftab (Shape.Idx.first (show 0 < S1.numel by decide))
abbrev w7 : BitVec 32 := tabM.view.readAt (Elt F) (Rect.unit (s := S481) (k0_off4 i) S1.size (k0_off4_inb i)).toLoadRect ftab (Shape.Idx.first (show 0 < S1.numel by decide))

abbrev bodyG : Prog (TpuEff nD τ sig (Elt F) Λ₀ .tc) Unit :=
  cc0_rows (F := F) i tabM (Memref.isWhole_whole _) xM (Memref.isWhole_whole _) M3 h3 M4 h4 M5 h5 M6 h6 M7 h7 M8 h8 M9 h9 M10 h10 M11 h11 M12 h12
    ringM (Memref.isWhole_whole _) accM (Memref.isWhole_whole _) cc0_scratch2 nxtM (Memref.isWhole_whole _)

/-- A whole staging buffer held at `g`. -/
abbrev holdP {sp : Space} {s : Shape} {e : EltTy} (c : Dev nD) (M : Memref sig .tc sp s e) (g : Buf (Elt F) (M.view.loc (c : Thread nD τ))) : sProp 𝕄 :=
  M.view.loc (c : Thread nD τ) ↦[M.view.set]{fullShare} g
abbrev tabP (q : PosShare TreeShare) : sProp 𝕄 := tabM.view.loc (c : Thread nD τ) ↦{q} ftab

abbrev insP (q : PosShare TreeShare) : sProp 𝕄 := iprop(tabP c ftab q ∗ holdP c M3 g3 ∗ holdP c M4 g4 ∗ holdP c M5 g5 ∗ holdP c M6 g6 ∗ holdP c M7 g7 ∗ holdP c M8 g8)

/-- The block's sums at this grid point. -/
abbrev accT (h : Okay (w4 c ftab i) (w7 c ftab i)) : Vec F S256x256 .f32 :=
  tileAcc c fx (w4 c ftab i) (w7 c ftab i) (M4.view.read (Elt F) g4) (M5.view.read (Elt F) g5) h

abbrev outsP (A : Vec F S256x256 .f32) (X3 : Vec F S256x256 .i8) (X6 X7 X8 : Vec F S1x2x128 .f32) : sProp 𝕄 :=
  iprop(owns (c : Thread nD τ) M9 fullShare (out9 A X3 X6 X7 X8) ∗ owns (c : Thread nD τ) M10 fullShare (out10 A X3 X6 X7 X8)
    ∗ owns (c : Thread nD τ) M11 fullShare (out11 A X3 X6 X7 X8) ∗ owns (c : Thread nD τ) M12 fullShare (out12 A X8))

/-- The kernel's own state with `N` chunks fetched: the counter, the accumulator, the ring. -/
abbrev finP (N : ℕ) : sProp 𝕄 :=
  iprop((∃ fn : Buf (Elt F) (nxtM.view.loc (c : Thread nD τ)), nxtP c fn ∗ ⌜nxtW c fn = BitVec.ofNat 32 N⌝)
    ∗ (∃ fa : Buf (Elt F) (accM.view.loc (c : Thread nD τ)), accP c fa)
    ∗ Ring.AtW (σ := fun _ => Slot) (Φs c fx) (st N) ∗ (∃ W : Waits sig Unit, owes (c : Thread nD τ) 0 W))

theorem next_count {v4 v7 : BitVec 32} (h : Okay v4 v7) : max (C1 v4) (C0 v4 + (k0_t1_loop v4 v7).trips) = C1 v7 := by
  rw [trips_eq h]
  have h1 : v4.toNat ≤ v7.toNat := h.1
  have e4 : C1 v4 = (v4.toNat + 255) / 256 := rfl
  have e0 : C0 v4 = v4.toNat / 256 := rfl
  have e7 : C1 v7 = (v7.toNat + 255) / 256 := rfl
  omega

theorem count_cases (v4 : BitVec 32) : C1 v4 = C0 v4 ∨ C1 v4 = C0 v4 + 1 := by
  have e4 : C1 v4 = (v4.toNat + 255) / 256 := rfl
  have e0 : C0 v4 = v4.toNat / 256 := rfl
  omega

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The ring, slot by slot. -/
theorem ring4 (s : Fin 4 → Slot) :
    (Ring.AtW (σ := fun _ => Slot) (Φs c fx) s : sProp 𝕄) ⊣⊢ iprop(Φs c fx 0 (s 0) ∗ Φs c fx 1 (s 1) ∗ Φs c fx 2 (s 2) ∗ Φs c fx 3 (s 3)) := by
  unfold Ring.AtW
  rw [bigSep_fin4]

theorem body_later (q : PosShare TreeShare) (hi : ¬ k0_cond1 i = 1#1) (h : Okay (w4 c ftab i) (w7 c ftab i)) :
    iprop(insP c ftab M3 M4 M5 M6 M7 M8 g3 g4 g5 g6 g7 g8 q
      ∗ (holdP c M9 g9 ∗ holdP c M10 g10 ∗ holdP c M11 g11 ∗ holdP c M12 g12)
      ∗ finP c fx (C1 (w4 c ftab i)))
    ⊢ wp frame (wpE (defs₀ (F := F)) 𝒱₀ (c : Thread nD τ) none) Set.univ (bodyG i M3 h3 M4 h4 M5 h5 M6 h6 M7 h7 M8 h8 M9 h9 M10 h10 M11 h11 M12 h12)
      (fun _ => iprop(insP c ftab M3 M4 M5 M6 M7 M8 g3 g4 g5 g6 g7 g8 q
        ∗ outsP c M9 M10 M11 M12 (accT c fx ftab i M4 M5 g4 g5 h) (M3.view.read (Elt F) g3) (M6.view.read (Elt F) g6) (M7.view.read (Elt F) g7) (M8.view.read (Elt F) g8)
        ∗ finP c fx (C1 (w7 c ftab i)))) := by
  have hchk : k0_chk1 (w4 c ftab i) (w7 c ftab i) := chk1 h
  have hN := count_cases (w4 c ftab i)
  iintro ⟨⟨Htab, H3, H4, H5, H6, H7, H8⟩, ⟨H9, H10, H11, H12⟩, ⟨⟨%fn, Hn, %hn⟩, ⟨%fa, Ha⟩, HR, ⟨%W, HO⟩⟩⟩
  dsimp only [bodyG]
  sl_exec
  have htr : (k0_t2_loop (body_later.sl.r c ftab i) (body_later.sl.r_1 c ftab i)).trips = 0 := trips2_eq h
  iapply (Scf.wp_for_bind frame (wpE (defs₀ (F := F)) 𝒱₀ (c : Thread nD τ) none) Set.univ _ _ _ _ _ _
    (fun k _ => inv c fx (w4 c ftab i) (w7 c ftab i) (body_later.sl.r_2 c M4 g4) (body_later.sl.r_3 c M5 g5) body_later.sl.v70 h (C1 (w4 c ftab i)) (k0_pay11 (F := F)) k)
    (fun k _ => trip_any c fx i M3 h3 M4 h4 M5 h5 M6 h6 M7 h7 M8 h8 M9 h9 M10 h10 M11 h11 M12 h12 _ _ hchk _ _ _ _ h _ hN _ k)) $$ [Hn Ha HO HR]
  · iexists fn; iexists _; iexists W
    isplitl [Hn]; · iexact Hn
    isplitl [Ha]; · iexact Ha
    isplitl [HO]; · iexact HO
    isplitl [HR]
    · rw [show max (C1 (w4 c ftab i)) (C0 (w4 c ftab i) + 0) = C1 (w4 c ftab i) by omega]; iexact HR
    isplitr
    · ipureintro; rw [hn]; congr 1; omega
    · ipureintro; unfold body_later.sl.Ha_1; exact accV_writes _ _ _
  iintro %_ ⟨%fn', %fa', %W', Hn, Ha, HO, HR, %hn', %ha'⟩
  rw [accV_eq] at ha'
  replace ha' : fa' = accT c fx ftab i M4 M5 g4 g5 h := ha'

  sl_exec
  rw [show max (C1 (w4 c ftab i)) (C0 (w4 c ftab i) + Scf.trips _ _ _) = C1 (w7 c ftab i) from next_count h] at hn' ⊢
  sl_step
  rw [← ha']
  isplitl [Htab H3 H4 H5 H6 H7 H8]
  · isplitl [Htab]; · iexact Htab
    isplitl [H3]; · iexact H3
    isplitl [H4]; · iexact H4
    isplitl [H5]; · iexact H5
    isplitl [H6]; · iexact H6
    isplitl [H7]; · iexact H7
    iexact H8
  isplitl [H9 H10 H11 H12]
  · isplitl [H9]
    · unfold owns; iexists _; isplitr; swap; · iexact H9
      ipureintro; refine (read_halves2 M9 _ _ _ _ _).trans ?_; refine congrArg₂ halves2 ?_ ?_; · rfl
      · rfl
    isplitl [H10]
    · unfold owns; iexists _; isplitr; swap; · iexact H10
      ipureintro; refine (read_halves3 M10 _ _ _ _ _).trans ?_; refine congrArg₂ halves3 ?_ ?_; · rfl
      · rfl
    isplitl [H11]
    · unfold owns; iexists _; isplitr; swap; · iexact H11
      ipureintro; refine (read_halves3 M11 _ _ _ _ _).trans ?_; refine congrArg₂ halves3 ?_ ?_; · rfl
      · rfl
    · unfold owns; iexists _; isplitr; swap; · iexact H12
      ipureintro; refine (read_halves3 M12 _ _ _ _ _).trans ?_; refine congrArg₂ halves3 ?_ ?_; · rfl
      · rfl
  isplitl [Hn]
  · iexists fn'; isplitl [Hn]; · iexact Hn
    ipureintro; exact hn'
  isplitl [Ha]; · iexists _; iexact Ha
  isplitl [HR]; · iexact HR
  iexists W'; iexact HO
theorem body_first (q : PosShare TreeShare) (hi : k0_cond1 i = 1#1) (hz : (w4 c ftab i).toNat = 0) (h : Okay (w4 c ftab i) (w7 c ftab i)) :
    iprop(insP c ftab M3 M4 M5 M6 M7 M8 g3 g4 g5 g6 g7 g8 q
      ∗ (holdP c M9 g9 ∗ holdP c M10 g10 ∗ holdP c M11 g11 ∗ holdP c M12 g12)
      ∗ ((∃ fn : Buf (Elt F) (nxtM.view.loc (c : Thread nD τ)), nxtP c fn)
        ∗ (∃ fa : Buf (Elt F) (accM.view.loc (c : Thread nD τ)), accP c fa)
        ∗ Ring.AtW (σ := fun _ => Slot) (Φs c fx) (fun _ => .free) ∗ (∃ W : Waits sig Unit, owes (c : Thread nD τ) 0 W)))
    ⊢ wp frame (wpE (defs₀ (F := F)) 𝒱₀ (c : Thread nD τ) none) Set.univ (bodyG i M3 h3 M4 h4 M5 h5 M6 h6 M7 h7 M8 h8 M9 h9 M10 h10 M11 h11 M12 h12)
      (fun _ => iprop(insP c ftab M3 M4 M5 M6 M7 M8 g3 g4 g5 g6 g7 g8 q
        ∗ outsP c M9 M10 M11 M12 (accT c fx ftab i M4 M5 g4 g5 h) (M3.view.read (Elt F) g3) (M6.view.read (Elt F) g6) (M7.view.read (Elt F) g7) (M8.view.read (Elt F) g8)
        ∗ finP c fx (C1 (w7 c ftab i)))) := by
  have hchk : k0_chk1 (w4 c ftab i) (w7 c ftab i) := chk1 h
  have hN := count_cases (w4 c ftab i)
  iintro ⟨⟨Htab, H3, H4, H5, H6, H7, H8⟩, ⟨H9, H10, H11, H12⟩, ⟨⟨%fn, Hn⟩, ⟨%fa, Ha⟩, HR, ⟨%W, HO⟩⟩⟩
  have hC : C1 (w4 c ftab i) = 0 := by
    have e4 : C1 (w4 c ftab i) = ((w4 c ftab i).toNat + 255) / 256 := rfl
    omega
  ihave HR := (ring4 c fx (fun _ => .free)).1 $$ HR
  simp only [Φs]
  icases HR with ⟨⟨Hc0, ⟨%f0, Hs0⟩, Ht0⟩, ⟨Hc1, ⟨%f1, Hs1⟩, Ht1⟩, ⟨Hc2, ⟨%f2, Hs2⟩, Ht2⟩, HF⟩
  dsimp only [bodyG]
  sl_exec
  have htr : (k0_t2_loop (body_first.sl.r_1 c ftab i) (body_first.sl.r_2 c ftab i)).trips = 0 := trips2_eq h
  iapply (Scf.wp_for_bind frame (wpE (defs₀ (F := F)) 𝒱₀ (c : Thread nD τ) none) Set.univ _ _ _ _ _ _
    (fun k _ => inv c fx (w4 c ftab i) (w7 c ftab i) (body_first.sl.r_3 c M4 g4) (body_first.sl.r_4 c M5 g5) body_first.sl.v70 h (C1 (w4 c ftab i)) (k0_pay11 (F := F)) k)
    (fun k _ => trip_any c fx i M3 h3 M4 h4 M5 h5 M6 h6 M7 h7 M8 h8 M9 h9 M10 h10 M11 h11 M12 h12 _ _ hchk _ _ _ _ h _ hN _ k)) $$ [Hn Ha HO Hc0 Ht0 Hc1 Ht1 Hc2 Ht2 HF]
  · iexists _; iexists _; iexists W
    isplitl [Hn]; · iexact Hn
    isplitl [Ha]; · iexact Ha
    isplitl [HO]; · iexact HO
    isplitl [Hc0 Ht0 Hc1 Ht1 Hc2 Ht2 HF]
    · rw [show max (C1 (w4 c ftab i)) (C0 (w4 c ftab i) + 0) = 0 by omega]
      iapply (ring4 c fx (st 0)).2
      isplitl [Hc0 Ht0]
      · iapply (show flyP c fx 0 0 ⊢ Φs c fx 0 (st 0 0) from .rfl)
        isplitl [Hc0]; · iexists f0; iexact Hc0
        iexact Ht0
      isplitl [Hc1 Ht1]
      · iapply (show flyP c fx 1 1 ⊢ Φs c fx 1 (st 0 1) from .rfl)
        isplitl [Hc1]; · iexists f1; iexact Hc1
        iexact Ht1
      isplitl [Hc2 Ht2]
      · iapply (show flyP c fx 2 2 ⊢ Φs c fx 2 (st 0 2) from .rfl)
        isplitl [Hc2]; · iexists f2; iexact Hc2
        iexact Ht2
      iapply (show freeP c fx 3 ⊢ Φs c fx 3 (st 0 3) from .rfl)
      iexact HF
    isplitr
    · ipureintro
      rw [show max (C1 (w4 c ftab i)) (C0 (w4 c ftab i) + 0) = 0 by omega]
      unfold nxtW body_first.sl.Hn_1
      rw [View.readAt_writes_full]
    · ipureintro; unfold body_first.sl.Ha_1; exact accV_writes _ _ _
  iintro %_ ⟨%fn', %fa', %W', Hn, Ha, HO, HR, %hn', %ha'⟩
  rw [accV_eq] at ha'
  replace ha' : fa' = accT c fx ftab i M4 M5 g4 g5 h := ha'

  sl_exec
  rw [show max (C1 (w4 c ftab i)) (C0 (w4 c ftab i) + Scf.trips _ _ _) = C1 (w7 c ftab i) from next_count h] at hn' ⊢
  sl_step
  rw [← ha']
  isplitl [Htab H3 H4 H5 H6 H7 H8]
  · isplitl [Htab]; · iexact Htab
    isplitl [H3]; · iexact H3
    isplitl [H4]; · iexact H4
    isplitl [H5]; · iexact H5
    isplitl [H6]; · iexact H6
    isplitl [H7]; · iexact H7
    iexact H8
  isplitl [H9 H10 H11 H12]
  · isplitl [H9]
    · unfold owns; iexists _; isplitr; swap; · iexact H9
      ipureintro; refine (read_halves2 M9 _ _ _ _ _).trans ?_; refine congrArg₂ halves2 ?_ ?_; · rfl
      · rfl
    isplitl [H10]
    · unfold owns; iexists _; isplitr; swap; · iexact H10
      ipureintro; refine (read_halves3 M10 _ _ _ _ _).trans ?_; refine congrArg₂ halves3 ?_ ?_; · rfl
      · rfl
    isplitl [H11]
    · unfold owns; iexists _; isplitr; swap; · iexact H11
      ipureintro; refine (read_halves3 M11 _ _ _ _ _).trans ?_; refine congrArg₂ halves3 ?_ ?_; · rfl
      · rfl
    · unfold owns; iexists _; isplitr; swap; · iexact H12
      ipureintro; refine (read_halves3 M12 _ _ _ _ _).trans ?_; refine congrArg₂ halves3 ?_ ?_; · rfl
      · rfl
  isplitl [Hn]
  · iexists fn'; isplitl [Hn]; · iexact Hn
    ipureintro; exact hn'
  isplitl [Ha]; · iexists _; iexact Ha
  isplitl [HR]; · iexact HR
  iexists W'; iexact HO

end Body
end Cert.Proof.I

end
-- ==== Proof.IState.lean ====
/-
  The ring at the ends of the region: its buffer cut into four slots and joined back, the occurrence rows dealt into four
  read shares and joined back, and the ring's four idle slots made of these and of the four cells at zero.
-/
module

public import proofs.«01_k».proof.Proof.IBody

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

section State
variable (c : Dev nD) (fx : Buf (Elt F) (xM.view.loc (c : Thread nD τ)))

/-- The elements of slot `k`. -/
abbrev S4x (k : Fin 4) : Finset (Idx ((c : Thread nD τ).loc cc0_scratch0)) := (Rect.unit (s := S4x256x128) (slotOff k) S1x256x128.size (slotOff_inb k)).set

theorem S4x_disjoint : ∀ k k' : Fin 4, k ≠ k' → Disjoint (S4x c k) (S4x c k') :=
  Ring.lead_disjoint (s := S4x256x128) (NB := 4) 0 1 slotOff S1x256x128.size slotOff_inb (fun b => by show b.val = 1 * b.val; omega) rfl
theorem S4x_cover : (Finset.univ : Finset (Fin 4)).biUnion (S4x c) = Finset.univ :=
  Ring.lead_cover (s := S4x256x128) (NB := 4) 0 1 slotOff S1x256x128.size slotOff_inb (fun b => by show b.val = 1 * b.val; omega)
    (fun b a h => by fin_cases a <;> first | exact absurd rfl h | rfl) rfl (fun a h => by fin_cases a <;> first | exact absurd rfl h | rfl) rfl

theorem slotM_set (k : Fin 4) : (slotM k).view.set = S4x c k := (View.set_reshape _ _).trans (View.set_slice_whole _ _)

omit [FloatOps F] in
theorem slotP_eq (k : Fin 4) (f) : slotP c k f = (((c : Thread nD τ).loc cc0_scratch0) ↦[S4x c k]{fullShare} f : sProp 𝕄) :=
  congrArg (fun S => (_ ↦[S]{fullShare} f : sProp 𝕄)) (slotM_set c k)

abbrev slotsP : sProp 𝕄 := iprop((∃ f, slotP c 0 f) ∗ (∃ f, slotP c 1 f) ∗ (∃ f, slotP c 2 f) ∗ (∃ f, slotP c 3 f))

omit [FloatOps F] in
/-- The buffer whole is its four slots, and back. -/
theorem buf_split :
    iprop(∃ f : Buf (Elt F) ((c : Thread nD τ).loc cc0_scratch0), ((c : Thread nD τ).loc cc0_scratch0) ↦{fullShare} f)
      ⊢ (slotsP (F := F) c : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) (S4x c) (S4x_disjoint c) (S4x_cover c) f).trans (bigSep_fin4 _))) $$ H
  icases H2 with ⟨H0, H1, H2, H3⟩
  isplitl [H0]
  · iexists f; iapply (Entails.of_eq (slotP_eq c 0 f).symm); iexact H0
  isplitl [H1]
  · iexists f; iapply (Entails.of_eq (slotP_eq c 1 f).symm); iexact H1
  isplitl [H2]
  · iexists f; iapply (Entails.of_eq (slotP_eq c 2 f).symm); iexact H2
  · iexists f; iapply (Entails.of_eq (slotP_eq c 3 f).symm); iexact H3
omit [FloatOps F] in
theorem buf_join :
    (slotsP (F := F) c : sProp 𝕄)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) (S4x c) (S4x_disjoint c) (S4x_cover c) f0)
  irw [bigSep_fin4]
  isplitl [H0]
  · iexists f0; iapply (Entails.of_eq (slotP_eq c 0 f0)); iexact H0
  isplitl [H1]
  · iexists f1; iapply (Entails.of_eq (slotP_eq c 1 f1)); iexact H1
  isplitl [H2]
  · iexists f2; iapply (Entails.of_eq (slotP_eq c 2 f2)); iexact H2
  · iexists f3; iapply (Entails.of_eq (slotP_eq c 3 f3)); iexact H3

/-- The occurrence rows held whole, and what of them no slot holds. -/
abbrev xP (q : PosShare TreeShare) : sProp 𝕄 := xM.view.loc (c : Thread nD τ) ↦{q} fx
abbrev xRest : sProp 𝕄 := xP c fx (Transfers.shareDrop fullShare 4)
abbrev cells4 : sProp 𝕄 := iprop(cellP c 0 ∗ cellP c 1 ∗ cellP c 2 ∗ cellP c 3)

theorem ring_make : iprop(xP c fx fullShare ∗ cells4 (F := F) c ∗ slotsP (F := F) c)
    ⊢ iprop(xRest c fx ∗ Ring.AtW (σ := fun _ => Slot) (Φs c fx) (fun _ => .free)) := by
  iintro ⟨Hx, ⟨C0, C1, C2, C3⟩, ⟨B0, B1, B2, B3⟩⟩
  ihave Hx := (Transfers.pointsTo_toks_split (S := Finset.univ) fullShare 4) $$ Hx
  icases Hx with ⟨Hr, Ht⟩
  ihave Ht := (Entails.of_eq (bigSep_fin4 _)) $$ Ht
  icases Ht with ⟨T0, T1, T2, T3⟩
  isplitl [Hr]; · iexact Hr
  iapply (ring4 c fx (fun _ => .free)).2
  simp only [Φs]
  isplitl [C0 B0 T0]
  · isplitl [C0]; · iexact C0
    isplitl [B0]; · iexact B0
    iexact T0
  isplitl [C1 B1 T1]
  · isplitl [C1]; · iexact C1
    isplitl [B1]; · iexact B1
    iexact T1
  isplitl [C2 B2 T2]
  · isplitl [C2]; · iexact C2
    isplitl [B2]; · iexact B2
    iexact T2
  · isplitl [C3]; · iexact C3
    isplitl [B3]; · iexact B3
    iexact T3

theorem ring_unmake : iprop(xRest c fx ∗ Ring.AtW (σ := fun _ => Slot) (Φs c fx) (fun _ => .free))
    ⊢ iprop(xP c fx fullShare ∗ cells4 (F := F) c ∗ slotsP (F := F) c) := by
  iintro ⟨Hr, HR⟩
  ihave HR := (ring4 c fx (fun _ => .free)).1 $$ HR
  simp only [Φs]
  icases HR with ⟨⟨C0, B0, T0⟩, ⟨C1, B1, T1⟩, ⟨C2, B2, T2⟩, ⟨C3, B3, T3⟩⟩
  isplitl [Hr T0 T1 T2 T3]
  · iapply (Transfers.pointsTo_toks_join (S := Finset.univ) fullShare 4)
    isplitl [Hr]; · iexact Hr
    irw [bigSep_fin4]
    isplitl [T0]; · iexact T0
    isplitl [T1]; · iexact T1
    isplitl [T2]; · iexact T2
    iexact T3
  isplitl [C0 C1 C2 C3]
  · isplitl [C0]; · iexact C0
    isplitl [C1]; · iexact C1
    isplitl [C2]; · iexact C2
    iexact C3
  isplitl [B0]; · iexact B0
  isplitl [B1]; · iexact B1
  isplitl [B2]; · iexact B2
  iexact B3

/-- After all the chunks nothing is in flight. -/
theorem ring_end : (Ring.AtW (σ := fun _ => Slot) (Φs c fx) (st 3840) : sProp 𝕄) ⊢ Ring.AtW (σ := fun _ => Slot) (Φs c fx) (fun _ => .free) :=
  AtW_mono c fx fun k => by
    have hk := k.isLt
    have hj : ¬ 3840 + (k.val + 4 - 3840 % 4) % 4 < 3840 := by omega
    unfold st
    dsimp only
    rw [dif_neg hj]
    split
    · exact .rfl
    · split
      · exact landed_free c fx k _
      · exact .rfl

/-- The kernel's own state before point 0 (`n = 0`) and before a later one, `N` chunks fetched. -/
def stP (n N : ℕ) : sProp 𝕄 :=
  if n = 0 then iprop((∃ fn : Buf (Elt F) (nxtM.view.loc (c : Thread nD τ)), nxtP c fn)
    ∗ (∃ fa : Buf (Elt F) (accM.view.loc (c : Thread nD τ)), accP c fa)
    ∗ Ring.AtW (σ := fun _ => Slot) (Φs c fx) (fun _ => .free))
  else iprop((∃ fn : Buf (Elt F) (nxtM.view.loc (c : Thread nD τ)), nxtP c fn ∗ ⌜nxtW c fn = BitVec.ofNat 32 N⌝)
    ∗ (∃ fa : Buf (Elt F) (accM.view.loc (c : Thread nD τ)), accP c fa)
    ∗ Ring.AtW (σ := fun _ => Slot) (Φs c fx) (st N))

end State
end Cert.Proof.I

end
-- ==== Proof.IData.lean ====
/-
  The pipeline's proof data of the `rows` kernel: what each window's array holds when the region is entered, what each
  staging block holds after every grid point, and the kernel's own state between the points; and the body's obligation.
-/
module

public import proofs.«01_k».proof.Proof.IState
public import proofs.«01_k».proof.Proof.Gen.KernelIdeal.Launch
public import Idealize.ShloMosaic.Lib.Pipeline.Regions

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-- Core `c`'s buffers at launch, and when the region is entered: the eight host operations have run. -/
abbrev V₀ (c : Dev nD) : Valuation τ sig (Elt F) := fun b => (s₀ m ρ).mem ((c : Dev nD), b)
abbrev V (c : Dev nD) (b : Ref sig .tc) : Buf (Elt F) ((c : Thread nD τ).loc b) := StableHlo.after hostOps0 (V₀ m ρ c) b

/-- The table of every 256th run offset, and the occurrence rows. -/
abbrev tab (c : Dev nD) : Buf (Elt F) (tabM.view.loc (c : Thread nD τ)) := V m ρ c main_v0
abbrev xs (c : Dev nD) : Buf (Elt F) (xM.view.loc (c : Thread nD τ)) := V m ρ c main_arg0

/-- The first and the last occurrence of tile `t`. -/
abbrev wLo (c : Dev nD) (t : Fin grid0.N) : BitVec 32 := w4 c (tab m ρ c) (grid0.coords t)
abbrev wHi (c : Dev nD) (t : Fin grid0.N) : BitVec 32 := w7 c (tab m ρ c) (grid0.coords t)

/-- What the run offsets are asked: the tiles' bounds in order, from 0 to the number of occurrences. -/
structure Good : Prop where
  okay : ∀ c t, Okay (wLo m ρ c t) (wHi m ρ c t)
  zero : ∀ c (t : Fin grid0.N), t.val = 0 → (wLo m ρ c t).toNat = 0
  next : ∀ c (t t' : Fin grid0.N), t'.val = t.val + 1 → wHi m ρ c t = wLo m ρ c t'
  last : ∀ c (t : Fin grid0.N), t.val + 1 = grid0.N → (wHi m ρ c t).toNat = 983040

/-- The chunks fetched before tile `n`. -/
def cnt (c : Dev nD) (n : ℕ) : ℕ := if h : n < grid0.N then C1 (wLo m ρ c ⟨n, h⟩) else 3840

theorem cnt_at (c : Dev nD) (t : Fin grid0.N) : cnt m ρ c t.val = C1 (wLo m ρ c t) := dif_pos t.isLt
theorem cnt_succ (hG : Good m ρ) (c : Dev nD) (t : Fin grid0.N) : cnt m ρ c (t.val + 1) = C1 (wHi m ρ c t) := by
  unfold cnt
  by_cases h : t.val + 1 < grid0.N
  · rw [dif_pos h, hG.next c t ⟨t.val + 1, h⟩ rfl]
  · rw [dif_neg h]
    have e : C1 (wHi m ρ c t) = ((wHi m ρ c t).toNat + 255) / 256 := rfl
    rw [e, hG.last c t (by have := t.isLt; omega)]

/-- The prefetched table's contents (there is one core). -/
abbrev adm : (p : Fin 1) → (pcfgs (F := F) p).Adm := fun _ => ⟨fun k => V m ρ 0 (pre0.ref k), trivial⟩
abbrev cfgA : Cfg sig Λ₀ := cfg0 (adm m ρ 0)

/-- Each window's array at the region's entry, and the block the window holds at point `t`. -/
def AA (c : Dev nD) (w : Fin 10) : Buf (Elt F) (((cfgA m ρ).win w).arr.view.loc (c.tc : Thread nD τ)) := V m ρ c (Pipeline.arrRef spec0 w)
def XX (c : Dev nD) (w : Fin 10) (t : Fin grid0.N) : (spec0 w).block.Idx → Elt F (spec0 w).elt :=
  Pipeline.heldIn (cfgA m ρ) (AA m ρ c) w t.val t.isLt

/-- Tile `t`'s sums. -/
def accAt (hG : Good m ρ) (c : Dev nD) (t : Fin grid0.N) : Vec F S256x256 .f32 :=
  tileAcc c (xs m ρ c) (wLo m ρ c t) (wHi m ρ c t) (XX m ρ c 1 t) (XX m ρ c 2 t) (hG.okay c t)

/-- The kernel's state before point `n`. -/
def Φc (c : Dev nD) (n : ℕ) : sProp 𝕄 :=
  iprop(tabP c (tab m ρ c) fullShare ∗ xRest c (xs m ρ c) ∗ stP c (xs m ρ c) n (cnt m ρ c n))

def dats (hG : Good m ρ) (p : Fin 1) (c : Dev nD) : Dat τ (Elt F) Unit ℕ (UU nD τ) ℕ (Pipeline.pin (pcfgs (F := F)) (adm m ρ) p) c where
  A w := AA m ρ c w
  after w t := match w with
    | ⟨0, _⟩ => XX m ρ c 0 t
    | ⟨1, _⟩ => XX m ρ c 1 t
    | ⟨2, _⟩ => XX m ρ c 2 t
    | ⟨3, _⟩ => XX m ρ c 3 t
    | ⟨4, _⟩ => XX m ρ c 4 t
    | ⟨5, _⟩ => XX m ρ c 5 t
    | ⟨6, _⟩ => out9 (accAt m ρ hG c t) (XX m ρ c 0 t) (XX m ρ c 3 t) (XX m ρ c 4 t) (XX m ρ c 5 t)
    | ⟨7, _⟩ => out10 (accAt m ρ hG c t) (XX m ρ c 0 t) (XX m ρ c 3 t) (XX m ρ c 4 t) (XX m ρ c 5 t)
    | ⟨8, _⟩ => out11 (accAt m ρ hG c t) (XX m ρ c 0 t) (XX m ρ c 3 t) (XX m ρ c 4 t) (XX m ρ c 5 t)
    | ⟨9, _⟩ => out12 (accAt m ρ hG c t) (XX m ρ c 5 t)
  Φ t := Φc m ρ c t.val
  q _ := fullShare
  owed _ := 0

theorem A_eq (hG : Good m ρ) (c : Dev nD) (w : Fin 10) : (dats m ρ hG 0 c).A w = V m ρ c (Pipeline.arrRef spec0 w) := by
  dsimp only [dats, AA]

theorem cond_iff : ∀ t : Fin grid0.N, k0_cond1 (grid0.coords t) = 1#1 ↔ t.val = 0 := by decide +kernel

theorem before_in (hG : Good m ρ) (c : Dev nD) (w : Fin 10) (hw : w.val < 6) (t : Fin grid0.N) (d) : (dats m ρ hG 0 c).before w t d = XX m ρ c w t := by
  fin_cases w
  all_goals first
    | exact (dats m ρ hG 0 c).before_eq_heldIn _ rfl (fun _ => rfl) (fun _ _ => rfl) (fun _ => rfl) t d
    | exact absurd hw (by decide)

end Cert.Proof.I

end
-- ==== Proof.IObl.lean ====
/-
  The body obligation: at every grid point the kernel takes its blocks and its state to what the proof data names.
-/
module

public import proofs.«01_k».proof.Proof.IData
public import proofs.«01_k».proof.Proof.Gen.KernelIdeal.Launch
public import Idealize.ShloMosaic.Lib.Pipeline.Regions

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-- What the body is given and leaves at point `t`, its own state apart. -/
theorem body_point (hG : Good m ρ) (c : Dev nD) (t : Fin grid0.N)
    (M3 : Memref sig .tc .vmem S256x256 .i8) (h3 : M3.IsWhole) (M4 : Memref sig .tc .vmem S1x2x128 .i32) (h4 : M4.IsWhole)
    (M5 : Memref sig .tc .vmem S1x2x128 .i32) (h5 : M5.IsWhole) (M6 : Memref sig .tc .vmem S1x2x128 .f32) (h6 : M6.IsWhole)
    (M7 : Memref sig .tc .vmem S1x2x128 .f32) (h7 : M7.IsWhole) (M8 : Memref sig .tc .vmem S1x2x128 .f32) (h8 : M8.IsWhole)
    (M9 : Memref sig .tc .vmem S256x256 .i8) (h9 : M9.IsWhole) (M10 : Memref sig .tc .vmem S1x2x128 .f32) (h10 : M10.IsWhole)
    (M11 : Memref sig .tc .vmem S1x2x128 .f32) (h11 : M11.IsWhole) (M12 : Memref sig .tc .vmem S1x2x128 .f32) (h12 : M12.IsWhole)
    (X3 : Vec F S256x256 .i8) (X4 X5 : Vec F S1x2x128 .i32) (X6 X7 X8 : Vec F S1x2x128 .f32) :
    iprop(Φc m ρ c t.val ∗ (∃ W : Waits sig Unit, owes (c : Thread nD τ) 0 W)
      ∗ owns (c : Thread nD τ) M3 fullShare X3 ∗ owns (c : Thread nD τ) M4 fullShare X4 ∗ owns (c : Thread nD τ) M5 fullShare X5
      ∗ owns (c : Thread nD τ) M6 fullShare X6 ∗ owns (c : Thread nD τ) M7 fullShare X7 ∗ owns (c : Thread nD τ) M8 fullShare X8
      ∗ (∃ d, owns (c : Thread nD τ) M9 fullShare d) ∗ (∃ d, owns (c : Thread nD τ) M10 fullShare d)
      ∗ (∃ d, owns (c : Thread nD τ) M11 fullShare d) ∗ (∃ d, owns (c : Thread nD τ) M12 fullShare d))
    ⊢ wp frame (wpE (defs₀ (F := F)) 𝒱₀ (c : Thread nD τ) none) Set.univ (bodyG (grid0.coords t) M3 h3 M4 h4 M5 h5 M6 h6 M7 h7 M8 h8 M9 h9 M10 h10 M11 h11 M12 h12)
      (fun _ => iprop(Φc m ρ c (t.val + 1) ∗ (∃ W : Waits sig Unit, owes (c : Thread nD τ) 0 W)
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare X8
        ∗ outsP c M9 M10 M11 M12 (tileAcc c (xs m ρ c) (wLo m ρ c t) (wHi m ρ c t) X4 X5 (hG.okay c t)) X3 X6 X7 X8)) := by
  unfold Φc
  rw [cnt_succ m ρ hG c t, cnt_at m ρ c t]
  unfold owns
  iintro ⟨⟨Htab, Hx, HS⟩, HO, ⟨%g3, %e3, H3⟩, ⟨%g4, %e4, H4⟩, ⟨%g5, %e5, H5⟩, ⟨%g6, %e6, H6⟩, ⟨%g7, %e7, H7⟩, ⟨%g8, %e8, H8⟩, ⟨%d9, %g9, -, H9⟩, ⟨%d10, %g10, -, H10⟩, ⟨%d11, %g11, -, H11⟩, ⟨%d12, %g12, -, H12⟩⟩
  subst e3 e4 e5 e6 e7 e8
  iapply (wp_wand_r frame (wpE (defs₀ (F := F)) 𝒱₀ (c : Thread nD τ) none) Set.univ
    (Q := fun _ => iprop(insP c (tab m ρ c) M3 M4 M5 M6 M7 M8 g3 g4 g5 g6 g7 g8 fullShare
      ∗ outsP c M9 M10 M11 M12 (tileAcc c (xs m ρ c) (wLo m ρ c t) (wHi m ρ c t) (M4.view.read (Elt F) g4) (M5.view.read (Elt F) g5) (hG.okay c t))
          (M3.view.read (Elt F) g3) (M6.view.read (Elt F) g6) (M7.view.read (Elt F) g7) (M8.view.read (Elt F) g8)
      ∗ finP c (xs m ρ c) (C1 (wHi m ρ c t)))))
  isplitl [Htab HS HO H3 H4 H5 H6 H7 H8 H9 H10 H11 H12]
  · by_cases h0 : t.val = 0
    · ihave HS := (Entails.of_eq (show stP c (xs m ρ c) t.val (C1 (wLo m ρ c t)) = iprop((∃ fn : Buf (Elt F) (nxtM.view.loc (c : Thread nD τ)), nxtP c fn)
        ∗ (∃ fa : Buf (Elt F) (accM.view.loc (c : Thread nD τ)), accP c fa)
        ∗ Ring.AtW (σ := fun _ => Slot) (Φs c (xs m ρ c)) (fun _ => .free)) from if_pos h0)) $$ HS
      icases HS with ⟨Hn, Ha, HR⟩
      have hb := (body_first c (xs m ρ c) (tab m ρ c) (grid0.coords t) M3 h3 M4 h4 M5 h5 M6 h6 M7 h7 M8 h8 M9 h9 M10 h10 M11 h11 M12 h12
        g3 g4 g5 g6 g7 g8 g9 g10 g11 g12 fullShare ((cond_iff t).2 h0) (hG.zero c t h0) (hG.okay c t))
      iapply hb
      isplitl [Htab H3 H4 H5 H6 H7 H8]
      · isplitl [Htab]; · iexact Htab
        isplitl [H3]; · iexact H3
        isplitl [H4]; · iexact H4
        isplitl [H5]; · iexact H5
        isplitl [H6]; · iexact H6
        isplitl [H7]; · iexact H7
        iexact H8
      isplitl [H9 H10 H11 H12]
      · isplitl [H9]; · iexact H9
        isplitl [H10]; · iexact H10
        isplitl [H11]; · iexact H11
        iexact H12
      isplitl [Hn]; · iexact Hn
      isplitl [Ha]; · iexact Ha
      isplitl [HR]; · iexact HR
      iexact HO
    · ihave HS := (Entails.of_eq (show stP c (xs m ρ c) t.val (C1 (wLo m ρ c t)) = iprop((∃ fn : Buf (Elt F) (nxtM.view.loc (c : Thread nD τ)), nxtP c fn ∗ ⌜nxtW c fn = BitVec.ofNat 32 (C1 (wLo m ρ c t))⌝)
        ∗ (∃ fa : Buf (Elt F) (accM.view.loc (c : Thread nD τ)), accP c fa)
        ∗ Ring.AtW (σ := fun _ => Slot) (Φs c (xs m ρ c)) (st (C1 (wLo m ρ c t)))) from if_neg h0)) $$ HS
      icases HS with ⟨Hn, Ha, HR⟩
      have hb := (body_later c (xs m ρ c) (tab m ρ c) (grid0.coords t) M3 h3 M4 h4 M5 h5 M6 h6 M7 h7 M8 h8 M9 h9 M10 h10 M11 h11 M12 h12
        g3 g4 g5 g6 g7 g8 g9 g10 g11 g12 fullShare (fun e => h0 ((cond_iff t).1 e)) (hG.okay c t))
      iapply hb
      isplitl [Htab H3 H4 H5 H6 H7 H8]
      · isplitl [Htab]; · iexact Htab
        isplitl [H3]; · iexact H3
        isplitl [H4]; · iexact H4
        isplitl [H5]; · iexact H5
        isplitl [H6]; · iexact H6
        isplitl [H7]; · iexact H7
        iexact H8
      isplitl [H9 H10 H11 H12]
      · isplitl [H9]; · iexact H9
        isplitl [H10]; · iexact H10
        isplitl [H11]; · iexact H11
        iexact H12
      isplitl [Hn]; · iexact Hn
      isplitl [Ha]; · iexact Ha
      isplitl [HR]; · iexact HR
      iexact HO
  iintro %_ ⟨⟨Htab, H3, H4, H5, H6, H7, H8⟩, Houts, ⟨Hn, Ha, HR, HO⟩⟩
  isplitl [Htab Hx Hn Ha HR]
  · isplitl [Htab]; · iexact Htab
    isplitl [Hx]; · iexact Hx
    iapply (Entails.of_eq (show stP c (xs m ρ c) (t.val + 1) (C1 (wHi m ρ c t)) = iprop((∃ fn : Buf (Elt F) (nxtM.view.loc (c : Thread nD τ)), nxtP c fn ∗ ⌜nxtW c fn = BitVec.ofNat 32 (C1 (wHi m ρ c t))⌝)
        ∗ (∃ fa : Buf (Elt F) (accM.view.loc (c : Thread nD τ)), accP c fa)
        ∗ Ring.AtW (σ := fun _ => Slot) (Φs c (xs m ρ c)) (st (C1 (wHi m ρ c t)))) from if_neg (Nat.succ_ne_zero _)).symm)
    isplitl [Hn]; · iexact Hn
    isplitl [Ha]; · iexact Ha
    iexact HR
  isplitl [HO]; · iexact HO
  isplitl [H3]
  · iexists g3; isplitr; · ipureintro; rfl
    iexact H3
  isplitl [H4]
  · iexists g4; isplitr; · ipureintro; rfl
    iexact H4
  isplitl [H5]
  · iexists g5; isplitr; · ipureintro; rfl
    iexact H5
  isplitl [H6]
  · iexists g6; isplitr; · ipureintro; rfl
    iexact H6
  isplitl [H7]
  · iexists g7; isplitr; · ipureintro; rfl
    iexact H7
  isplitl [H8]
  · iexists g8; isplitr; · ipureintro; rfl
    iexact H8
  iexact Houts

theorem body_obligation (hG : Good m ρ) (c : Dev nD) : BodyObligation (dats m ρ hG 0 c) (defs₀ (F := F)) 𝒱₀ () Set.univ := fun t => by
  rw [bigSep_W0, bigSep_W0]
  rw [show (dats m ρ hG 0 c).Φ t.castSucc = Φc m ρ c t.val from rfl, show (dats m ρ hG 0 c).Φ t.succ = Φc m ρ c (t.val + 1) from rfl]
  unfold Dat.owesAt Pipeline.owesWithin
  rw [show (dats m ρ hG 0 c).owed t.castSucc = 0 from rfl, show (dats m ρ hG 0 c).owed t.succ = 0 from rfl]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_in m ρ hG c 0 (by decide), before_in m ρ hG c 1 (by decide), before_in m ρ hG c 2 (by decide), before_in m ρ hG c 3 (by decide), before_in m ρ hG c 4 (by decide), before_in m ρ hG c 5 (by decide)]
  iapply (wp_wand_r frame (wpE (defs₀ (F := F)) 𝒱₀ (c : Thread nD τ) none) Set.univ)
  isplitl [HΦ HO H0 H1 H2 H3 H4 H5 H6 H7 H8 H9]
  · iapply (body_point m ρ hG c t _ _ _ _ _ _ _ _ _ _ _ _ _ _ _ _ _ _ _ _ (XX m ρ c 0 t) (XX m ρ c 1 t) (XX m ρ c 2 t) (XX m ρ c 3 t) (XX m ρ c 4 t) (XX m ρ c 5 t))
    isplitl [HΦ]; · iexact HΦ
    isplitl [HO]; · iexists W; iexact HO
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9
  iintro %_ ⟨HΦ, ⟨%W', HO⟩, H0, H1, H2, H3, H4, H5, ⟨H6, H7, H8, H9⟩⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.I

end
-- ==== Proof.IRun.lean ====
/-
  The launch: the host operations, then the region; every execution ends with the arrays at the computed contents.
-/
module

public import proofs.«01_k».proof.Proof.IObl
public import proofs.«01_k».proof.Proof.Gen.KernelIdeal.Launch
public import Idealize.ShloMosaic.Lib.Pipeline.Regions

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-- The pipeline library's algebra is the left component of the certificate's. -/
abbrev EP : Emb (UR sig nD τ) (MT nD τ sig Unit (Elt F) ℕ (UU nD τ) ℕ) := embL

/-- No host operation writes an argument. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7) :
    ∀ op ∈ (hostOps0 (F := F)), Proc.devRef .tc b ∉ op.writes := by
  obtain ⟨h0, h1, h2, h3, h4, h5, h6, h7⟩ := hb
  intro op hop
  simp only [List.mem_cons, List.mem_nil_iff, or_false] at hop
  rcases hop with rfl | rfl | rfl | rfl | rfl | rfl | rfl | rfl <;>
    simp only [StableHlo.unary_writes, StableHlo.reshape_writes, Finset.mem_singleton] <;>
    exact StableHlo.devRef_ne_of_ne ‹_›

/-- The TensorCore's unscoped references, as device buffers: the set the host operations run within. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- An operation on TensorCore references only touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The arguments reach the region, and the end, as launched. -/
theorem V_arg0 (c : Dev nD) : V m ρ c main_arg0 = m ((c : Thread nD τ).loc main_arg0) :=
  StableHlo.after_of_forall_not_mem (b := Proc.devRef .tc main_arg0) hostOps0 (V₀ m ρ c) (not_written main_arg0 (by decide))
theorem V_arg1 (c : Dev nD) : V m ρ c main_arg1 = m ((c : Thread nD τ).loc main_arg1) :=
  StableHlo.after_of_forall_not_mem (b := Proc.devRef .tc main_arg1) hostOps0 (V₀ m ρ c) (not_written main_arg1 (by decide))
theorem V_arg2 (c : Dev nD) : V m ρ c main_arg2 = m ((c : Thread nD τ).loc main_arg2) :=
  StableHlo.after_of_forall_not_mem (b := Proc.devRef .tc main_arg2) hostOps0 (V₀ m ρ c) (not_written main_arg2 (by decide))
theorem V_arg3 (c : Dev nD) : V m ρ c main_arg3 = m ((c : Thread nD τ).loc main_arg3) :=
  StableHlo.after_of_forall_not_mem (b := Proc.devRef .tc main_arg3) hostOps0 (V₀ m ρ c) (not_written main_arg3 (by decide))
theorem V_arg4 (c : Dev nD) : V m ρ c main_arg4 = m ((c : Thread nD τ).loc main_arg4) :=
  StableHlo.after_of_forall_not_mem (b := Proc.devRef .tc main_arg4) hostOps0 (V₀ m ρ c) (not_written main_arg4 (by decide))
theorem V_arg5 (c : Dev nD) : V m ρ c main_arg5 = m ((c : Thread nD τ).loc main_arg5) :=
  StableHlo.after_of_forall_not_mem (b := Proc.devRef .tc main_arg5) hostOps0 (V₀ m ρ c) (not_written main_arg5 (by decide))

/-- The ring's four DMA semaphores. -/
abbrev osem (k : Fin 4) : SemLoc sig := .dma (csm k).sem

theorem ownSemFacts : Pipeline.OwnSemFacts spec0 osem := by decide

def u₀ : UU nD τ := (initOf (Pipeline.cells (Pipeline.pin (pcfgs (F := F)) (adm m ρ)) (cellOf_inj (adm m ρ))) (Pipeline.launchToks (Pipeline.pin (pcfgs (F := F)) (adm m ρ)) (cellOf_inj (adm m ρ))), 1)

omit [FloatOps F] in
theorem ownSems0_eq (c : Dev nD) :
    (Pipeline.ownSems0 (Ix := Unit) (Name := ℕ) (U := UU nD τ) (Lvl := ℕ) (Val := Elt F) (τ := τ) osem c : sProp 𝕄) = cells4 c :=
  Pipeline.ownSems0_eq_of_list c osem [0, 1, 2, 3] (by decide) (by decide)

/-- The prefetched table, listed. -/
theorem prefHeld_eq (c : Dev nD) :
    (Pipeline.prefHeld pre0 c (fun _ => fullShare) (adm m ρ 0).1 : sProp 𝕄) = tabP c (tab m ρ c) fullShare := by
  obtain rfl : c = 0 := Subsingleton.elim _ _
  unfold Pipeline.prefHeld
  exact bigSep_univ_eq_bigSepL [(0 : Fin 1)] (by decide) (by decide) _

/-- An array's contents after the run. -/
def finalA (hG : Good m ρ) (c : Dev nD) (w : Fin 10) : Buf (Elt F) (((cfgA m ρ).win w).arr.view.loc (c.tc : Thread nD τ)) := (dats m ρ hG 0 c).arrAt w (cfgA m ρ).N

def QC (hG : Good m ρ) : PUnit × MemSt nD τ sig (Elt F) → Prop := fun r =>
  ∀ c : Dev nD, (∀ w : Fin 10, r.2.mem (((cfgA m ρ).win w).arr.view.loc (c.tc : Thread nD τ)) = finalA m ρ hG c w)
    ∧ r.2.mem ((c : Thread nD τ).loc main_arg0) = m ((c : Thread nD τ).loc main_arg0)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

/-- No core owes another anything: no level is assigned. -/
abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

/-- The eight host operations over the unscoped buffers. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

abbrev argP (c : Dev nD) (b : Ref sig .tc) : sProp 𝕄 := ((c : Thread nD τ).loc b) ↦{fullShare} V m ρ c b

/-- What the region leaves for the end: the windows' arrays at their final contents, the other arguments. -/
abbrev Tₙ (hG : Good m ρ) (c : Dev nD) : sProp 𝕄 :=
  iprop((dats m ρ hG 0 c).arrays ((dats m ρ hG 0 c).arrAt · (cfgA m ρ).N) ∗ argP m ρ c main_arg0 ∗ argP m ρ c main_arg2 ∗ argP m ρ c main_arg3
    ∗ argP m ρ c main_arg4 ∗ argP m ρ c main_arg5)

theorem Φ_first (hG : Good m ρ) (c : Dev nD) :
    iprop((argP m ρ c main_arg0 ∗ cells4 c) ∗ tabP c (tab m ρ c) fullShare ∗ Pipeline.scopedRest (Ix := Unit) (Name := ℕ) (U := UU nD τ) (Lvl := ℕ) (Val := Elt F) spec0 c)
      ⊢ (Φc m ρ c 0 : sProp 𝕄) := by
  rw [scopedRest0_eq]
  unfold Φc
  rw [show stP c (xs m ρ c) 0 (cnt m ρ c 0) = iprop((∃ fn : Buf (Elt F) (nxtM.view.loc (c : Thread nD τ)), nxtP c fn)
        ∗ (∃ fa : Buf (Elt F) (accM.view.loc (c : Thread nD τ)), accP c fa)
        ∗ Ring.AtW (σ := fun _ => Slot) (Φs c (xs m ρ c)) (fun _ => .free)) from if_pos rfl]
  iintro ⟨⟨Hx, Hc⟩, Ht, ⟨Hr, ⟨%fa, Ha⟩, ⟨%fn, Hn⟩⟩⟩
  ihave Hs := (buf_split c) $$ Hr
  ihave H := (ring_make c (xs m ρ c)) $$ [Hx Hc Hs]
  · isplitl [Hx]; · iexact Hx
    isplitl [Hc] <;> iassumption
  icases H with ⟨Hx, HR⟩
  isplitl [Ht]; · iexact Ht
  isplitl [Hx]; · iexact Hx
  isplitl [Hn]; · iexists fn; iexact Hn
  isplitl [Ha]; · iexists fa; iexact Ha
  iexact HR

theorem Φ_last (c : Dev nD) :
    (Φc m ρ c grid0.N : sProp 𝕄) ⊢ iprop((argP m ρ c main_arg0 ∗ tabP c (tab m ρ c) fullShare) ∗ cells4 c
      ∗ Pipeline.scopedRest (Ix := Unit) (Name := ℕ) (U := UU nD τ) (Lvl := ℕ) (Val := Elt F) spec0 c) := by
  rw [scopedRest0_eq]
  unfold Φc
  rw [show cnt m ρ c grid0.N = 3840 from dif_neg (lt_irrefl _)]
  rw [show stP c (xs m ρ c) grid0.N 3840 = iprop((∃ fn : Buf (Elt F) (nxtM.view.loc (c : Thread nD τ)), nxtP c fn ∗ ⌜nxtW c fn = BitVec.ofNat 32 3840⌝)
        ∗ (∃ fa : Buf (Elt F) (accM.view.loc (c : Thread nD τ)), accP c fa)
        ∗ Ring.AtW (σ := fun _ => Slot) (Φs c (xs m ρ c)) (st 3840)) from if_neg (by rw [N_0]; decide)]
  iintro ⟨Ht, Hx, ⟨%fn, Hn, -⟩, ⟨%fa, Ha⟩, HR⟩
  ihave HR := (ring_end c (xs m ρ c)) $$ HR
  ihave H := (ring_unmake c (xs m ρ c)) $$ [Hx HR]
  · isplitl [Hx] <;> iassumption
  icases H with ⟨Hx, Hc, Hs⟩
  ihave Hr := (buf_join c) $$ Hs
  isplitl [Hx Ht]
  · isplitl [Hx]; · iexact Hx
    iexact Ht
  isplitl [Hc]; · iexact Hc
  isplitl [Hr]; · iexact Hr
  isplitl [Ha]; · iexists fa; iexact Ha
  iexists fn; iexact Hn

set_option backward.isDefEq.respectTransparency.types false in
/-- The region: entered from what the host operations left, left with the arrays at their final contents. -/
def reg0 (hG : Good m ρ) : Pipeline.RegionSeg (pcfgs (F := F)) (adm m ρ) (dats m ρ hG) () defs₀ 𝒱₀ L lv 0 where
  win := (launch0 (F := F)).win.to₀
  block_pos := (launch0 (F := F)).block_pos
  stage_whole := (launch0 (F := F)).stage_whole
  K := Fin 4
  osem := osem
  ho := ownSemFacts
  hbody c := (body_obligation m ρ hG c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ hG c ∗ R c)
  X c := iprop(argP m ρ c main_arg0 ∗ cells4 c)
  Y c := iprop(argP m ρ c main_arg0 ∗ tabP c (tab m ρ c) fullShare)
  Z c := iprop(argP m ρ c main_arg2 ∗ argP m ρ c main_arg3 ∗ argP m ρ c main_arg4 ∗ argP m ρ c main_arg5)
  hentry c := by
    rw [show StableHlo.held (c : Thread nD τ) ucRefs (StableHlo.after hostOps0 (V₀ m ρ c)) = unscopedBufs c (V m ρ c) from (unscopedBufs_held c _).symm,
      ownSems0_eq]
    have hsplit := (Pipeline.arrays_of_unscopedBufs (pcfgs (F := F)) (adm m ρ) (dats m ρ hG) (launch0 (F := F)).win (launch0 (F := F)).arr_whole c
      ((dats m ρ hG 0 c).share_full fun _ => rfl) (V m ρ c) (A_eq m ρ hG c)).trans (BIClass.sep_mono Entails.rfl ((Entails.of_eq (Pipeline.unscopedRest_split preFacts0 c (V m ρ c))).trans
        (BIClass.sep_mono (Entails.of_eq (show _ = tabP c (tab m ρ c) fullShare from bigSep_univ_eq_bigSepL [(0 : Fin 1)] (by decide) (by decide) _)) (Entails.of_eq (unscopedRestP0_eq c (V m ρ c))))))
    iintro ⟨⟨Hub, HO⟩, Hos, -⟩
    ihave H := hsplit $$ Hub
    icases H with ⟨Ha, Ht, H0, H2, H3, H4, H5, -, -⟩
    imodintro
    isplitl [Ha]; · iexact Ha
    isplitl [Ht]; · iapply (Entails.of_eq (prefHeld_eq m ρ c).symm); iexact Ht
    isplitl [HO]
    · unfold Pipeline.Dat.owesAt Pipeline.owesWithin
      icases HO with ⟨%W, HO⟩; iexists W; isplitr; · ipureintro; exact fun _ _ => Or.inl trivial
      iexact HO
    isplitl [H0 Hos]
    · isplitl [H0]; · iexact H0
      iexact Hos
    isplitl [H2]; · iexact H2
    isplitl [H3]; · iexact H3
    isplitl [H4]; · iexact H4
    iexact H5
  hin c := by
    refine (BIClass.sep_mono Entails.rfl (BIClass.sep_mono (Entails.of_eq (prefHeld_eq m ρ c)) Entails.rfl)).trans (Φ_first m ρ hG c)
  hout c := by
    rw [ownSems0_eq]
    exact Φ_last m ρ c
  hexit c := by
    iintro ⟨Ha, HO, ⟨H0, -⟩, ⟨H2, H3, H4, H5⟩⟩
    imodintro
    isplitr [HO]
    · isplitl [Ha]; · iexact Ha
      isplitl [H0]; · iexact H0
      isplitl [H2]; · iexact H2
      isplitl [H3]; · iexact H3
      isplitl [H4]; · iexact H4
      iexact H5
    · unfold Pipeline.Dat.owesAt Pipeline.owesWithin
      icases HO with ⟨%W, -, HO⟩; iexists W; iexact HO

abbrev segs (hG : Good m ρ) : List (Pipeline.Seg (pcfgs (F := F)) (adm m ρ) (dats m ρ hG) () defs₀ 𝒱₀ L lv) := [.host (seg0 m ρ), .region (reg0 m ρ hG)]

set_option backward.isDefEq.respectTransparency.types false in
/-- From any memory with zero counters and run offsets in order: every weakly fair execution of the program terminates
    without fault, with the windows' arrays at the computed contents and the other arguments unchanged. -/
theorem run_main (hG : Good m ρ) : θ_run defs (onTc (τ := τ) (main (F := F))) (s₀ m ρ) (fun r => QC m ρ hG r ∧ r.2.sem = fun _ => 0) :=
  Pipeline.θ_run_regions_kit_sems (pcfgs (F := F)) (adm m ρ) (dats m ρ hG) () (cellOf_inj (adm m ρ)) EP defs₀ 𝒱₀ L lv m ρ main (segs m ρ hG)
    (fun c Q => by rw [main_segs (adm m ρ) (dats m ρ hG) () 𝒱₀ L lv (seg0 m ρ) (reg0 m ρ hG) rfl c])
    (by simp only [Pipeline.Seg.pipes_host, Pipeline.Seg.pipes_region, Pipeline.Seg.pipes_nil]; decide) (O₀ := 0) (hL := fun _ _ => rfl) (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ hG)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => (∀ w : Fin 10, s.mem (((cfgA m ρ).win w).arr.view.loc (c.tc : Thread nD τ)) = finalA m ρ hG c w)
      ∧ s.mem ((c : Thread nD τ).loc main_arg0) = m ((c : Thread nD τ).loc main_arg0)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5))
    (hfin := fun c s' => by
      dsimp only [Tₙ, argP]; rw [V_arg0, V_arg2, V_arg3, V_arg4, V_arg5]
      iintro ⟨⟨Ha, H0, H2, H3, H4, H5⟩, HSI⟩
      icombine HSI H0 gives %h0
      icombine HSI H2 gives %h2
      icombine HSI H3 gives %h3
      icombine HSI H4 gives %h4
      icombine HSI H5 gives %h5
      ihave Hr := (Pipeline.arrays_read (pcfgs (F := F)) (adm m ρ) (dats m ρ hG) (launch0 (F := F)).arr_whole c ((dats m ρ hG 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h2, Buf.eq_of_forall_mem_univ h3, Buf.eq_of_forall_mem_univ h4, Buf.eq_of_forall_mem_univ h5⟩
      iexact HSI)
    (hQ := fun _ h hz => ⟨h, funext fun g => hz g (.inr (by revert g; decide))⟩)

/-- The first window's array is an input: it ends as it was. -/
theorem finalA_w (hG : Good m ρ) (c : Dev nD) : finalA m ρ hG c 0 = m ((c : Thread nD τ).loc main_arg1) :=
  ((dats (F := F) m ρ hG 0 c).arrAt_in 0 rfl _).trans (V_arg1 m ρ c)

end Cert.Proof.I

end
-- ==== Proof.IGood.lean ====
/-
  What the run offsets being in order gives the kernel, and the frame.
-/
module

public import proofs.«01_k».proof.Proof.IRun
public import proofs.«01_k».proof.Proof.Offs
public import proofs.«01_k».proof.Proof.Gen.KernelIdeal.Launch
public import Idealize.ShloMosaic.Lib.Pipeline.Regions

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-- The launch's run offsets. -/
abbrev offs (c : Dev nD) : IVec S122881 32 := m ((c : Thread nD τ).loc main_arg2)

theorem off3_val : ∀ t : Fin grid0.N, k0_off3 (grid0.coords t) 0 = t.val := by decide +kernel
theorem off4_val : ∀ t : Fin grid0.N, k0_off4 (grid0.coords t) 0 = t.val + 1 := by decide +kernel

/-- The table is every 256th run offset. -/
theorem tab_eq (c : Dev nD) : tab m ρ c = Host.slice S481 ![0] ![256] (offs m c) slicesBy_S122881_S481_0s256 := by
  show StableHlo.after hostOps0 (V₀ m ρ c) (Proc.devRef .tc main_v0) = _
  after_results

theorem tab_at (c : Dev nD) (j : S481.Idx) (n : ℕ) (hn : n < 122881) (e : 256 * (j 0).val = n) : tab m ρ c j = ofs (offs m c) n hn := by
  rw [tab_eq]
  refine congrArg (offs m c) (idx_ext hn ?_)
  show 0 + 256 * (j 0).val = n
  omega

theorem wLo_eq (c : Dev nD) (t : Fin grid0.N) (hn : 256 * t.val < 122881) : wLo m ρ c t = ofs (offs m c) (256 * t.val) hn := by
  refine tab_at m ρ c _ _ hn ?_
  show 256 * (k0_off3 (grid0.coords t) 0 + 1 * 0) = _
  rw [off3_val]
  omega
theorem wHi_eq (c : Dev nD) (t : Fin grid0.N) (hn : 256 * (t.val + 1) < 122881) : wHi m ρ c t = ofs (offs m c) (256 * (t.val + 1)) hn := by
  refine tab_at m ρ c _ _ hn ?_
  show 256 * (k0_off4 (grid0.coords t) 0 + 1 * 0) = _
  rw [off4_val]

theorem pt_lt (t : Fin grid0.N) : t.val < 480 := lt_of_lt_of_eq t.isLt N_0

theorem wLo_nat (c : Dev nD) (t : Fin grid0.N) : (wLo m ρ c t).toNat = off (offs m c) (256 * t.val) := by
  have := pt_lt t
  rw [wLo_eq m ρ c t (by omega), off_of]
theorem wHi_nat (c : Dev nD) (t : Fin grid0.N) : (wHi m ρ c t).toNat = off (offs m c) (256 * (t.val + 1)) := by
  have := pt_lt t
  rw [wHi_eq m ρ c t (by omega), off_of]

/-- Run offsets in order are all the kernel asks. -/
theorem good_of (hs : ∀ c, Sorted (offs m c)) : Good m ρ where
  okay c t := by
    have := pt_lt t
    unfold Okay
    rw [wLo_nat, wHi_nat]
    exact ⟨(hs c).mono (by omega) (by omega), (hs c).off_le (by omega)⟩
  zero c t h := by rw [wLo_nat, h]; exact (hs c).off_zero
  next c t t' h := by
    have := pt_lt t
    have := pt_lt t'
    rw [wHi_eq m ρ c t (by omega), wLo_eq m ρ c t' (by omega)]
    exact congrArg (offs m c) (idx_ext _ (show 256 * (t.val + 1) = 256 * t'.val by omega))
  last c t h := by
    have : grid0.N = 480 := N_0
    rw [wHi_nat, show 256 * (t.val + 1) = 122880 by omega]
    exact (hs c).off_last

/-- The frame: under run offsets in order, every execution ends without fault with the arguments unchanged. -/
theorem frame_of (hs : ∀ c, Sorted (offs m c)) : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun r h => ⟨fun c => by
    obtain ⟨ha, h0, h2, h3, h4, h5⟩ := h.1 c
    exact ⟨h0, (ha 0).trans (finalA_w m ρ (good_of m ρ hs) c), h2, h3, h4, h5⟩, h.2⟩) (run_main m ρ (good_of m ρ hs))

end Cert.Proof.I

end
-- ==== Proof.KWords.lean ====
/-
  The words the `rows` kernel computes, in closed form. A tile reads two run offsets `v4 ≤ v7` of the prefetched
  table; it visits the chunks `v4 / 256 … ⌈v7 / 256⌉` of the occurrence rows, and names ring slot and cell
  `chunk % 4` and the HBM rows from `256 · chunk`. Every chain of the printed program (floor division by sign
  tests, remainders, comparisons) is evaluated here once, under `v4 ≤ v7 ≤ 983040`.
-/
module

public import proofs.«01_k».proof.Proof.Gen.Kernel.Launch
public import Idealize.ShloMosaic.Lib.Affine
public import Idealize.ShloMosaic.Lib.WordArith

@[expose] public section

noncomputable section

namespace Cert.Proof.K

open Cert.Kernel Cert.Kernel.Gen
open Idealize.ShloMosaic

/-- Floor division by 256 as the kernel prints it. -/
def fl (v4 : BitVec 32) : BitVec 32 :=
  Scalar.select (Scalar.andi (Scalar.cmpi .ne (Scalar.subi (Scalar.extui (Scalar.cmpi .sgt v4 0#32)) (Scalar.extui (Scalar.cmpi .slt v4 0#32)))
    (Scalar.subi (Scalar.extui (Scalar.cmpi .sgt 256#32 0#32)) (Scalar.extui (Scalar.cmpi .slt 256#32 0#32))))
    (Scalar.cmpi .ne (Scalar.remsi v4 256#32) 0#32)) (Scalar.subi (Scalar.divsi v4 256#32) 1#32) (Scalar.divsi v4 256#32)

theorem toNat_divsi (u : ArithUnit) {x : BitVec 32} (hx : 2 * x.toNat < 2 ^ 32) (k : Nat) (hk : 0 < k) (hk' : 2 * k < 2 ^ 32) :
    (IntOp.divsi u x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  rw [show IntOp.divsi u x (BitVec.ofNat 32 k) = x.sdiv (BitVec.ofNat 32 k) from
    if_neg (IntOp.not_corner_of_pos (by rw [BitVec.toInt_eq_toNat_of_lt (by omega)]; omega)), BitVec.sdiv_eq, hm, hkm]
  show (x / BitVec.ofNat 32 k).toNat = _
  rw [BitVec.toNat_udiv, hkN]

theorem toNat_lt {x : BitVec 32} {n : Nat} (h : x.toNat = n) : x = BitVec.ofNat 32 n := by
  rw [← h, BitVec.ofNat_toNat, BitVec.setWidth_eq]

theorem fl_eq (v : BitVec 32) (h : v.toNat < 2 ^ 24) : fl v = BitVec.ofNat 32 (v.toNat / 256) := by
  have hd : Scalar.divsi v 256#32 = BitVec.ofNat 32 (v.toNat / 256) :=
    toNat_lt (toNat_divsi .scalar (by omega) 256 (by omega) (by omega))
  by_cases hz : v = 0#32
  · subst hz; decide
  · have h0 : v.toNat ≠ 0 := fun e => hz (by rw [toNat_lt e])
    have hs : Scalar.cmpi .sgt v 0#32 = 1#1 := by
      rw [Scalar.cmpi, IntOp.cmpi_sgt, BitVec.toInt_eq_toNat_of_lt (x := v) (by omega),
        show (0#32 : BitVec 32).toInt = 0 from by decide]; omega
    have hl : Scalar.cmpi .slt v 0#32 = 0#1 := by
      refine (by revert h0; generalize Scalar.cmpi .slt v 0#32 = q; intro _; revert q; decide : ∀ _ : ¬ (Scalar.cmpi .slt v 0#32 = 1#1), Scalar.cmpi .slt v 0#32 = 0#1) ?_
      rw [Scalar.cmpi, IntOp.cmpi_slt, BitVec.toInt_eq_toNat_of_lt (x := v) (by omega)]
      rw [show (0#32 : BitVec 32).toInt = 0 from by decide]; omega
    unfold fl
    rw [hs, hl, hd]
    generalize Scalar.cmpi .ne (Scalar.remsi v 256#32) 0#32 = q
    rw [show Scalar.cmpi .ne (Scalar.subi (Scalar.extui 1#1) (Scalar.extui 0#1))
      (Scalar.subi (Scalar.extui (Scalar.cmpi .sgt 256#32 0#32)) (Scalar.extui (Scalar.cmpi .slt 256#32 0#32))) = 0#1 from by decide,
      show Scalar.andi 0#1 q = 0#1 from by revert q; decide]
    rfl

theorem divsi_one' (u : ArithUnit) (x : BitVec 32) : IntOp.divsi u x 1#32 = x := by
  rw [show IntOp.divsi u x 1#32 = x.sdiv 1#32 from if_neg (IntOp.not_corner_of_pos (by decide)), BitVec.sdiv_one]

/-- The first chunk of a tile, and the first past it. -/
def C0 (v4 : BitVec 32) : Nat := v4.toNat / 256
def C1 (v7 : BitVec 32) : Nat := (v7.toNat + 255) / 256

/-- What the precondition says of a tile's two offsets. -/
def Okay (v4 v7 : BitVec 32) : Prop := v4.toNat ≤ v7.toNat ∧ v7.toNat ≤ 983040

theorem fl7 {v7 : BitVec 32} (h : v7.toNat ≤ 983040) :
    fl (Scalar.subi (Scalar.addi v7 256#32) 1#32) = BitVec.ofNat 32 (C1 v7) := by
  have e : (Scalar.subi (Scalar.addi v7 256#32) 1#32).toNat = v7.toNat + 255 := by
    show (v7 + 256#32 - 1#32).toNat = _
    rw [BitVec.toNat_sub, BitVec.toNat_add]
    simp only [BitVec.toNat_ofNat]; omega
  rw [fl_eq _ (by rw [e]; omega), e]; rfl

/-- The number of chunks as a word. -/
theorem ub_eq {v4 v7 : BitVec 32} (h : Okay v4 v7) : (k0_t1_loop v4 v7).ub = BitVec.ofNat 32 (C1 v7 - C0 v4) := by
  obtain ⟨h1, h2⟩ := h
  show Scalar.addi 0#32 (Scalar.muli (Scalar.divsi (Scalar.subi (Scalar.divsi (Scalar.addi (Scalar.subi (fl (Scalar.subi (Scalar.addi v7 256#32) 1#32)) (fl v4)) (Scalar.subi 1#32 1#32)) 1#32) 0#32) 1#32) 1#32) = _
  rw [fl7 h2, fl_eq v4 (by omega)]
  simp only [Scalar.divsi, divsi_one']
  apply BitVec.eq_of_toNat_eq
  show (0#32 + (BitVec.ofNat 32 (C1 v7) - BitVec.ofNat 32 (v4.toNat / 256) + (1#32 - 1#32) - 0#32) * 1#32).toNat = _
  unfold C1 C0
  simp only [BitVec.toNat_add, BitVec.toNat_mul, BitVec.toNat_sub, BitVec.toNat_ofNat]
  omega

theorem trips_eq {v4 v7 : BitVec 32} (h : Okay v4 v7) : (k0_t1_loop v4 v7).trips = C1 v7 - C0 v4 := by
  have hb : C1 v7 - C0 v4 < 2 ^ 20 := by obtain ⟨h1, h2⟩ := h; unfold C1 C0; omega
  show Scf.trips (0#32) (k0_t1_loop v4 v7).ub 1#32 = _
  rw [ub_eq h]; unfold Scf.trips
  rw [BitVec.toInt_eq_toNat_of_lt (by rw [BitVec.toNat_ofNat]; omega), BitVec.toNat_ofNat,
    show (0#32 : BitVec 32).toInt = 0 from by decide, show (1#32 : BitVec 32).toInt = 1 from by decide]
  omega

theorem t1_ok {v4 v7 : BitVec 32} (h : Okay v4 v7) : (k0_t1_loop v4 v7).OK := by
  have ht := trips_eq h
  have hb : C1 v7 - C0 v4 < 2 ^ 20 := by obtain ⟨h1, h2⟩ := h; unfold C1 C0; omega
  refine ⟨show 0 < (1#32 : BitVec 32).toInt by decide, ?_⟩
  show (0#32 : BitVec 32).toInt + (k0_t1_loop v4 v7).trips * (1#32 : BitVec 32).toInt < 2 ^ 31
  rw [ht, show (0#32 : BitVec 32).toInt = 0 from by decide, show (1#32 : BitVec 32).toInt = 1 from by decide]
  omega

/-- The remainder loop of the printed pair makes no trip. -/
theorem trips2_eq {v4 v7 : BitVec 32} (h : Okay v4 v7) : (k0_t2_loop v4 v7).trips = 0 := by
  have hb : C1 v7 - C0 v4 < 2 ^ 20 := by obtain ⟨h1, h2⟩ := h; unfold C1 C0; omega
  have hlb : (k0_t2_loop v4 v7).lb = BitVec.ofNat 32 (C1 v7 - C0 v4) := ub_eq h
  have hub : (k0_t2_loop v4 v7).ub = BitVec.ofNat 32 (C1 v7 - C0 v4) := by
    obtain ⟨h1, h2⟩ := h
    show Scalar.addi 0#32 (Scalar.subi (Scalar.divsi (Scalar.addi (Scalar.subi (fl (Scalar.subi (Scalar.addi v7 256#32) 1#32)) (fl v4)) (Scalar.subi 1#32 1#32)) 1#32) 0#32) = _
    rw [fl7 h2, fl_eq v4 (by omega)]
    simp only [Scalar.divsi, divsi_one']
    apply BitVec.eq_of_toNat_eq
    show (0#32 + (BitVec.ofNat 32 (C1 v7) - BitVec.ofNat 32 (v4.toNat / 256) + (1#32 - 1#32) - 0#32)).toNat = _
    unfold C1 C0
    simp only [BitVec.toNat_add, BitVec.toNat_sub, BitVec.toNat_ofNat]
    omega
  show Scf.trips (k0_t2_loop v4 v7).lb (k0_t2_loop v4 v7).ub 1#32 = 0
  rw [hlb, hub]; unfold Scf.trips
  rw [show (1#32 : BitVec 32).toInt = 1 from by decide]
  omega

theorem t2_ok {v4 v7 : BitVec 32} (h : Okay v4 v7) : (k0_t2_loop v4 v7).OK := by
  have ht := trips2_eq h
  have hb : C1 v7 - C0 v4 < 2 ^ 20 := by obtain ⟨h1, h2⟩ := h; unfold C1 C0; omega
  have hlb : (k0_t2_loop v4 v7).lb = BitVec.ofNat 32 (C1 v7 - C0 v4) := ub_eq h
  refine ⟨show 0 < (1#32 : BitVec 32).toInt by decide, ?_⟩
  show (k0_t2_loop v4 v7).lb.toInt + (k0_t2_loop v4 v7).trips * (1#32 : BitVec 32).toInt < 2 ^ 31
  rw [ht, hlb, BitVec.toInt_eq_toNat_of_lt (by rw [BitVec.toNat_ofNat]; omega), BitVec.toNat_ofNat]
  omega

/-- Trip `k`'s chunk, the word the kernel computes. -/
theorem chunk_word {v4 v7 : BitVec 32} (h : Okay v4 v7) (k : Fin (k0_t1_loop v4 v7).trips) :
    Scalar.addi (fl v4) (Scalar.muli (Scf.iv 0#32 1#32 k) 1#32) = BitVec.ofNat 32 (C0 v4 + k) := by
  have hk := lt_of_lt_of_eq k.isLt (trips_eq h)
  obtain ⟨h1, h2⟩ := h
  rw [fl_eq v4 (by omega)]
  show BitVec.ofNat 32 (v4.toNat / 256) + (0#32 + BitVec.ofNat 32 k * 1#32) * 1#32 = _
  apply BitVec.eq_of_toNat_eq
  unfold C0 C1 at *
  simp only [BitVec.toNat_add, BitVec.toNat_mul, BitVec.toNat_ofNat]
  omega

theorem chunk_lt {v4 v7 : BitVec 32} (h : Okay v4 v7) (k : Fin (k0_t1_loop v4 v7).trips) : C0 v4 + k < 3840 := by
  have hk := lt_of_lt_of_eq k.isLt (trips_eq h)
  obtain ⟨h1, h2⟩ := h
  unfold C0 C1 at *; omega

theorem rem4 {n : Nat} (h : n < 2 ^ 20) : (Scalar.remsi (BitVec.ofNat 32 n) 4#32).toNat = n % 4 := by
  have := IntOp.toNat_remsi .scalar (x := BitVec.ofNat 32 n) (by rw [BitVec.toNat_ofNat]; omega) 4 (by omega) (by omega)
  rw [BitVec.toNat_ofNat] at this
  rw [show Scalar.remsi (BitVec.ofNat 32 n) 4#32 = IntOp.remsi .scalar (BitVec.ofNat 32 n) (BitVec.ofNat 32 4) from rfl, this]
  omega

theorem plus3 {n : Nat} (h : n < 2 ^ 20) : Scalar.subi (Scalar.addi (BitVec.ofNat 32 n) 4#32) 1#32 = BitVec.ofNat 32 (n + 3) := by
  apply BitVec.eq_of_toNat_eq
  show (BitVec.ofNat 32 n + 4#32 - 1#32).toNat = _
  simp only [BitVec.toNat_add, BitVec.toNat_sub, BitVec.toNat_ofNat]
  omega

theorem times256 {n : Nat} (h : n < 2 ^ 20) : (Scalar.muli (BitVec.ofNat 32 n) 256#32).toNat = 256 * n := by
  show (BitVec.ofNat 32 n * 256#32).toNat = _
  simp only [BitVec.toNat_mul, BitVec.toNat_ofNat]
  omega

section
variable {v4 v7 : BitVec 32} (h : Okay v4 v7) (k : Fin (k0_t1_loop v4 v7).trips)
include h

theorem off5_eq : k0_off5 v4 v7 k = ![(C0 v4 + k) % 4] := by
  show ![(Scalar.remsi (Scalar.addi (fl v4) (Scalar.muli (Scf.iv 0#32 1#32 k) 1#32)) 4#32).toNat] = _
  rw [chunk_word h k, rem4 (by have := chunk_lt h k; omega)]
theorem off6_eq : k0_off6 v4 v7 k = ![(C0 v4 + k) % 4, 0, 0] := by
  show ![(Scalar.remsi (Scalar.addi (fl v4) (Scalar.muli (Scf.iv 0#32 1#32 k) 1#32)) 4#32).toNat, 0, 0] = _
  rw [chunk_word h k, rem4 (by have := chunk_lt h k; omega)]
theorem off11_eq : k0_off11 v4 v7 k = ![(C0 v4 + k) % 4, 0, 0] := by
  show ![(Scalar.remsi (Scalar.addi (fl v4) (Scalar.muli (Scf.iv 0#32 1#32 k) 1#32)) 4#32).toNat, 0, 0] = _
  rw [chunk_word h k, rem4 (by have := chunk_lt h k; omega)]
theorem off7_eq : k0_off7 v4 v7 k = ![256 * (C0 v4 + k), 0] := by
  show ![(Scalar.muli (Scalar.addi (fl v4) (Scalar.muli (Scf.iv 0#32 1#32 k) 1#32)) 256#32).toNat, 0] = _
  rw [chunk_word h k, times256 (by have := chunk_lt h k; omega)]
theorem off8_eq : k0_off8 v4 v7 k = ![(C0 v4 + k + 3) % 4] := by
  show ![(Scalar.remsi (Scalar.subi (Scalar.addi (Scalar.addi (fl v4) (Scalar.muli (Scf.iv 0#32 1#32 k) 1#32)) 4#32) 1#32) 4#32).toNat] = _
  rw [chunk_word h k, plus3 (by have := chunk_lt h k; omega), rem4 (by have := chunk_lt h k; omega)]
theorem off9_eq : k0_off9 v4 v7 k = ![(C0 v4 + k + 3) % 4, 0, 0] := by
  show ![(Scalar.remsi (Scalar.subi (Scalar.addi (Scalar.addi (fl v4) (Scalar.muli (Scf.iv 0#32 1#32 k) 1#32)) 4#32) 1#32) 4#32).toNat, 0, 0] = _
  rw [chunk_word h k, plus3 (by have := chunk_lt h k; omega), rem4 (by have := chunk_lt h k; omega)]
theorem off10_eq : k0_off10 v4 v7 k = ![256 * (C0 v4 + k + 3), 0] := by
  show ![(Scalar.muli (Scalar.subi (Scalar.addi (Scalar.addi (fl v4) (Scalar.muli (Scf.iv 0#32 1#32 k) 1#32)) 4#32) 1#32) 256#32).toNat, 0] = _
  rw [chunk_word h k, plus3 (by have := chunk_lt h k; omega), times256 (by have := chunk_lt h k; omega)]
theorem mult4_eq : (k0_mult4 v4 v7 k).toNat = 256 * (C0 v4 + k) := congrFun (off7_eq h k) 0
theorem mult5_eq : (k0_mult5 v4 v7 k).toNat = 256 * (C0 v4 + k + 3) := congrFun (off10_eq h k) 0

/-- The kernel waits exactly when the chunk has not been waited for: chunks below `n` have. -/
theorem cond2_iff (n : Nat) (hn : n ≤ 3840) : k0_cond2 v4 v7 k (BitVec.ofNat 32 n) = 1#1 ↔ n ≤ C0 v4 + k := by
  show Scalar.cmpi .ne (Scalar.extui (Scalar.cmpi .sge (Scalar.addi (fl v4) (Scalar.muli (Scf.iv 0#32 1#32 k) 1#32)) (BitVec.ofNat 32 n))) 0#32 = 1#1 ↔ _
  have hc := chunk_lt h k
  rw [Scalar.guard_iff, chunk_word h k, Scalar.cmpi, IntOp.cmpi_sge, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- It issues the chunk three ahead exactly when there is one. -/
theorem cond3_iff : k0_cond3 v4 v7 k = 1#1 ↔ C0 v4 + k + 3 < 3840 := by
  show Scalar.cmpi .ne (Scalar.extui (Scalar.cmpi .slt (Scalar.subi (Scalar.addi (Scalar.addi (fl v4) (Scalar.muli (Scf.iv 0#32 1#32 k) 1#32)) 4#32) 1#32) 3840#32)) 0#32 = 1#1 ↔ _
  have hc := chunk_lt h k
  rw [Scalar.guard_iff, chunk_word h k, plus3 (by omega), Scalar.cmpi, IntOp.cmpi_slt, BitVec.toInt_eq_toNat_of_lt (by rw [BitVec.toNat_ofNat]; omega),
    BitVec.toNat_ofNat, show (3840#32 : BitVec 32).toInt = 3840 from by decide]
  omega

theorem chk2 (w : BitVec 32) : k0_chk2 v4 v7 k w := by
  have hc := chunk_lt h k
  refine ⟨fun _ => ?_, fun _ => ?_, fun _ => ?_, fun _ => ?_, fun _ h3 => ?_, fun _ h3 => ?_, fun _ h3 => ?_, fun _ h3 => ?_⟩
  · rw [mult4_eq h k]; exact Dvd.intro _ rfl
  · rw [off5_eq h k]; intro a; fin_cases a; show (C0 v4 + k) % 4 + 1 ≤ 4; omega
  · rw [off6_eq h k]; intro a; fin_cases a
    · show (C0 v4 + k) % 4 + 1 ≤ 4; omega
    · show 0 + 256 ≤ 256; omega
    · show 0 + 128 ≤ 128; omega
  · rw [off7_eq h k]; intro a; fin_cases a
    · show 256 * (C0 v4 + k) + 256 ≤ 983040; omega
    · show 0 + 128 ≤ 128; omega
  · rw [mult5_eq h k]; exact Dvd.intro _ rfl
  · rw [off8_eq h k]; intro a; fin_cases a; show (C0 v4 + k + 3) % 4 + 1 ≤ 4; omega
  · rw [off9_eq h k]; intro a; fin_cases a
    · show (C0 v4 + k + 3) % 4 + 1 ≤ 4; omega
    · show 0 + 256 ≤ 256; omega
    · show 0 + 128 ≤ 128; omega
  · rw [cond3_iff h k] at h3; rw [off10_eq h k]; intro a; fin_cases a
    · show 256 * (C0 v4 + k + 3) + 256 ≤ 983040; omega
    · show 0 + 128 ≤ 128; omega
end

theorem chk1 {v4 v7 : BitVec 32} (h : Okay v4 v7) : k0_chk1 v4 v7 := by
  refine ⟨t1_ok h, fun k => ?_, t2_ok h, fun k => ?_⟩
  · rw [off11_eq h k]; intro a; fin_cases a
    · show (C0 v4 + k) % 4 + 1 ≤ 4; omega
    · show 0 + 256 ≤ 256; omega
    · show 0 + 128 ≤ 128; omega
  · exact absurd (lt_of_lt_of_eq k.isLt (trips2_eq h)) (Nat.not_lt_zero _)

end Cert.Proof.K

end
-- ==== Proof.KRing.lean ====
/-
  The ring of the `rows` kernel: four VMEM slots, each with its DMA cell, that hold chunks of 256 occurrence rows on
  their way from HBM. A slot is free, in flight with a chunk, or holds a landed chunk; the whole ring's state is a
  function of one number `n`, how many chunks have been waited for (the kernel's SMEM counter).
-/
module

public import proofs.«01_k».proof.Proof.KWords
public import proofs.«01_k».proof.Proof.Gen.Kernel.Skeleton
public import proofs.«01_k».proof.Proof.Gen.Kernel.Loops
public import Idealize.ShloMosaic.Lib.Pipeline.KitQuiescent
public import Idealize.ShloMosaic.Lib.Ring
public import Idealize.ShloMosaic.Lib.Ring.Pair
public import Idealize.ShloMosaic.Lib.Transfers
public import Idealize.ShloMosaic.Lib.Tactic

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## Names: chunk `j` of the occurrence rows, slot `k`, slot `k`'s cell -/

abbrev xM : Memref sig .tc .hbm S983040x128 .i32 := Memref.whole main_arg0
abbrev tabM : Memref sig .tc .smem S481 .i32 := Memref.whole main_v0
abbrev ringM : Memref sig .tc .vmem S4x256x128 .i32 := Memref.whole cc0_scratch0
abbrev accM : Memref sig .tc .vmem S256x256 .f32 := Memref.whole cc0_scratch1
abbrev nxtM : Memref sig .tc .smem S1 .i32 := Memref.whole cc0_scratch3

abbrev slotOff (k : Fin 4) : Fin 3 → Nat := ![k.val, 0, 0]
theorem slotOff_inb (k : Fin 4) : ∀ a, slotOff k a + S1x256x128.size a ≤ S4x256x128.size a := by
  have := k.isLt; intro a; fin_cases a
  · show k.val + 1 ≤ 4; omega
  · show 0 + 256 ≤ 256; omega
  · show 0 + 128 ≤ 128; omega
abbrev semOff (k : Fin 4) : Fin 1 → Nat := ![k.val]
theorem semOff_inb (k : Fin 4) : ∀ a, semOff k a + S1.size a ≤ S4.size a := by
  have := k.isLt; intro a; fin_cases a; show k.val + 1 ≤ 4; omega
abbrev chunkOff (j : Fin 3840) : Fin 2 → Nat := ![256 * j.val, 0]
theorem chunkOff_inb (j : Fin 3840) : ∀ a, chunkOff j a + S256x128.size a ≤ S983040x128.size a := by
  have := j.isLt; intro a; fin_cases a
  · show 256 * j.val + 256 ≤ 983040; omega
  · show 0 + 128 ≤ 128; omega

/-- Slot `k` of the ring, its cell, chunk `j` of the rows, as the body slices and squeezes them. -/
def slotM (k : Fin 4) : Memref sig .tc .vmem S256x128 .i32 :=
  (ringM.slice (Rect.unit (s := S4x256x128) (slotOff k) S1x256x128.size (slotOff_inb k)) (fun _ => rfl)).squeeze S256x128 squeezes_S1x256x128_S256x128
def csm (k : Fin 4) : DmaSems sig S_ := (cc0_scratch2.slice (Rect.unit (s := S4) (semOff k) S1.size (semOff_inb k))).squeeze S_ squeezes_S1_S_
def chunkM (j : Fin 3840) : Memref sig .tc .hbm S256x128 .i32 :=
  xM.slice (Rect.unit (s := S983040x128) (chunkOff j) S256x128.size (chunkOff_inb j)) (fun _ => rfl)

instance (k : Fin 4) : ClosedOff (slotOff k) := ⟨slotOff k, rfl⟩
instance (j : Fin 3840) : ClosedOff (chunkOff j) := ⟨chunkOff j, rfl⟩

/-- The slot chunk `n` goes to. -/
abbrev sl (n : ℕ) : Fin 4 := ⟨n % 4, Nat.mod_lt _ (by decide)⟩

theorem csm_congr {off : Fin 1 → Nat} {k : Fin 4} (e : off = semOff k) (hh) :
    (cc0_scratch2.slice (Rect.unit (s := S4) off S1.size hh)).squeeze S_ squeezes_S1_S_ = csm k :=
  congrArg (fun A : DmaSems sig S1 => A.squeeze S_ squeezes_S1_S_) (SemArray.slice_unit_congr _ e _ _)
theorem slotM_congr {off : Fin 3 → Nat} {k : Fin 4} (e : off = slotOff k) (hh hs) :
    (ringM.slice (Rect.unit (s := S4x256x128) off S1x256x128.size hh) hs).squeeze S256x128 squeezes_S1x256x128_S256x128 = slotM k :=
  congrArg (fun M : Memref sig .tc .vmem S1x256x128 .i32 => M.squeeze S256x128 squeezes_S1x256x128_S256x128) (Memref.slice_unit_congr _ e _ _ _ _)
theorem chunkM_congr {off : Fin 2 → Nat} {j : Fin 3840} (e : off = chunkOff j) (hh hs) :
    xM.slice (Rect.unit (s := S983040x128) off S256x128.size hh) hs = chunkM j := by
  subst e; rfl

section Canon
variable {v4 v7 : BitVec 32}

/-- The prologue's slots, cells and chunks 0, 1, 2. -/
@[sl_canon] theorem semL0 (hh) : (cc0_scratch2.slice (Rect.unit (s := S4) (k0_off1 0#32) S1.size hh)).squeeze S_ squeezes_S1_S_ = csm 0 := csm_congr (by decide) _
@[sl_canon] theorem semL1 (hh) : (cc0_scratch2.slice (Rect.unit (s := S4) (k0_off1 1#32) S1.size hh)).squeeze S_ squeezes_S1_S_ = csm 1 := csm_congr (by decide) _
@[sl_canon] theorem semL2 (hh) : (cc0_scratch2.slice (Rect.unit (s := S4) (k0_off1 2#32) S1.size hh)).squeeze S_ squeezes_S1_S_ = csm 2 := csm_congr (by decide) _
@[sl_canon] theorem slotL0 (hh hs) : (ringM.slice (Rect.unit (s := S4x256x128) (k0_off2 0#32) S1x256x128.size hh) hs).squeeze S256x128 squeezes_S1x256x128_S256x128 = slotM 0 := slotM_congr (by decide) _ _
@[sl_canon] theorem slotL1 (hh hs) : (ringM.slice (Rect.unit (s := S4x256x128) (k0_off2 1#32) S1x256x128.size hh) hs).squeeze S256x128 squeezes_S1x256x128_S256x128 = slotM 1 := slotM_congr (by decide) _ _
@[sl_canon] theorem slotL2 (hh hs) : (ringM.slice (Rect.unit (s := S4x256x128) (k0_off2 2#32) S1x256x128.size hh) hs).squeeze S256x128 squeezes_S1x256x128_S256x128 = slotM 2 := slotM_congr (by decide) _ _
@[sl_canon] theorem chunkL0 (hh hs) : xM.slice (Rect.unit (s := S983040x128) ![0, 0] S256x128.size hh) hs = chunkM 0 := chunkM_congr (by decide) _ _
@[sl_canon] theorem chunkL1 (hh hs) : xM.slice (Rect.unit (s := S983040x128) ![256, 0] S256x128.size hh) hs = chunkM 1 := chunkM_congr (by decide) _ _
@[sl_canon] theorem chunkL2 (hh hs) : xM.slice (Rect.unit (s := S983040x128) ![512, 0] S256x128.size hh) hs = chunkM 2 := chunkM_congr (by decide) _ _

/-- Trip `k`: cell and slot `c % 4` and chunk `c` waited, `c + 3` issued. -/
@[sl_canon] theorem semW (h : Okay v4 v7) (k : Fin (k0_t1_loop v4 v7).trips) (hh) :
    (cc0_scratch2.slice (Rect.unit (s := S4) (k0_off5 v4 v7 k) S1.size hh)).squeeze S_ squeezes_S1_S_ = csm (sl (C0 v4 + k)) := csm_congr (off5_eq h k) _
@[sl_canon] theorem slotW (h : Okay v4 v7) (k : Fin (k0_t1_loop v4 v7).trips) (hh hs) :
    (ringM.slice (Rect.unit (s := S4x256x128) (k0_off6 v4 v7 k) S1x256x128.size hh) hs).squeeze S256x128 squeezes_S1x256x128_S256x128 = slotM (sl (C0 v4 + k)) := slotM_congr (off6_eq h k) _ _
@[sl_canon] theorem chunkW (h : Okay v4 v7) (k : Fin (k0_t1_loop v4 v7).trips) (hh hs) :
    xM.slice (Rect.unit (s := S983040x128) (k0_off7 v4 v7 k) S256x128.size hh) hs = chunkM ⟨C0 v4 + k, chunk_lt h k⟩ := chunkM_congr (off7_eq h k) _ _
@[sl_canon] theorem semI (h : Okay v4 v7) (k : Fin (k0_t1_loop v4 v7).trips) (hh) :
    (cc0_scratch2.slice (Rect.unit (s := S4) (k0_off8 v4 v7 k) S1.size hh)).squeeze S_ squeezes_S1_S_ = csm (sl (C0 v4 + k + 3)) := csm_congr (off8_eq h k) _
@[sl_canon] theorem slotI (h : Okay v4 v7) (k : Fin (k0_t1_loop v4 v7).trips) (hh hs) :
    (ringM.slice (Rect.unit (s := S4x256x128) (k0_off9 v4 v7 k) S1x256x128.size hh) hs).squeeze S256x128 squeezes_S1x256x128_S256x128 = slotM (sl (C0 v4 + k + 3)) := slotM_congr (off9_eq h k) _ _
@[sl_canon] theorem chunkI (h : Okay v4 v7) (k : Fin (k0_t1_loop v4 v7).trips) (h3 : C0 v4 + k + 3 < 3840) (hh hs) :
    xM.slice (Rect.unit (s := S983040x128) (k0_off10 v4 v7 k) S256x128.size hh) hs = chunkM ⟨C0 v4 + k + 3, h3⟩ := chunkM_congr (off10_eq h k) _ _
end Canon

/-! ## A slot's states -/

inductive Slot
  | free
  | fly (j : Fin 3840)
  | landed (j : Fin 3840)

section Pieces
variable (c : Dev nD) (fx : Buf (Elt F) (xM.view.loc (c : Thread nD τ)))

abbrev cellP (k : Fin 4) : sProp 𝕄 := semVal ((c : Thread nD τ), SemLoc.dma (csm k).sem) 0
abbrev slotP (k : Fin 4) (f : Buf (Elt F) ((slotM k).view.loc (c : Thread nD τ))) : sProp 𝕄 :=
  (slotM k).view.loc (c : Thread nD τ) ↦[(slotM k).view.set]{fullShare} f
/-- Slot `k`'s read share of the rows, on the elements `S`. -/
abbrev tokP (k : Fin 4) (S : Finset (Idx (xM.view.loc (c : Thread nD τ)))) : sProp 𝕄 :=
  xM.view.loc (c : Thread nD τ) ↦[S]{Transfers.shareTok fullShare 4 k} fx
/-- Chunk `j` as a slot's payload. -/
abbrev payload (j : Fin 3840) : S256x128.Idx → Elt F .i32 := ReadAs.same.apply ((chunkM j).view.read (Elt F) fx)
/-- What chunk `j`'s transfer leaves in slot `k` over `f`. -/
abbrev landedB (k : Fin 4) (j : Fin 3840) (f : Buf (Elt F) ((slotM k).view.loc (c : Thread nD τ))) : Buf (Elt F) ((slotM k).view.loc (c : Thread nD τ)) :=
  (slotM k).view.writes (Elt F) f [⟨Rect.whole S256x128, payload c fx j⟩]

abbrev freeP (k : Fin 4) : sProp 𝕄 := iprop(cellP c k ∗ (∃ f, slotP c k f) ∗ tokP c fx k Finset.univ)
abbrev landedP (k : Fin 4) (j : Fin 3840) : sProp 𝕄 := iprop(cellP c k ∗ (∃ f, slotP c k (landedB c fx k j f)) ∗ tokP c fx k Finset.univ)
abbrev flyP (k : Fin 4) (j : Fin 3840) : sProp 𝕄 :=
  iprop((∃ f, Transfers.Flight (countersEmb (U := UU nD τ)) (c : Thread nD τ) (SemLoc.dma (csm k).sem) () 4096
      iprop(slotP c k (landedB c fx k j f) ∗ tokP c fx k (chunkM j).view.set)) ∗ tokP c fx k (Finset.univ \ (chunkM j).view.set))

def Φs (k : Fin 4) : Slot → sProp 𝕄
  | .free => freeP c fx k
  | .fly j => flyP c fx k j
  | .landed j => landedP c fx k j

theorem landed_free (k : Fin 4) (j : Fin 3840) : Φs c fx k (.landed j) ⊢ Φs c fx k .free := by
  unfold Φs landedP freeP
  iintro ⟨Hc, ⟨%f, Hs⟩, Ht⟩
  isplitl [Hc]; · iexact Hc
  isplitl [Hs]; · iexists _; iexact Hs
  iexact Ht

end Pieces

/-- The ring after `n` waits: chunks `n`, `n + 1`, `n + 2` in flight, chunk `n - 1` landed. -/
def st (n : ℕ) (k : Fin 4) : Slot :=
  let j := n + (k.val + 4 - n % 4) % 4
  if j < n + 3 then (if h : j < 3840 then .fly ⟨j, h⟩ else .free)
  else if h : 1 ≤ n ∧ n ≤ 3840 then .landed ⟨n - 1, by omega⟩ else .free

theorem st_fly {n j : ℕ} (h1 : n ≤ j) (h2 : j < n + 3) (h3 : j < 3840) : st n (sl j) = .fly ⟨j, h3⟩ := by
  have e : n + ((sl j).val + 4 - n % 4) % 4 = j := by show n + (j % 4 + 4 - n % 4) % 4 = j; omega
  unfold st; dsimp only; simp only [e, if_pos h2, dif_pos h3]
theorem st_landed {n : ℕ} (h : n < 3840) : st (n + 1) (sl n) = .landed ⟨n, h⟩ := by
  have e : ¬ (n + 1 + ((sl n).val + 4 - (n + 1) % 4) % 4 < n + 1 + 3) := by show ¬ (n + 1 + (n % 4 + 4 - (n + 1) % 4) % 4 < _); omega
  unfold st; dsimp only; rw [if_neg e, dif_pos (by omega)]; rfl
theorem st_past {n j : ℕ} (h1 : n ≤ j) (h2 : j < n + 3) (h3 : ¬ j < 3840) : st n (sl j) = .free := by
  have e : n + ((sl j).val + 4 - n % 4) % 4 = j := by show n + (j % 4 + 4 - n % 4) % 4 = j; omega
  unfold st; dsimp only; simp only [e, if_pos h2, dif_neg h3]
theorem st_next {n : ℕ} (k : Fin 4) (h1 : k ≠ sl n) (h2 : k ≠ sl (n + 3)) : st n k = st (n + 1) k := by
  have h1' : k.val ≠ n % 4 := fun e => h1 (Fin.ext e)
  have h2' : k.val ≠ (n + 3) % 4 := fun e => h2 (Fin.ext e)
  have := k.isLt
  by_cases h : (k.val + 4 - n % 4) % 4 = 1
  · have a : k = sl (n + 1) := Fin.ext (by show k.val = (n + 1) % 4; omega)
    subst a
    by_cases hh : n + 1 < 3840
    · rw [st_fly (by omega) (by omega) hh, st_fly (by omega) (by omega) hh]
    · rw [st_past (by omega) (by omega) hh, st_past (by omega) (by omega) hh]
  · have a : k = sl (n + 2) := Fin.ext (by show k.val = (n + 2) % 4; omega)
    subst a
    by_cases hh : n + 2 < 3840
    · rw [st_fly (by omega) (by omega) hh, st_fly (by omega) (by omega) hh]
    · rw [st_past (by omega) (by omega) hh, st_past (by omega) (by omega) hh]

/-- The slot three ahead is free, or becomes so by forgetting the chunk landed in it. -/
theorem st_old_free (c : Dev nD) (fx : Buf (Elt F) (xM.view.loc (c : Thread nD τ))) (n : ℕ) :
    Φs c fx (sl (n + 3)) (st n (sl (n + 3))) ⊢ Φs c fx (sl (n + 3)) .free := by
  have e : ¬ (n + ((sl (n + 3)).val + 4 - n % 4) % 4 < n + 3) := by show ¬ (n + ((n + 3) % 4 + 4 - n % 4) % 4 < _); omega
  unfold st; dsimp only; rw [if_neg e]
  split
  · exact landed_free c fx _ _
  · exact .rfl

theorem AtW_mono (c : Dev nD) (fx : Buf (Elt F) (xM.view.loc (c : Thread nD τ))) {s s' : Fin 4 → Slot} (h : ∀ k, Φs c fx k (s k) ⊢ Φs c fx k (s' k)) :
    (Ring.AtW (σ := fun _ => Slot) (Φs c fx) s : sProp (MT nD τ sig Unit (Elt F) ℕ (UU nD τ) ℕ)) ⊢ Ring.AtW (σ := fun _ => Slot) (Φs c fx) s' := bigSep_mono fun k _ => h k

theorem sl_ne (n : ℕ) : sl (n + 3) ≠ sl n := by
  intro e; have := congrArg Fin.val e; revert this; show (n + 3) % 4 ≠ n % 4; omega

/-- After the wait for chunk `n`, nothing left to issue: the ring is at `n + 1`. -/
theorem ring_last (c : Dev nD) (fx : Buf (Elt F) (xM.view.loc (c : Thread nD τ))) {n : ℕ} (hc : n < 3840) (hl : ¬ n + 3 < 3840) :
    iprop(Φs c fx (sl n) (.landed ⟨n, hc⟩) ∗ Ring.restW (σ := fun _ => Slot) (Φs c fx) (st n) (sl n))
      ⊢ (Ring.AtW (σ := fun _ => Slot) (Φs c fx) (st (n + 1)) : sProp (MT nD τ sig Unit (Elt F) ℕ (UU nD τ) ℕ)) := by
  refine (Ring.AtW_update (σ := fun _ => Slot) (Φs c fx) (st n) (sl n) _).trans (AtW_mono c fx fun k => ?_)
  by_cases h1 : k = sl n
  · subst h1; rw [Function.update_self, st_landed hc]
  · rw [Function.update_of_ne h1]
    by_cases h2 : k = sl (n + 3)
    · subst h2; rw [st_past (n := n + 1) (by omega) (by omega) hl]; exact st_old_free c fx n
    · rw [st_next k h1 h2]

/-- … and with chunk `n + 3` issued. -/
theorem ring_issue (c : Dev nD) (fx : Buf (Elt F) (xM.view.loc (c : Thread nD τ))) {n : ℕ} (hc : n < 3840) (hl : n + 3 < 3840) :
    iprop(Φs c fx (sl n) (.landed ⟨n, hc⟩) ∗ Φs c fx (sl (n + 3)) (.fly ⟨n + 3, hl⟩) ∗ Ring.rest2 (Φs c fx) (st n) (sl n) (sl (n + 3)))
      ⊢ (Ring.AtW (σ := fun _ => Slot) (Φs c fx) (st (n + 1)) : sProp (MT nD τ sig Unit (Elt F) ℕ (UU nD τ) ℕ)) := by
  refine (Ring.AtW_update2 (Φs c fx) (st n) (sl_ne n) _ _).trans (AtW_mono c fx fun k => ?_)
  by_cases h2 : k = sl (n + 3)
  · subst h2; rw [Function.update_self, st_fly (n := n + 1) (by omega) (by omega) hl]
  · rw [Function.update_of_ne h2]
    by_cases h1 : k = sl n
    · subst h1; rw [Function.update_self, st_landed hc]
    · rw [Function.update_of_ne h1, st_next k h1 h2]

end Cert.Proof.K

end
-- ==== Proof.KTrip.lean ====
/-
  One trip of the chunk loop of the `rows` kernel, at a symbolic trip: wait for the chunk if nobody has, issue the
  chunk three ahead if there is one, then add the chunk's masked rows to the accumulator by a matrix product.
-/
module

public import proofs.«01_k».proof.Proof.KRing
public import Idealize.ShloMosaic.Lib.Pipeline.Value
public import Idealize.ShloMosaic.Lib.VecWindow

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

theorem casts_up : S256x128.ShapeCasts S1x256x128 := by decide

/-- The slot's box as the kernel loads it through the ring lies in the slot. -/
theorem box_sub {off : Fin 3 → Nat} {s : Fin 4} (e : off = slotOff s) (hh) :
    (ringM.access (Rect.unit (s := S4x256x128) off S1x256x128.size hh)).set ⊆ (slotM s).view.set := by
  subst e; exact Finset.subset_of_eq (View.set_reshape (v := (ringM.slice (Rect.unit (s := S4x256x128) (slotOff s) S1x256x128.size (slotOff_inb s)) (fun _ => rfl)).view) _).symm

section Trip
variable (c : Dev nD) (fx : Buf (Elt F) (xM.view.loc (c : Thread nD τ))) (i : grid0.Coords)
  (M3 : Memref sig .tc .vmem S256x256 .i8) (h3 : M3.IsWhole) (M4 : Memref sig .tc .vmem S1x2x128 .i32) (h4 : M4.IsWhole)
  (M5 : Memref sig .tc .vmem S1x2x128 .i32) (h5 : M5.IsWhole) (M6 : Memref sig .tc .vmem S1x2x128 .f32) (h6 : M6.IsWhole)
  (M7 : Memref sig .tc .vmem S1x2x128 .f32) (h7 : M7.IsWhole) (M8 : Memref sig .tc .vmem S1x2x128 .f32) (h8 : M8.IsWhole)
  (M9 : Memref sig .tc .vmem S256x256 .i8) (h9 : M9.IsWhole) (M10 : Memref sig .tc .vmem S1x2x128 .f32) (h10 : M10.IsWhole)
  (M11 : Memref sig .tc .vmem S1x2x128 .f32) (h11 : M11.IsWhole) (M12 : Memref sig .tc .vmem S1x2x128 .f32) (h12 : M12.IsWhole)
  (v4 v7 : BitVec 32) (hw : k0_chk1 v4 v7) (v64 v65 v70 : IVec S256x128 32) (v75 : BitVec 32)

abbrev accP (f : Buf (Elt F) (accM.view.loc (c : Thread nD τ))) : sProp 𝕄 := accM.view.loc (c : Thread nD τ) ↦{fullShare} f
abbrev nxtP (f : Buf (Elt F) (nxtM.view.loc (c : Thread nD τ))) : sProp 𝕄 := nxtM.view.loc (c : Thread nD τ) ↦{fullShare} f

/-- The counter's word, as the kernel's load of it reads. -/
abbrev nxtW (f : Buf (Elt F) (nxtM.view.loc (c : Thread nD τ))) : BitVec 32 :=
  nxtM.view.readAt (Elt F) (Rect.unit (s := S1) ![0] S1.size inb_S1_S1_0).toLoadRect f (Shape.Idx.first (by decide))
/-- The accumulator, as the kernel's load of it reads. -/
abbrev accR : Rect S256x256 := Rect.unit (s := S256x256) ![0, 0] S256x256.size inb_S256x256_S256x256_0_0
abbrev accV (f : Buf (Elt F) (accM.view.loc (c : Thread nD τ))) : Vec F S256x256 .f32 :=
  accM.view.readAt (Elt F) (accR).toLoadRect f

abbrev tripG (k : Fin (k0_t1_loop v4 v7).trips) : Prog (TpuEff nD τ sig (Elt F) Λ₀ .tc) Unit :=
  k0_t1_body (F := F) i tabM (Memref.isWhole_whole _) xM (Memref.isWhole_whole _) M3 h3 M4 h4 M5 h5 M6 h6 M7 h7 M8 h8 M9 h9 M10 h10 M11 h11 M12 h12
    ringM (Memref.isWhole_whole _) accM (Memref.isWhole_whole _) cc0_scratch2 nxtM (Memref.isWhole_whole _) v4 v7 hw (fl v4) v64 v65 v70 1#32 0#32 v75 k ()

/-- The chunk in the ring's spelling: what the kernel loads of its slot. -/
abbrev chunkV (j : Fin 3840) : Vec F S1x256x128 .i32 := shapeCast S1x256x128 (payload c fx j) casts_up

/-- What the kernel loads through the ring of a slot chunk `j` landed in. -/
theorem load_landed {off : Fin 3 → Nat} {s : Fin 4} (e : off = slotOff s) (hh) (j : Fin 3840) (f : Buf (Elt F) ((slotM s).view.loc (c : Thread nD τ))) :
    ringM.view.readAt (Elt F) (Rect.unit (s := S4x256x128) off S1x256x128.size hh).toLoadRect (landedB c fx s j f) = chunkV c fx j := by
  subst e
  have h1 : (slotM s).view.read (Elt F) (landedB c fx s j f) = payload c fx j := by
    funext y
    have := View.read_writes_cons_emb (v := (slotM s).view) (f := f) (Rect.whole S256x128) (payload c fx j) [] y
    rwa [Rect.emb_whole_apply] at this
  exact (shapeCast_shapeCast _ shapeCasts_S1x256x128_S256x128 casts_up).symm.trans (congrArg (shapeCast S1x256x128 · casts_up) h1)

/-- The accumulator after one trip. -/
abbrev accNext (k : Fin (k0_t1_loop v4 v7).trips) (j : Fin 3840) (a : Vec F S256x256 .f32) : Vec F S256x256 .f32 :=
  k0_pay12 (k0_pay5 (chunkV c fx j)) (k0_pay6 v4 v7 (fl v4) v64 v65 v70 1#32 0#32 1#32 k) a

theorem accV_writes (f : Buf (Elt F) (accM.view.loc (c : Thread nD τ))) (w : Vec F S256x256 .f32) :
    accV c (accM.view.writes (Elt F) f [⟨accR, w⟩]) = w := View.readAt_writes_full _ _ _ _ _ _

/-- The counter after a wait. -/
theorem nxt_bump (h : Okay v4 v7) (k : Fin (k0_t1_loop v4 v7).trips) (fn : Buf (Elt F) (nxtM.view.loc (c : Thread nD τ))) :
    nxtW c (nxtM.view.writes (Elt F) fn [⟨Rect.unit (s := S1) ![0] S1.size inb_S1_S1_0,
      fun _ => Scalar.addi (Scalar.addi (fl v4) (Scalar.muli (Scf.iv 0#32 1#32 k) 1#32)) 1#32⟩]) = BitVec.ofNat 32 (C0 v4 + k + 1) := by
  unfold nxtW
  rw [View.readAt_writes_full, chunk_word h k]
  show BitVec.ofNat 32 (C0 v4 + k) + 1#32 = _
  rw [show (1#32 : BitVec 32) = BitVec.ofNat 32 1 from rfl, ← BitVec.ofNat_add]

/-- A trip whose chunk has landed: no wait. -/
theorem trip_landed (h : Okay v4 v7) (k : Fin (k0_t1_loop v4 v7).trips)
    (fn : Buf (Elt F) (nxtM.view.loc (c : Thread nD τ))) (hn : nxtW c fn = BitVec.ofNat 32 (C0 v4 + k + 1))
    (fa : Buf (Elt F) (accM.view.loc (c : Thread nD τ))) (W : Waits sig Unit)  :
    iprop(nxtP c fn ∗ accP c fa ∗ owes (c : Thread nD τ) 0 W ∗ Ring.AtW (Φs c fx) (st (C0 v4 + k + 1)))
    ⊢ wp frame (wpE (defs₀ (F := F)) 𝒱₀ (c : Thread nD τ) none) Set.univ (tripG i M3 h3 M4 h4 M5 h5 M6 h6 M7 h7 M8 h8 M9 h9 M10 h10 M11 h11 M12 h12 v4 v7 hw v64 v65 v70 v75 k)
      (fun _ => iprop(nxtP c fn ∗ (∃ f, accP c f ∗ ⌜accV c f = accNext c fx v4 v7 v64 v65 v70 k ⟨C0 v4 + k, chunk_lt h k⟩ (accV c fa)⌝)
        ∗ (∃ W, owes (c : Thread nD τ) 0 W) ∗ Ring.AtW (Φs c fx) (st (C0 v4 + k + 1)))) := by
  have hc := chunk_lt h k
  have hchk : k0_chk2 v4 v7 k (nxtW c fn) := chk2 h k _
  have hno : ¬ (k0_cond2 v4 v7 k (nxtW c fn) = 1#1) := by
    rw [hn, cond2_iff h k _ (by omega)]; omega
  rw [Ring.AtW_focus (Φs c fx) (st (C0 v4 + k + 1)) (sl (C0 v4 + k)), st_landed hc]
  iintro ⟨Hn, Ha, HO, HS, Hrest⟩
  simp only [Φs]
  icases HS with ⟨Hcell, ⟨%f, Hslot⟩, Htok⟩
  have hbox := box_sub (s := sl (C0 v4 + k)) (off11_eq h k) (k0_off11_inb v4 v7 hw k)
  dsimp only [tripG]
  sl_unfold [k0_t1_body]
  rw [k0_part1_eq_skeleton]
  sl_unfold [k0_part1_skel]
  sl_exec
  sl_step
  isplitl [Hn]; · iexact Hn
  isplitl [Ha]
  · iexists _; isplitl [Ha]; · iexact Ha
    ipureintro
    rw [accV_writes]
    unfold trip_landed.sl.v290
    rw [load_landed c fx (off11_eq h k)]
  isplitl [HO]; · iexists _; iexact HO
  isplitr [Hrest]
  · isplitl [Hcell]; · iexact Hcell
    isplitl [Hslot]; · iexists _; iexact Hslot
    iexact Htok
  iexact Hrest

/-- A trip whose chunk is in flight, the last three chunks: wait, nothing to issue. -/
theorem trip_last (h : Okay v4 v7) (k : Fin (k0_t1_loop v4 v7).trips) (hl : ¬ C0 v4 + k + 3 < 3840)
    (fn : Buf (Elt F) (nxtM.view.loc (c : Thread nD τ))) (hn : nxtW c fn = BitVec.ofNat 32 (C0 v4 + k))
    (fa : Buf (Elt F) (accM.view.loc (c : Thread nD τ))) (W : Waits sig Unit)  :
    iprop(nxtP c fn ∗ accP c fa ∗ owes (c : Thread nD τ) 0 W ∗ Ring.AtW (Φs c fx) (st (C0 v4 + k)))
    ⊢ wp frame (wpE (defs₀ (F := F)) 𝒱₀ (c : Thread nD τ) none) Set.univ (tripG i M3 h3 M4 h4 M5 h5 M6 h6 M7 h7 M8 h8 M9 h9 M10 h10 M11 h11 M12 h12 v4 v7 hw v64 v65 v70 v75 k)
      (fun _ => iprop((∃ f, nxtP c f ∗ ⌜nxtW c f = BitVec.ofNat 32 (C0 v4 + k + 1)⌝)
        ∗ (∃ f, accP c f ∗ ⌜accV c f = accNext c fx v4 v7 v64 v65 v70 k ⟨C0 v4 + k, chunk_lt h k⟩ (accV c fa)⌝)
        ∗ (∃ W, owes (c : Thread nD τ) 0 W) ∗ Ring.AtW (Φs c fx) (st (C0 v4 + k + 1)))) := by
  have hc := chunk_lt h k
  have hchk : k0_chk2 v4 v7 k (nxtW c fn) := chk2 h k _
  have hyes : k0_cond2 v4 v7 k (nxtW c fn) = 1#1 := by
    rw [hn, cond2_iff h k _ (by omega)]
  have hno : ¬ (k0_cond3 v4 v7 k = 1#1) := by rw [cond3_iff h k]; exact hl
  have hij : sl (C0 v4 + k + 3) ≠ sl (C0 v4 + k) := by
    intro e; have := congrArg Fin.val e; revert this; show (C0 v4 + k + 3) % 4 ≠ (C0 v4 + k) % 4; omega
  rw [Ring.AtW_focus (σ := fun _ => Slot) (Φs c fx) (st (C0 v4 + k)) (sl (C0 v4 + k)), st_fly (le_refl _) (by omega) hc]
  iintro ⟨Hn, Ha, HO, HS, Hrest⟩
  simp only [Φs]
  icases HS with ⟨⟨%f, Hfl⟩, Htok⟩
  have hbox := box_sub (s := sl (C0 v4 + k)) (off11_eq h k) (k0_off11_inb v4 v7 hw k)
  dsimp only [tripG]
  sl_unfold [k0_t1_body]
  rw [k0_part1_eq_skeleton]
  sl_unfold [k0_part1_skel]
  sl_exec
  sl_step
  isplitl [Hn]
  · iexists _; isplitl [Hn]; · iexact Hn
    ipureintro
    exact nxt_bump c v4 v7 h k fn
  isplitl [Ha]
  · iexists _; isplitl [Ha]; · iexact Ha
    ipureintro
    rw [accV_writes]
    unfold trip_last.sl.v290
    rw [load_landed c fx (off11_eq h k)]
  isplitl [HO]; · iexists _; iexact HO
  iapply (ring_last c fx hc hl)
  isplitr [Hrest]
  · simp only [Φs]
    isplitl [Hfl]; · iexact Hfl
    isplitl [Hfl_dst]; · iexists _; iexact Hfl_dst
    iexact Htok
  iexact Hrest

/-- A trip whose chunk is in flight: wait for it, issue the chunk three ahead. -/
theorem trip_issue (h : Okay v4 v7) (k : Fin (k0_t1_loop v4 v7).trips) (hl : C0 v4 + k + 3 < 3840)
    (fn : Buf (Elt F) (nxtM.view.loc (c : Thread nD τ))) (hn : nxtW c fn = BitVec.ofNat 32 (C0 v4 + k))
    (fa : Buf (Elt F) (accM.view.loc (c : Thread nD τ))) (W : Waits sig Unit)  :
    iprop(nxtP c fn ∗ accP c fa ∗ owes (c : Thread nD τ) 0 W ∗ Ring.AtW (Φs c fx) (st (C0 v4 + k)))
    ⊢ wp frame (wpE (defs₀ (F := F)) 𝒱₀ (c : Thread nD τ) none) Set.univ (tripG i M3 h3 M4 h4 M5 h5 M6 h6 M7 h7 M8 h8 M9 h9 M10 h10 M11 h11 M12 h12 v4 v7 hw v64 v65 v70 v75 k)
      (fun _ => iprop((∃ f, nxtP c f ∗ ⌜nxtW c f = BitVec.ofNat 32 (C0 v4 + k + 1)⌝)
        ∗ (∃ f, accP c f ∗ ⌜accV c f = accNext c fx v4 v7 v64 v65 v70 k ⟨C0 v4 + k, chunk_lt h k⟩ (accV c fa)⌝)
        ∗ (∃ W, owes (c : Thread nD τ) 0 W) ∗ Ring.AtW (Φs c fx) (st (C0 v4 + k + 1)))) := by
  have hc := chunk_lt h k
  have hchk : k0_chk2 v4 v7 k (nxtW c fn) := chk2 h k _
  have hyes : k0_cond2 v4 v7 k (nxtW c fn) = 1#1 := by
    rw [hn, cond2_iff h k _ (by omega)]
  have hyes3 : k0_cond3 v4 v7 k = 1#1 := by rw [cond3_iff h k]; exact hl
  rw [Ring.AtW_focus2 (Φs c fx) (st (C0 v4 + k)) (sl_ne (C0 v4 + k)), st_fly (le_refl _) (by omega) hc]
  iintro ⟨Hn, Ha, HO, HS, HS3, Hrest⟩
  ihave HS3 := (st_old_free c fx (C0 v4 + k)) $$ HS3
  simp only [Φs]
  icases HS with ⟨⟨%f, Hfl⟩, Htok⟩
  icases HS3 with ⟨Hcell3, ⟨%f3, Hslot3⟩, Htok3⟩
  have hbox := box_sub (s := sl (C0 v4 + k)) (off11_eq h k) (k0_off11_inb v4 v7 hw k)
  dsimp only [tripG]
  sl_unfold [k0_t1_body]
  rw [k0_part1_eq_skeleton]
  sl_unfold [k0_part1_skel]
  sl_exec
  sl_step
  isplitl [Hn]
  · iexists _; isplitl [Hn]; · iexact Hn
    ipureintro
    exact nxt_bump c v4 v7 h k fn
  isplitl [Ha]
  · iexists _; isplitl [Ha]; · iexact Ha
    ipureintro
    rw [accV_writes]
    unfold trip_issue.sl.v290
    rw [load_landed c fx (off11_eq h k)]
  isplitl [HO]; · iexists _; iexact HO
  iapply (ring_issue c fx hc hl)
  isplitl [Hfl Hfl_dst Htok]
  · simp only [Φs]
    isplitl [Hfl]; · iexact Hfl
    isplitl [Hfl_dst]; · iexists _; iexact Hfl_dst
    iexact Htok
  isplitr [Hrest]
  · simp only [Φs]
    isplitl [Hcell3]; · iexists f3; iexact Hcell3
    iexact Htok3
  iexact Hrest
/-- The accumulator after the first `k` trips from `a`. -/
def fold (h : Okay v4 v7) (a : Vec F S256x256 .f32) : ℕ → Vec F S256x256 .f32
  | 0 => a
  | k + 1 => if hk : k < (k0_t1_loop v4 v7).trips then
      accNext c fx v4 v7 v64 v65 v70 ⟨k, hk⟩ ⟨C0 v4 + k, chunk_lt h ⟨k, hk⟩⟩ (fold h a k) else fold h a k

theorem fold_succ (h : Okay v4 v7) (a : Vec F S256x256 .f32) (k : Fin (k0_t1_loop v4 v7).trips) :
    fold c fx v4 v7 v64 v65 v70 h a (k + 1) = accNext c fx v4 v7 v64 v65 v70 k ⟨C0 v4 + k, chunk_lt h k⟩ (fold c fx v4 v7 v64 v65 v70 h a k) := by
  rw [fold, dif_pos k.isLt]

/-- Before trip `k`, the counter `N` on entry: the counter and the ring are at the larger of `N` and the next chunk,
    the accumulator holds the first `k` chunks' sums. -/
abbrev inv (h : Okay v4 v7) (N : ℕ) (a : Vec F S256x256 .f32) (k : ℕ) : sProp 𝕄 :=
  iprop(∃ (fn : Buf (Elt F) (nxtM.view.loc (c : Thread nD τ))) (fa : Buf (Elt F) (accM.view.loc (c : Thread nD τ))) (W : Waits sig Unit),
    nxtP c fn ∗ accP c fa ∗ owes (c : Thread nD τ) 0 W ∗ Ring.AtW (σ := fun _ => Slot) (Φs c fx) (st (max N (C0 v4 + k)))
      ∗ ⌜nxtW c fn = BitVec.ofNat 32 (max N (C0 v4 + k))⌝ ∗ ⌜accV c fa = fold c fx v4 v7 v64 v65 v70 h a k⌝)

theorem trip_any (h : Okay v4 v7) (N : ℕ) (hN : N = C0 v4 ∨ N = C0 v4 + 1) (a : Vec F S256x256 .f32) (k : Fin (k0_t1_loop v4 v7).trips) :
    inv c fx v4 v7 v64 v65 v70 h N a k
    ⊢ wp frame (wpE (defs₀ (F := F)) 𝒱₀ (c : Thread nD τ) none) Set.univ (tripG i M3 h3 M4 h4 M5 h5 M6 h6 M7 h7 M8 h8 M9 h9 M10 h10 M11 h11 M12 h12 v4 v7 hw v64 v65 v70 v75 k)
      (fun _ => inv c fx v4 v7 v64 v65 v70 h N a (k + 1)) := by
  unfold inv
  iintro ⟨%fn, %fa, %W, Hn, Ha, HO, HR, %hn, %ha⟩
  by_cases hk : N = C0 v4 + k + 1
  · rw [show max N (C0 v4 + ↑k) = C0 v4 + k + 1 by omega] at hn ⊢
    rw [show max N (C0 v4 + (↑k + 1)) = C0 v4 + k + 1 by omega]
    iapply (wp_wand_r frame (wpE (defs₀ (F := F)) 𝒱₀ (c : Thread nD τ) none) Set.univ)
    isplitl [Hn Ha HO HR]
    · iapply (trip_landed c fx i M3 h3 M4 h4 M5 h5 M6 h6 M7 h7 M8 h8 M9 h9 M10 h10 M11 h11 M12 h12 v4 v7 hw v64 v65 v70 v75 h k fn hn fa W)
      isplitl [Hn]; · iexact Hn
      isplitl [Ha]; · iexact Ha
      isplitl [HO]; · iexact HO
      iexact HR
    iintro %_ ⟨Hn, ⟨%fa', Ha, %ha'⟩, ⟨%W', HO⟩, HR⟩
    iexists fn; iexists fa'; iexists W'
    isplitl [Hn]; · iexact Hn
    isplitl [Ha]; · iexact Ha
    isplitl [HO]; · iexact HO
    isplitl [HR]; · iexact HR
    isplitr; · ipureintro; exact hn
    ipureintro; rw [ha', ha, fold_succ]
  · rw [show max N (C0 v4 + ↑k) = C0 v4 + k by omega] at hn ⊢
    rw [show max N (C0 v4 + (↑k + 1)) = C0 v4 + k + 1 by omega]
    iapply (wp_wand_r frame (wpE (defs₀ (F := F)) 𝒱₀ (c : Thread nD τ) none) Set.univ)
    isplitl [Hn Ha HO HR]
    · by_cases hl : C0 v4 + k + 3 < 3840
      · iapply (trip_issue c fx i M3 h3 M4 h4 M5 h5 M6 h6 M7 h7 M8 h8 M9 h9 M10 h10 M11 h11 M12 h12 v4 v7 hw v64 v65 v70 v75 h k hl fn hn fa W)
        isplitl [Hn]; · iexact Hn
        isplitl [Ha]; · iexact Ha
        isplitl [HO]; · iexact HO
        iexact HR
      · iapply (trip_last c fx i M3 h3 M4 h4 M5 h5 M6 h6 M7 h7 M8 h8 M9 h9 M10 h10 M11 h11 M12 h12 v4 v7 hw v64 v65 v70 v75 h k hl fn hn fa W)
        isplitl [Hn]; · iexact Hn
        isplitl [Ha]; · iexact Ha
        isplitl [HO]; · iexact HO
        iexact HR
    iintro %_ ⟨⟨%fn', Hn, %hn'⟩, ⟨%fa', Ha, %ha'⟩, ⟨%W', HO⟩, HR⟩
    iexists fn'; iexists fa'; iexists W'
    isplitl [Hn]; · iexact Hn
    isplitl [Ha]; · iexact Ha
    isplitl [HO]; · iexact HO
    isplitl [HR]; · iexact HR
    isplitr; · ipureintro; exact hn'
    ipureintro; rw [ha', ha, fold_succ]

theorem accV_eq (f : Buf (Elt F) (accM.view.loc (c : Thread nD τ))) : accV c f = f := View.readAt_full _ _ _

end Trip

end Cert.Proof.K

end
-- ==== Proof.KOut.lean ====
/-
  What one grid point of the `rows` kernel stores: the four output blocks as functions of the accumulator and of the
  blocks of the weights and of the three per-row scalars. Each output is stored in two halves.
-/
module

public import proofs.«01_k».proof.Proof.KTrip

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- Two windows that together cover the shape hide what was there before. -/
theorem put_cover {α : Type} {s : Shape} (x x' : s.Idx → α) (o0 z0 o1 z1 : Fin s.rank → ℕ) (w0 : ((a : Fin s.rank) → Fin (z0 a)) → α) (w1 : ((a : Fin s.rank) → Fin (z1 a)) → α)
    (h : ∀ y : s.Idx, (∀ a, o0 a ≤ (y a).val ∧ (y a).val < o0 a + z0 a) ∨ (∀ a, o1 a ≤ (y a).val ∧ (y a).val < o1 a + z1 a)) :
    VecWindow.put (VecWindow.put x o0 z0 w0) o1 z1 w1 = VecWindow.put (VecWindow.put x' o0 z0 w0) o1 z1 w1 := by
  funext y
  unfold VecWindow.put
  by_cases h1 : ∀ a, o1 a ≤ (y a).val ∧ (y a).val < o1 a + z1 a
  · rw [dif_pos h1, dif_pos h1]
  · rw [dif_neg h1, dif_neg h1]
    have h0 := (h y).resolve_right h1
    rw [dif_pos h0, dif_pos h0]

/-- The two halves of a block of codes, and of a block of per-row values. -/
def halves2 (w0 w1 : Vec F S128x256 .i8) : Vec F S256x256 .i8 :=
  VecWindow.put (s := S256x256) (VecWindow.put (s := S256x256) (fun _ => (0#8 : BitVec 8)) ![0, 0] S128x256.size w0) ![128, 0] S128x256.size w1
def halves3 (w0 w1 : Vec F S1x1x128 .f32) : Vec F S1x2x128 .f32 :=
  VecWindow.put (s := S1x2x128) (VecWindow.put (s := S1x2x128) (fun _ => w0 (Shape.Idx.first (show 0 < S1x1x128.numel by decide))) ![0, 0, 0] S1x1x128.size w0) ![0, 1, 0] S1x1x128.size w1

theorem cover2 (y : S256x256.Idx) : (∀ a, (![0, 0] : Fin 2 → ℕ) a ≤ (y a).val ∧ (y a).val < (![0, 0] : Fin 2 → ℕ) a + S128x256.size a)
    ∨ (∀ a, (![128, 0] : Fin 2 → ℕ) a ≤ (y a).val ∧ (y a).val < (![128, 0] : Fin 2 → ℕ) a + S128x256.size a) := by
  have e0 : (y 0).val < 256 := (y 0).isLt
  have e1 : (y 1).val < 256 := (y 1).isLt
  by_cases h : (y 0).val < 128
  · left
    refine Fin.forall_fin_two.2 ⟨⟨Nat.zero_le _, ?_⟩, ⟨Nat.zero_le _, ?_⟩⟩
    · show (y 0).val < 0 + 128; omega
    · show (y 1).val < 0 + 256; omega
  · right
    refine Fin.forall_fin_two.2 ⟨⟨?_, ?_⟩, ⟨Nat.zero_le _, ?_⟩⟩
    · show 128 ≤ (y 0).val; omega
    · show (y 0).val < 128 + 128; omega
    · show (y 1).val < 0 + 256; omega

theorem cover3 (y : S1x2x128.Idx) : (∀ a, (![0, 0, 0] : Fin 3 → ℕ) a ≤ (y a).val ∧ (y a).val < (![0, 0, 0] : Fin 3 → ℕ) a + S1x1x128.size a)
    ∨ (∀ a, (![0, 1, 0] : Fin 3 → ℕ) a ≤ (y a).val ∧ (y a).val < (![0, 1, 0] : Fin 3 → ℕ) a + S1x1x128.size a) := by
  have e0 : (y 0).val < 1 := (y 0).isLt
  have e1 : (y 1).val < 2 := (y 1).isLt
  have e2 : (y 2).val < 128 := (y 2).isLt
  by_cases h : (y 1).val < 1
  · left
    refine Fin.forall_fin_succ.2 ⟨⟨Nat.zero_le _, ?_⟩, Fin.forall_fin_two.2 ⟨⟨Nat.zero_le _, ?_⟩, ⟨Nat.zero_le _, ?_⟩⟩⟩
    · show (y 0).val < 0 + 1; omega
    · show (y 1).val < 0 + 1; omega
    · show (y 2).val < 0 + 128; omega
  · right
    refine Fin.forall_fin_succ.2 ⟨⟨Nat.zero_le _, ?_⟩, Fin.forall_fin_two.2 ⟨⟨?_, ?_⟩, ⟨Nat.zero_le _, ?_⟩⟩⟩
    · show (y 0).val < 0 + 1; omega
    · show 1 ≤ (y 1).val; omega
    · show (y 1).val < 1 + 1; omega
    · show (y 2).val < 0 + 128; omega

theorem read_halves2 {sp : Space} (M : Memref sig .tc sp S256x256 .i8) (g : M.view.ty.Contents (Elt F)) (i0 i1) (w0 w1 : Vec F S128x256 .i8) :
    M.view.read (Elt F) (M.view.writes (Elt F) g [⟨Rect.unit ![128, 0] S128x256.size i1, w1⟩, ⟨Rect.unit ![0, 0] S128x256.size i0, w0⟩]) = halves2 w0 w1 := by
  rw [View.read_writes_cons_put _ _ _ _ _ rfl, View.read_writes_cons_put _ _ _ _ _ rfl]
  exact put_cover _ _ _ _ _ _ _ _ cover2

theorem read_halves3 {sp : Space} (M : Memref sig .tc sp S1x2x128 .f32) (g : M.view.ty.Contents (Elt F)) (i0 i1) (w0 w1 : Vec F S1x1x128 .f32) :
    M.view.read (Elt F) (M.view.writes (Elt F) g [⟨Rect.unit ![0, 1, 0] S1x1x128.size i1, w1⟩, ⟨Rect.unit ![0, 0, 0] S1x1x128.size i0, w0⟩]) = halves3 w0 w1 := by
  rw [View.read_writes_cons_put _ _ _ _ _ rfl, View.read_writes_cons_put _ _ _ _ _ rfl]
  exact put_cover _ _ _ _ _ _ _ _ cover3

/-! The upper and the lower half of a block. -/

abbrev topA {e : EltTy} (X : Vec F S256x256 e) : Vec F S128x256 e := VecWindow.window (s := S256x256) X ![0, 0] S128x256.size (by decide)
abbrev botA {e : EltTy} (X : Vec F S256x256 e) : Vec F S128x256 e := VecWindow.window (s := S256x256) X ![128, 0] S128x256.size (by decide)
abbrev topS {e : EltTy} (X : Vec F S1x2x128 e) : Vec F S1x1x128 e := VecWindow.window (s := S1x2x128) X ![0, 0, 0] S1x1x128.size (by decide)
abbrev botS {e : EltTy} (X : Vec F S1x2x128 e) : Vec F S1x1x128 e := VecWindow.window (s := S1x2x128) X ![0, 1, 0] S1x1x128.size (by decide)

section Out
variable (A : Vec F S256x256 .f32) (X3 : Vec F S256x256 .i8) (X6 X7 X8 : Vec F S1x2x128 .f32)

/-- The upper half: the new momenta, the smallest new weight, the scale, the codes. -/
def mom0 : FVec F S128x128 .f32 := k0_pay21 (topA A) (topS X8)
def min0 : FVec F S128x128 .f32 := k0_pay25 (k0_pay14 (topA A)) (k0_pay15 (topA A)) (k0_pay19 (topS X6) (topS X7) (topA X3)) (k0_pay20 (topS X6) (topS X7) (topA X3)) (mom0 A X8)
def scl0 : FVec F S128x128 .f32 := k0_pay26 (k0_pay14 (topA A)) (k0_pay15 (topA A)) (k0_pay19 (topS X6) (topS X7) (topA X3)) (k0_pay20 (topS X6) (topS X7) (topA X3)) (mom0 A X8)
def cod0 : IVec S128x256 8 := k0_pay27 (k0_pay14 (topA A)) (k0_pay15 (topA A)) (k0_pay19 (topS X6) (topS X7) (topA X3)) (k0_pay20 (topS X6) (topS X7) (topA X3)) (mom0 A X8)
/-- The lower half. -/
def mom1 : FVec F S128x128 .f32 := k0_pay37 (k0_pay31 (botA A)) (k0_pay32 (botA A)) (k0_pay35 (botS X8))
def hi1 : FVec F S128x128 .f32 := k0_pay40 (k0_pay31 (botA A)) (k0_pay32 (botA A)) (k0_pay33 (botS X6)) (k0_pay34 (botS X7)) (k0_pay35 (botS X8)) (botA X3)
def min1 : FVec F S128x128 .f32 := k0_pay41 (k0_pay31 (botA A)) (k0_pay32 (botA A)) (k0_pay33 (botS X6)) (k0_pay34 (botS X7)) (k0_pay35 (botS X8)) (botA X3)
def scl1 : FVec F S128x128 .f32 := k0_pay42 (k0_pay31 (botA A)) (k0_pay32 (botA A)) (k0_pay33 (botS X6)) (k0_pay34 (botS X7)) (k0_pay35 (botS X8)) (botA X3)
def q1 : FVec F S128x128 .f32 := k0_pay43 (k0_pay31 (botA A)) (k0_pay32 (botA A)) (k0_pay33 (botS X6)) (k0_pay34 (botS X7)) (k0_pay35 (botS X8)) (botA X3)
def cod1 : IVec S128x256 8 := k0_pay1 (hi1 A X3 X6 X7 X8) (min1 A X3 X6 X7 X8) (scl1 A X3 X6 X7 X8) (q1 A X3 X6 X7 X8) 0#32

/-- The four blocks stored. -/
def out9 : Vec F S256x256 .i8 := halves2 (cod0 A X3 X6 X7 X8) (cod1 A X3 X6 X7 X8)
def out10 : Vec F S1x2x128 .f32 := halves3 (k0_pay28 (scl0 A X3 X6 X7 X8)) (k0_pay2 (scl1 A X3 X6 X7 X8))
def out11 : Vec F S1x2x128 .f32 := halves3 (k0_pay29 (min0 A X3 X6 X7 X8)) (k0_pay3 (min1 A X3 X6 X7 X8))
def out12 : Vec F S1x2x128 .f32 := halves3 (k0_pay30 (mom0 A X8)) (k0_pay4 (mom1 A X8))
end Out

/-- The bounds of the runs of a block's rows, the row numbers of a chunk, and the sums of the block's rows. -/
def startW (X4 : Vec F S1x2x128 .i32) : IVec S256x128 32 := k0_pay9 (F := F) (topS X4) (botS X4)
def endW (X5 : Vec F S1x2x128 .i32) : IVec S256x128 32 := k0_pay10 (F := F) (topS X5) (botS X5)
def iotaW : IVec S256x128 32 := iota .tc S256x128 32 [1] iota_S256x128_d1_w32

def tileAcc (c : Dev nD) (fx : Buf (Elt F) (xM.view.loc (c : Thread nD τ))) (v4 v7 : BitVec 32) (X4 X5 : Vec F S1x2x128 .i32) (h : Okay v4 v7) : Vec F S256x256 .f32 :=
  fold c fx v4 v7 (startW X4) (endW X5) iotaW h (k0_pay11 (F := F)) (k0_t1_loop v4 v7).trips

end Cert.Proof.K

end
-- ==== Proof.KBody.lean ====
/-
  The body of the `rows` kernel at one grid point: the prologue (first point only), the two words of the offset
  table, the chunk loop by its invariant, then the update and the quantisation of the 256 rows in two halves.
-/
module

public import proofs.«01_k».proof.Proof.KOut

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (fx : Buf (Elt F) (xM.view.loc (c : Thread nD τ))) (ftab : Buf (Elt F) (tabM.view.loc (c : Thread nD τ))) (i : grid0.Coords)
  (M3 : Memref sig .tc .vmem S256x256 .i8) (h3 : M3.IsWhole) (M4 : Memref sig .tc .vmem S1x2x128 .i32) (h4 : M4.IsWhole)
  (M5 : Memref sig .tc .vmem S1x2x128 .i32) (h5 : M5.IsWhole) (M6 : Memref sig .tc .vmem S1x2x128 .f32) (h6 : M6.IsWhole)
  (M7 : Memref sig .tc .vmem S1x2x128 .f32) (h7 : M7.IsWhole) (M8 : Memref sig .tc .vmem S1x2x128 .f32) (h8 : M8.IsWhole)
  (M9 : Memref sig .tc .vmem S256x256 .i8) (h9 : M9.IsWhole) (M10 : Memref sig .tc .vmem S1x2x128 .f32) (h10 : M10.IsWhole)
  (M11 : Memref sig .tc .vmem S1x2x128 .f32) (h11 : M11.IsWhole) (M12 : Memref sig .tc .vmem S1x2x128 .f32) (h12 : M12.IsWhole)
  (g3 : Buf (Elt F) (M3.view.loc (c : Thread nD τ))) (g4 : Buf (Elt F) (M4.view.loc (c : Thread nD τ))) (g5 : Buf (Elt F) (M5.view.loc (c : Thread nD τ)))
  (g6 : Buf (Elt F) (M6.view.loc (c : Thread nD τ))) (g7 : Buf (Elt F) (M7.view.loc (c : Thread nD τ))) (g8 : Buf (Elt F) (M8.view.loc (c : Thread nD τ)))
  (g9 : Buf (Elt F) (M9.view.loc (c : Thread nD τ))) (g10 : Buf (Elt F) (M10.view.loc (c : Thread nD τ))) (g11 : Buf (Elt F) (M11.view.loc (c : Thread nD τ)))
  (g12 : Buf (Elt F) (M12.view.loc (c : Thread nD τ)))

/-- The table's word at this grid point, and the next. -/
abbrev w4 : BitVec 32 := tabM.view.readAt (Elt F) (Rect.unit (s := S481) (k0_off3 i) S1.size (k0_off3_inb i)).toLoadRect ftab (Shape.Idx.first (show 0 < S1.numel by decide))
abbrev w7 : BitVec 32 := tabM.view.readAt (Elt F) (Rect.unit (s := S481) (k0_off4 i) S1.size (k0_off4_inb i)).toLoadRect ftab (Shape.Idx.first (show 0 < S1.numel by decide))

abbrev bodyG : Prog (TpuEff nD τ sig (Elt F) Λ₀ .tc) Unit :=
  cc0_rows (F := F) i tabM (Memref.isWhole_whole _) xM (Memref.isWhole_whole _) M3 h3 M4 h4 M5 h5 M6 h6 M7 h7 M8 h8 M9 h9 M10 h10 M11 h11 M12 h12
    ringM (Memref.isWhole_whole _) accM (Memref.isWhole_whole _) cc0_scratch2 nxtM (Memref.isWhole_whole _)

/-- A whole staging buffer held at `g`. -/
abbrev holdP {sp : Space} {s : Shape} {e : EltTy} (c : Dev nD) (M : Memref sig .tc sp s e) (g : Buf (Elt F) (M.view.loc (c : Thread nD τ))) : sProp 𝕄 :=
  M.view.loc (c : Thread nD τ) ↦[M.view.set]{fullShare} g
abbrev tabP (q : PosShare TreeShare) : sProp 𝕄 := tabM.view.loc (c : Thread nD τ) ↦{q} ftab

abbrev insP (q : PosShare TreeShare) : sProp 𝕄 := iprop(tabP c ftab q ∗ holdP c M3 g3 ∗ holdP c M4 g4 ∗ holdP c M5 g5 ∗ holdP c M6 g6 ∗ holdP c M7 g7 ∗ holdP c M8 g8)

/-- The block's sums at this grid point. -/
abbrev accT (h : Okay (w4 c ftab i) (w7 c ftab i)) : Vec F S256x256 .f32 :=
  tileAcc c fx (w4 c ftab i) (w7 c ftab i) (M4.view.read (Elt F) g4) (M5.view.read (Elt F) g5) h

abbrev outsP (A : Vec F S256x256 .f32) (X3 : Vec F S256x256 .i8) (X6 X7 X8 : Vec F S1x2x128 .f32) : sProp 𝕄 :=
  iprop(owns (c : Thread nD τ) M9 fullShare (out9 A X3 X6 X7 X8) ∗ owns (c : Thread nD τ) M10 fullShare (out10 A X3 X6 X7 X8)
    ∗ owns (c : Thread nD τ) M11 fullShare (out11 A X3 X6 X7 X8) ∗ owns (c : Thread nD τ) M12 fullShare (out12 A X8))

/-- The kernel's own state with `N` chunks fetched: the counter, the accumulator, the ring. -/
abbrev finP (N : ℕ) : sProp 𝕄 :=
  iprop((∃ fn : Buf (Elt F) (nxtM.view.loc (c : Thread nD τ)), nxtP c fn ∗ ⌜nxtW c fn = BitVec.ofNat 32 N⌝)
    ∗ (∃ fa : Buf (Elt F) (accM.view.loc (c : Thread nD τ)), accP c fa)
    ∗ Ring.AtW (σ := fun _ => Slot) (Φs c fx) (st N) ∗ (∃ W : Waits sig Unit, owes (c : Thread nD τ) 0 W))

theorem next_count {v4 v7 : BitVec 32} (h : Okay v4 v7) : max (C1 v4) (C0 v4 + (k0_t1_loop v4 v7).trips) = C1 v7 := by
  rw [trips_eq h]
  have h1 : v4.toNat ≤ v7.toNat := h.1
  have e4 : C1 v4 = (v4.toNat + 255) / 256 := rfl
  have e0 : C0 v4 = v4.toNat / 256 := rfl
  have e7 : C1 v7 = (v7.toNat + 255) / 256 := rfl
  omega

theorem count_cases (v4 : BitVec 32) : C1 v4 = C0 v4 ∨ C1 v4 = C0 v4 + 1 := by
  have e4 : C1 v4 = (v4.toNat + 255) / 256 := rfl
  have e0 : C0 v4 = v4.toNat / 256 := rfl
  omega

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The ring, slot by slot. -/
theorem ring4 (s : Fin 4 → Slot) :
    (Ring.AtW (σ := fun _ => Slot) (Φs c fx) s : sProp 𝕄) ⊣⊢ iprop(Φs c fx 0 (s 0) ∗ Φs c fx 1 (s 1) ∗ Φs c fx 2 (s 2) ∗ Φs c fx 3 (s 3)) := by
  unfold Ring.AtW
  rw [bigSep_fin4]

theorem body_later (q : PosShare TreeShare) (hi : ¬ k0_cond1 i = 1#1) (h : Okay (w4 c ftab i) (w7 c ftab i)) :
    iprop(insP c ftab M3 M4 M5 M6 M7 M8 g3 g4 g5 g6 g7 g8 q
      ∗ (holdP c M9 g9 ∗ holdP c M10 g10 ∗ holdP c M11 g11 ∗ holdP c M12 g12)
      ∗ finP c fx (C1 (w4 c ftab i)))
    ⊢ wp frame (wpE (defs₀ (F := F)) 𝒱₀ (c : Thread nD τ) none) Set.univ (bodyG i M3 h3 M4 h4 M5 h5 M6 h6 M7 h7 M8 h8 M9 h9 M10 h10 M11 h11 M12 h12)
      (fun _ => iprop(insP c ftab M3 M4 M5 M6 M7 M8 g3 g4 g5 g6 g7 g8 q
        ∗ outsP c M9 M10 M11 M12 (accT c fx ftab i M4 M5 g4 g5 h) (M3.view.read (Elt F) g3) (M6.view.read (Elt F) g6) (M7.view.read (Elt F) g7) (M8.view.read (Elt F) g8)
        ∗ finP c fx (C1 (w7 c ftab i)))) := by
  have hchk : k0_chk1 (w4 c ftab i) (w7 c ftab i) := chk1 h
  have hN := count_cases (w4 c ftab i)
  iintro ⟨⟨Htab, H3, H4, H5, H6, H7, H8⟩, ⟨H9, H10, H11, H12⟩, ⟨⟨%fn, Hn, %hn⟩, ⟨%fa, Ha⟩, HR, ⟨%W, HO⟩⟩⟩
  dsimp only [bodyG]
  sl_exec
  have htr : (k0_t2_loop (body_later.sl.r c ftab i) (body_later.sl.r_1 c ftab i)).trips = 0 := trips2_eq h
  iapply (Scf.wp_for_bind frame (wpE (defs₀ (F := F)) 𝒱₀ (c : Thread nD τ) none) Set.univ _ _ _ _ _ _
    (fun k _ => inv c fx (w4 c ftab i) (w7 c ftab i) (body_later.sl.r_2 c M4 g4) (body_later.sl.r_3 c M5 g5) body_later.sl.v70 h (C1 (w4 c ftab i)) (k0_pay11 (F := F)) k)
    (fun k _ => trip_any c fx i M3 h3 M4 h4 M5 h5 M6 h6 M7 h7 M8 h8 M9 h9 M10 h10 M11 h11 M12 h12 _ _ hchk _ _ _ _ h _ hN _ k)) $$ [Hn Ha HO HR]
  · iexists fn; iexists _; iexists W
    isplitl [Hn]; · iexact Hn
    isplitl [Ha]; · iexact Ha
    isplitl [HO]; · iexact HO
    isplitl [HR]
    · rw [show max (C1 (w4 c ftab i)) (C0 (w4 c ftab i) + 0) = C1 (w4 c ftab i) by omega]; iexact HR
    isplitr
    · ipureintro; rw [hn]; congr 1; omega
    · ipureintro; unfold body_later.sl.Ha_1; exact accV_writes _ _ _
  iintro %_ ⟨%fn', %fa', %W', Hn, Ha, HO, HR, %hn', %ha'⟩
  rw [accV_eq] at ha'
  replace ha' : fa' = accT c fx ftab i M4 M5 g4 g5 h := ha'

  sl_exec
  rw [show max (C1 (w4 c ftab i)) (C0 (w4 c ftab i) + Scf.trips _ _ _) = C1 (w7 c ftab i) from next_count h] at hn' ⊢
  sl_step
  rw [← ha']
  isplitl [Htab H3 H4 H5 H6 H7 H8]
  · isplitl [Htab]; · iexact Htab
    isplitl [H3]; · iexact H3
    isplitl [H4]; · iexact H4
    isplitl [H5]; · iexact H5
    isplitl [H6]; · iexact H6
    isplitl [H7]; · iexact H7
    iexact H8
  isplitl [H9 H10 H11 H12]
  · isplitl [H9]
    · unfold owns; iexists _; isplitr; swap; · iexact H9
      ipureintro; refine (read_halves2 M9 _ _ _ _ _).trans ?_; refine congrArg₂ halves2 ?_ ?_; · rfl
      · rfl
    isplitl [H10]
    · unfold owns; iexists _; isplitr; swap; · iexact H10
      ipureintro; refine (read_halves3 M10 _ _ _ _ _).trans ?_; refine congrArg₂ halves3 ?_ ?_; · rfl
      · rfl
    isplitl [H11]
    · unfold owns; iexists _; isplitr; swap; · iexact H11
      ipureintro; refine (read_halves3 M11 _ _ _ _ _).trans ?_; refine congrArg₂ halves3 ?_ ?_; · rfl
      · rfl
    · unfold owns; iexists _; isplitr; swap; · iexact H12
      ipureintro; refine (read_halves3 M12 _ _ _ _ _).trans ?_; refine congrArg₂ halves3 ?_ ?_; · rfl
      · rfl
  isplitl [Hn]
  · iexists fn'; isplitl [Hn]; · iexact Hn
    ipureintro; exact hn'
  isplitl [Ha]; · iexists _; iexact Ha
  isplitl [HR]; · iexact HR
  iexists W'; iexact HO
theorem body_first (q : PosShare TreeShare) (hi : k0_cond1 i = 1#1) (hz : (w4 c ftab i).toNat = 0) (h : Okay (w4 c ftab i) (w7 c ftab i)) :
    iprop(insP c ftab M3 M4 M5 M6 M7 M8 g3 g4 g5 g6 g7 g8 q
      ∗ (holdP c M9 g9 ∗ holdP c M10 g10 ∗ holdP c M11 g11 ∗ holdP c M12 g12)
      ∗ ((∃ fn : Buf (Elt F) (nxtM.view.loc (c : Thread nD τ)), nxtP c fn)
        ∗ (∃ fa : Buf (Elt F) (accM.view.loc (c : Thread nD τ)), accP c fa)
        ∗ Ring.AtW (σ := fun _ => Slot) (Φs c fx) (fun _ => .free) ∗ (∃ W : Waits sig Unit, owes (c : Thread nD τ) 0 W)))
    ⊢ wp frame (wpE (defs₀ (F := F)) 𝒱₀ (c : Thread nD τ) none) Set.univ (bodyG i M3 h3 M4 h4 M5 h5 M6 h6 M7 h7 M8 h8 M9 h9 M10 h10 M11 h11 M12 h12)
      (fun _ => iprop(insP c ftab M3 M4 M5 M6 M7 M8 g3 g4 g5 g6 g7 g8 q
        ∗ outsP c M9 M10 M11 M12 (accT c fx ftab i M4 M5 g4 g5 h) (M3.view.read (Elt F) g3) (M6.view.read (Elt F) g6) (M7.view.read (Elt F) g7) (M8.view.read (Elt F) g8)
        ∗ finP c fx (C1 (w7 c ftab i)))) := by
  have hchk : k0_chk1 (w4 c ftab i) (w7 c ftab i) := chk1 h
  have hN := count_cases (w4 c ftab i)
  iintro ⟨⟨Htab, H3, H4, H5, H6, H7, H8⟩, ⟨H9, H10, H11, H12⟩, ⟨⟨%fn, Hn⟩, ⟨%fa, Ha⟩, HR, ⟨%W, HO⟩⟩⟩
  have hC : C1 (w4 c ftab i) = 0 := by
    have e4 : C1 (w4 c ftab i) = ((w4 c ftab i).toNat + 255) / 256 := rfl
    omega
  ihave HR := (ring4 c fx (fun _ => .free)).1 $$ HR
  simp only [Φs]
  icases HR with ⟨⟨Hc0, ⟨%f0, Hs0⟩, Ht0⟩, ⟨Hc1, ⟨%f1, Hs1⟩, Ht1⟩, ⟨Hc2, ⟨%f2, Hs2⟩, Ht2⟩, HF⟩
  dsimp only [bodyG]
  sl_exec
  have htr : (k0_t2_loop (body_first.sl.r_1 c ftab i) (body_first.sl.r_2 c ftab i)).trips = 0 := trips2_eq h
  iapply (Scf.wp_for_bind frame (wpE (defs₀ (F := F)) 𝒱₀ (c : Thread nD τ) none) Set.univ _ _ _ _ _ _
    (fun k _ => inv c fx (w4 c ftab i) (w7 c ftab i) (body_first.sl.r_3 c M4 g4) (body_first.sl.r_4 c M5 g5) body_first.sl.v70 h (C1 (w4 c ftab i)) (k0_pay11 (F := F)) k)
    (fun k _ => trip_any c fx i M3 h3 M4 h4 M5 h5 M6 h6 M7 h7 M8 h8 M9 h9 M10 h10 M11 h11 M12 h12 _ _ hchk _ _ _ _ h _ hN _ k)) $$ [Hn Ha HO Hc0 Ht0 Hc1 Ht1 Hc2 Ht2 HF]
  · iexists _; iexists _; iexists W
    isplitl [Hn]; · iexact Hn
    isplitl [Ha]; · iexact Ha
    isplitl [HO]; · iexact HO
    isplitl [Hc0 Ht0 Hc1 Ht1 Hc2 Ht2 HF]
    · rw [show max (C1 (w4 c ftab i)) (C0 (w4 c ftab i) + 0) = 0 by omega]
      iapply (ring4 c fx (st 0)).2
      isplitl [Hc0 Ht0]
      · iapply (show flyP c fx 0 0 ⊢ Φs c fx 0 (st 0 0) from .rfl)
        isplitl [Hc0]; · iexists f0; iexact Hc0
        iexact Ht0
      isplitl [Hc1 Ht1]
      · iapply (show flyP c fx 1 1 ⊢ Φs c fx 1 (st 0 1) from .rfl)
        isplitl [Hc1]; · iexists f1; iexact Hc1
        iexact Ht1
      isplitl [Hc2 Ht2]
      · iapply (show flyP c fx 2 2 ⊢ Φs c fx 2 (st 0 2) from .rfl)
        isplitl [Hc2]; · iexists f2; iexact Hc2
        iexact Ht2
      iapply (show freeP c fx 3 ⊢ Φs c fx 3 (st 0 3) from .rfl)
      iexact HF
    isplitr
    · ipureintro
      rw [show max (C1 (w4 c ftab i)) (C0 (w4 c ftab i) + 0) = 0 by omega]
      unfold nxtW body_first.sl.Hn_1
      rw [View.readAt_writes_full]
    · ipureintro; unfold body_first.sl.Ha_1; exact accV_writes _ _ _
  iintro %_ ⟨%fn', %fa', %W', Hn, Ha, HO, HR, %hn', %ha'⟩
  rw [accV_eq] at ha'
  replace ha' : fa' = accT c fx ftab i M4 M5 g4 g5 h := ha'

  sl_exec
  rw [show max (C1 (w4 c ftab i)) (C0 (w4 c ftab i) + Scf.trips _ _ _) = C1 (w7 c ftab i) from next_count h] at hn' ⊢
  sl_step
  rw [← ha']
  isplitl [Htab H3 H4 H5 H6 H7 H8]
  · isplitl [Htab]; · iexact Htab
    isplitl [H3]; · iexact H3
    isplitl [H4]; · iexact H4
    isplitl [H5]; · iexact H5
    isplitl [H6]; · iexact H6
    isplitl [H7]; · iexact H7
    iexact H8
  isplitl [H9 H10 H11 H12]
  · isplitl [H9]
    · unfold owns; iexists _; isplitr; swap; · iexact H9
      ipureintro; refine (read_halves2 M9 _ _ _ _ _).trans ?_; refine congrArg₂ halves2 ?_ ?_; · rfl
      · rfl
    isplitl [H10]
    · unfold owns; iexists _; isplitr; swap; · iexact H10
      ipureintro; refine (read_halves3 M10 _ _ _ _ _).trans ?_; refine congrArg₂ halves3 ?_ ?_; · rfl
      · rfl
    isplitl [H11]
    · unfold owns; iexists _; isplitr; swap; · iexact H11
      ipureintro; refine (read_halves3 M11 _ _ _ _ _).trans ?_; refine congrArg₂ halves3 ?_ ?_; · rfl
      · rfl
    · unfold owns; iexists _; isplitr; swap; · iexact H12
      ipureintro; refine (read_halves3 M12 _ _ _ _ _).trans ?_; refine congrArg₂ halves3 ?_ ?_; · rfl
      · rfl
  isplitl [Hn]
  · iexists fn'; isplitl [Hn]; · iexact Hn
    ipureintro; exact hn'
  isplitl [Ha]; · iexists _; iexact Ha
  isplitl [HR]; · iexact HR
  iexists W'; iexact HO

end Body
end Cert.Proof.K

end
-- ==== Proof.KState.lean ====
/-
  The ring at the ends of the region: its buffer cut into four slots and joined back, the occurrence rows dealt into four
  read shares and joined back, and the ring's four idle slots made of these and of the four cells at zero.
-/
module

public import proofs.«01_k».proof.Proof.KBody

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

section State
variable (c : Dev nD) (fx : Buf (Elt F) (xM.view.loc (c : Thread nD τ)))

/-- The elements of slot `k`. -/
abbrev S4x (k : Fin 4) : Finset (Idx ((c : Thread nD τ).loc cc0_scratch0)) := (Rect.unit (s := S4x256x128) (slotOff k) S1x256x128.size (slotOff_inb k)).set

theorem S4x_disjoint : ∀ k k' : Fin 4, k ≠ k' → Disjoint (S4x c k) (S4x c k') :=
  Ring.lead_disjoint (s := S4x256x128) (NB := 4) 0 1 slotOff S1x256x128.size slotOff_inb (fun b => by show b.val = 1 * b.val; omega) rfl
theorem S4x_cover : (Finset.univ : Finset (Fin 4)).biUnion (S4x c) = Finset.univ :=
  Ring.lead_cover (s := S4x256x128) (NB := 4) 0 1 slotOff S1x256x128.size slotOff_inb (fun b => by show b.val = 1 * b.val; omega)
    (fun b a h => by fin_cases a <;> first | exact absurd rfl h | rfl) rfl (fun a h => by fin_cases a <;> first | exact absurd rfl h | rfl) rfl

theorem slotM_set (k : Fin 4) : (slotM k).view.set = S4x c k := (View.set_reshape _ _).trans (View.set_slice_whole _ _)

omit [FloatOps F] in
theorem slotP_eq (k : Fin 4) (f) : slotP c k f = (((c : Thread nD τ).loc cc0_scratch0) ↦[S4x c k]{fullShare} f : sProp 𝕄) :=
  congrArg (fun S => (_ ↦[S]{fullShare} f : sProp 𝕄)) (slotM_set c k)

abbrev slotsP : sProp 𝕄 := iprop((∃ f, slotP c 0 f) ∗ (∃ f, slotP c 1 f) ∗ (∃ f, slotP c 2 f) ∗ (∃ f, slotP c 3 f))

omit [FloatOps F] in
/-- The buffer whole is its four slots, and back. -/
theorem buf_split :
    iprop(∃ f : Buf (Elt F) ((c : Thread nD τ).loc cc0_scratch0), ((c : Thread nD τ).loc cc0_scratch0) ↦{fullShare} f)
      ⊢ (slotsP (F := F) c : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) (S4x c) (S4x_disjoint c) (S4x_cover c) f).trans (bigSep_fin4 _))) $$ H
  icases H2 with ⟨H0, H1, H2, H3⟩
  isplitl [H0]
  · iexists f; iapply (Entails.of_eq (slotP_eq c 0 f).symm); iexact H0
  isplitl [H1]
  · iexists f; iapply (Entails.of_eq (slotP_eq c 1 f).symm); iexact H1
  isplitl [H2]
  · iexists f; iapply (Entails.of_eq (slotP_eq c 2 f).symm); iexact H2
  · iexists f; iapply (Entails.of_eq (slotP_eq c 3 f).symm); iexact H3
omit [FloatOps F] in
theorem buf_join :
    (slotsP (F := F) c : sProp 𝕄)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) (S4x c) (S4x_disjoint c) (S4x_cover c) f0)
  irw [bigSep_fin4]
  isplitl [H0]
  · iexists f0; iapply (Entails.of_eq (slotP_eq c 0 f0)); iexact H0
  isplitl [H1]
  · iexists f1; iapply (Entails.of_eq (slotP_eq c 1 f1)); iexact H1
  isplitl [H2]
  · iexists f2; iapply (Entails.of_eq (slotP_eq c 2 f2)); iexact H2
  · iexists f3; iapply (Entails.of_eq (slotP_eq c 3 f3)); iexact H3

/-- The occurrence rows held whole, and what of them no slot holds. -/
abbrev xP (q : PosShare TreeShare) : sProp 𝕄 := xM.view.loc (c : Thread nD τ) ↦{q} fx
abbrev xRest : sProp 𝕄 := xP c fx (Transfers.shareDrop fullShare 4)
abbrev cells4 : sProp 𝕄 := iprop(cellP c 0 ∗ cellP c 1 ∗ cellP c 2 ∗ cellP c 3)

theorem ring_make : iprop(xP c fx fullShare ∗ cells4 (F := F) c ∗ slotsP (F := F) c)
    ⊢ iprop(xRest c fx ∗ Ring.AtW (σ := fun _ => Slot) (Φs c fx) (fun _ => .free)) := by
  iintro ⟨Hx, ⟨C0, C1, C2, C3⟩, ⟨B0, B1, B2, B3⟩⟩
  ihave Hx := (Transfers.pointsTo_toks_split (S := Finset.univ) fullShare 4) $$ Hx
  icases Hx with ⟨Hr, Ht⟩
  ihave Ht := (Entails.of_eq (bigSep_fin4 _)) $$ Ht
  icases Ht with ⟨T0, T1, T2, T3⟩
  isplitl [Hr]; · iexact Hr
  iapply (ring4 c fx (fun _ => .free)).2
  simp only [Φs]
  isplitl [C0 B0 T0]
  · isplitl [C0]; · iexact C0
    isplitl [B0]; · iexact B0
    iexact T0
  isplitl [C1 B1 T1]
  · isplitl [C1]; · iexact C1
    isplitl [B1]; · iexact B1
    iexact T1
  isplitl [C2 B2 T2]
  · isplitl [C2]; · iexact C2
    isplitl [B2]; · iexact B2
    iexact T2
  · isplitl [C3]; · iexact C3
    isplitl [B3]; · iexact B3
    iexact T3

theorem ring_unmake : iprop(xRest c fx ∗ Ring.AtW (σ := fun _ => Slot) (Φs c fx) (fun _ => .free))
    ⊢ iprop(xP c fx fullShare ∗ cells4 (F := F) c ∗ slotsP (F := F) c) := by
  iintro ⟨Hr, HR⟩
  ihave HR := (ring4 c fx (fun _ => .free)).1 $$ HR
  simp only [Φs]
  icases HR with ⟨⟨C0, B0, T0⟩, ⟨C1, B1, T1⟩, ⟨C2, B2, T2⟩, ⟨C3, B3, T3⟩⟩
  isplitl [Hr T0 T1 T2 T3]
  · iapply (Transfers.pointsTo_toks_join (S := Finset.univ) fullShare 4)
    isplitl [Hr]; · iexact Hr
    irw [bigSep_fin4]
    isplitl [T0]; · iexact T0
    isplitl [T1]; · iexact T1
    isplitl [T2]; · iexact T2
    iexact T3
  isplitl [C0 C1 C2 C3]
  · isplitl [C0]; · iexact C0
    isplitl [C1]; · iexact C1
    isplitl [C2]; · iexact C2
    iexact C3
  isplitl [B0]; · iexact B0
  isplitl [B1]; · iexact B1
  isplitl [B2]; · iexact B2
  iexact B3

/-- After all the chunks nothing is in flight. -/
theorem ring_end : (Ring.AtW (σ := fun _ => Slot) (Φs c fx) (st 3840) : sProp 𝕄) ⊢ Ring.AtW (σ := fun _ => Slot) (Φs c fx) (fun _ => .free) :=
  AtW_mono c fx fun k => by
    have hk := k.isLt
    have hj : ¬ 3840 + (k.val + 4 - 3840 % 4) % 4 < 3840 := by omega
    unfold st
    dsimp only
    rw [dif_neg hj]
    split
    · exact .rfl
    · split
      · exact landed_free c fx k _
      · exact .rfl

/-- The kernel's own state before point 0 (`n = 0`) and before a later one, `N` chunks fetched. -/
def stP (n N : ℕ) : sProp 𝕄 :=
  if n = 0 then iprop((∃ fn : Buf (Elt F) (nxtM.view.loc (c : Thread nD τ)), nxtP c fn)
    ∗ (∃ fa : Buf (Elt F) (accM.view.loc (c : Thread nD τ)), accP c fa)
    ∗ Ring.AtW (σ := fun _ => Slot) (Φs c fx) (fun _ => .free))
  else iprop((∃ fn : Buf (Elt F) (nxtM.view.loc (c : Thread nD τ)), nxtP c fn ∗ ⌜nxtW c fn = BitVec.ofNat 32 N⌝)
    ∗ (∃ fa : Buf (Elt F) (accM.view.loc (c : Thread nD τ)), accP c fa)
    ∗ Ring.AtW (σ := fun _ => Slot) (Φs c fx) (st N))

end State
end Cert.Proof.K

end
-- ==== Proof.KData.lean ====
/-
  The pipeline's proof data of the `rows` kernel: what each window's array holds when the region is entered, what each
  staging block holds after every grid point, and the kernel's own state between the points; and the body's obligation.
-/
module

public import proofs.«01_k».proof.Proof.KState
public import proofs.«01_k».proof.Proof.Gen.Kernel.Launch
public import Idealize.ShloMosaic.Lib.Pipeline.Regions

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-- Core `c`'s buffers at launch, and when the region is entered: the eight host operations have run. -/
abbrev V₀ (c : Dev nD) : Valuation τ sig (Elt F) := fun b => (s₀ m ρ).mem ((c : Dev nD), b)
abbrev V (c : Dev nD) (b : Ref sig .tc) : Buf (Elt F) ((c : Thread nD τ).loc b) := StableHlo.after hostOps0 (V₀ m ρ c) b

/-- The table of every 256th run offset, and the occurrence rows. -/
abbrev tab (c : Dev nD) : Buf (Elt F) (tabM.view.loc (c : Thread nD τ)) := V m ρ c main_v0
abbrev xs (c : Dev nD) : Buf (Elt F) (xM.view.loc (c : Thread nD τ)) := V m ρ c main_arg0

/-- The first and the last occurrence of tile `t`. -/
abbrev wLo (c : Dev nD) (t : Fin grid0.N) : BitVec 32 := w4 c (tab m ρ c) (grid0.coords t)
abbrev wHi (c : Dev nD) (t : Fin grid0.N) : BitVec 32 := w7 c (tab m ρ c) (grid0.coords t)

/-- What the run offsets are asked: the tiles' bounds in order, from 0 to the number of occurrences. -/
structure Good : Prop where
  okay : ∀ c t, Okay (wLo m ρ c t) (wHi m ρ c t)
  zero : ∀ c (t : Fin grid0.N), t.val = 0 → (wLo m ρ c t).toNat = 0
  next : ∀ c (t t' : Fin grid0.N), t'.val = t.val + 1 → wHi m ρ c t = wLo m ρ c t'
  last : ∀ c (t : Fin grid0.N), t.val + 1 = grid0.N → (wHi m ρ c t).toNat = 983040

/-- The chunks fetched before tile `n`. -/
def cnt (c : Dev nD) (n : ℕ) : ℕ := if h : n < grid0.N then C1 (wLo m ρ c ⟨n, h⟩) else 3840

theorem cnt_at (c : Dev nD) (t : Fin grid0.N) : cnt m ρ c t.val = C1 (wLo m ρ c t) := dif_pos t.isLt
theorem cnt_succ (hG : Good m ρ) (c : Dev nD) (t : Fin grid0.N) : cnt m ρ c (t.val + 1) = C1 (wHi m ρ c t) := by
  unfold cnt
  by_cases h : t.val + 1 < grid0.N
  · rw [dif_pos h, hG.next c t ⟨t.val + 1, h⟩ rfl]
  · rw [dif_neg h]
    have e : C1 (wHi m ρ c t) = ((wHi m ρ c t).toNat + 255) / 256 := rfl
    rw [e, hG.last c t (by have := t.isLt; omega)]

/-- The prefetched table's contents (there is one core). -/
abbrev adm : (p : Fin 1) → (pcfgs (F := F) p).Adm := fun _ => ⟨fun k => V m ρ 0 (pre0.ref k), trivial⟩
abbrev cfgA : Cfg sig Λ₀ := cfg0 (adm m ρ 0)

/-- Each window's array at the region's entry, and the block the window holds at point `t`. -/
def AA (c : Dev nD) (w : Fin 10) : Buf (Elt F) (((cfgA m ρ).win w).arr.view.loc (c.tc : Thread nD τ)) := V m ρ c (Pipeline.arrRef spec0 w)
def XX (c : Dev nD) (w : Fin 10) (t : Fin grid0.N) : (spec0 w).block.Idx → Elt F (spec0 w).elt :=
  Pipeline.heldIn (cfgA m ρ) (AA m ρ c) w t.val t.isLt

/-- Tile `t`'s sums. -/
def accAt (hG : Good m ρ) (c : Dev nD) (t : Fin grid0.N) : Vec F S256x256 .f32 :=
  tileAcc c (xs m ρ c) (wLo m ρ c t) (wHi m ρ c t) (XX m ρ c 1 t) (XX m ρ c 2 t) (hG.okay c t)

/-- The kernel's state before point `n`. -/
def Φc (c : Dev nD) (n : ℕ) : sProp 𝕄 :=
  iprop(tabP c (tab m ρ c) fullShare ∗ xRest c (xs m ρ c) ∗ stP c (xs m ρ c) n (cnt m ρ c n))

def dats (hG : Good m ρ) (p : Fin 1) (c : Dev nD) : Dat τ (Elt F) Unit ℕ (UU nD τ) ℕ (Pipeline.pin (pcfgs (F := F)) (adm m ρ) p) c where
  A w := AA m ρ c w
  after w t := match w with
    | ⟨0, _⟩ => XX m ρ c 0 t
    | ⟨1, _⟩ => XX m ρ c 1 t
    | ⟨2, _⟩ => XX m ρ c 2 t
    | ⟨3, _⟩ => XX m ρ c 3 t
    | ⟨4, _⟩ => XX m ρ c 4 t
    | ⟨5, _⟩ => XX m ρ c 5 t
    | ⟨6, _⟩ => out9 (accAt m ρ hG c t) (XX m ρ c 0 t) (XX m ρ c 3 t) (XX m ρ c 4 t) (XX m ρ c 5 t)
    | ⟨7, _⟩ => out10 (accAt m ρ hG c t) (XX m ρ c 0 t) (XX m ρ c 3 t) (XX m ρ c 4 t) (XX m ρ c 5 t)
    | ⟨8, _⟩ => out11 (accAt m ρ hG c t) (XX m ρ c 0 t) (XX m ρ c 3 t) (XX m ρ c 4 t) (XX m ρ c 5 t)
    | ⟨9, _⟩ => out12 (accAt m ρ hG c t) (XX m ρ c 5 t)
  Φ t := Φc m ρ c t.val
  q _ := fullShare
  owed _ := 0

theorem A_eq (hG : Good m ρ) (c : Dev nD) (w : Fin 10) : (dats m ρ hG 0 c).A w = V m ρ c (Pipeline.arrRef spec0 w) := by
  dsimp only [dats, AA]

theorem cond_iff : ∀ t : Fin grid0.N, k0_cond1 (grid0.coords t) = 1#1 ↔ t.val = 0 := by decide +kernel

theorem before_in (hG : Good m ρ) (c : Dev nD) (w : Fin 10) (hw : w.val < 6) (t : Fin grid0.N) (d) : (dats m ρ hG 0 c).before w t d = XX m ρ c w t := by
  fin_cases w
  all_goals first
    | exact (dats m ρ hG 0 c).before_eq_heldIn _ rfl (fun _ => rfl) (fun _ _ => rfl) (fun _ => rfl) t d
    | exact absurd hw (by decide)

end Cert.Proof.K

end
-- ==== Proof.KObl.lean ====
/-
  The body obligation: at every grid point the kernel takes its blocks and its state to what the proof data names.
-/
module

public import proofs.«01_k».proof.Proof.KData
public import proofs.«01_k».proof.Proof.Gen.Kernel.Launch
public import Idealize.ShloMosaic.Lib.Pipeline.Regions

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-- What the body is given and leaves at point `t`, its own state apart. -/
theorem body_point (hG : Good m ρ) (c : Dev nD) (t : Fin grid0.N)
    (M3 : Memref sig .tc .vmem S256x256 .i8) (h3 : M3.IsWhole) (M4 : Memref sig .tc .vmem S1x2x128 .i32) (h4 : M4.IsWhole)
    (M5 : Memref sig .tc .vmem S1x2x128 .i32) (h5 : M5.IsWhole) (M6 : Memref sig .tc .vmem S1x2x128 .f32) (h6 : M6.IsWhole)
    (M7 : Memref sig .tc .vmem S1x2x128 .f32) (h7 : M7.IsWhole) (M8 : Memref sig .tc .vmem S1x2x128 .f32) (h8 : M8.IsWhole)
    (M9 : Memref sig .tc .vmem S256x256 .i8) (h9 : M9.IsWhole) (M10 : Memref sig .tc .vmem S1x2x128 .f32) (h10 : M10.IsWhole)
    (M11 : Memref sig .tc .vmem S1x2x128 .f32) (h11 : M11.IsWhole) (M12 : Memref sig .tc .vmem S1x2x128 .f32) (h12 : M12.IsWhole)
    (X3 : Vec F S256x256 .i8) (X4 X5 : Vec F S1x2x128 .i32) (X6 X7 X8 : Vec F S1x2x128 .f32) :
    iprop(Φc m ρ c t.val ∗ (∃ W : Waits sig Unit, owes (c : Thread nD τ) 0 W)
      ∗ owns (c : Thread nD τ) M3 fullShare X3 ∗ owns (c : Thread nD τ) M4 fullShare X4 ∗ owns (c : Thread nD τ) M5 fullShare X5
      ∗ owns (c : Thread nD τ) M6 fullShare X6 ∗ owns (c : Thread nD τ) M7 fullShare X7 ∗ owns (c : Thread nD τ) M8 fullShare X8
      ∗ (∃ d, owns (c : Thread nD τ) M9 fullShare d) ∗ (∃ d, owns (c : Thread nD τ) M10 fullShare d)
      ∗ (∃ d, owns (c : Thread nD τ) M11 fullShare d) ∗ (∃ d, owns (c : Thread nD τ) M12 fullShare d))
    ⊢ wp frame (wpE (defs₀ (F := F)) 𝒱₀ (c : Thread nD τ) none) Set.univ (bodyG (grid0.coords t) M3 h3 M4 h4 M5 h5 M6 h6 M7 h7 M8 h8 M9 h9 M10 h10 M11 h11 M12 h12)
      (fun _ => iprop(Φc m ρ c (t.val + 1) ∗ (∃ W : Waits sig Unit, owes (c : Thread nD τ) 0 W)
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare X8
        ∗ outsP c M9 M10 M11 M12 (tileAcc c (xs m ρ c) (wLo m ρ c t) (wHi m ρ c t) X4 X5 (hG.okay c t)) X3 X6 X7 X8)) := by
  unfold Φc
  rw [cnt_succ m ρ hG c t, cnt_at m ρ c t]
  unfold owns
  iintro ⟨⟨Htab, Hx, HS⟩, HO, ⟨%g3, %e3, H3⟩, ⟨%g4, %e4, H4⟩, ⟨%g5, %e5, H5⟩, ⟨%g6, %e6, H6⟩, ⟨%g7, %e7, H7⟩, ⟨%g8, %e8, H8⟩, ⟨%d9, %g9, -, H9⟩, ⟨%d10, %g10, -, H10⟩, ⟨%d11, %g11, -, H11⟩, ⟨%d12, %g12, -, H12⟩⟩
  subst e3 e4 e5 e6 e7 e8
  iapply (wp_wand_r frame (wpE (defs₀ (F := F)) 𝒱₀ (c : Thread nD τ) none) Set.univ
    (Q := fun _ => iprop(insP c (tab m ρ c) M3 M4 M5 M6 M7 M8 g3 g4 g5 g6 g7 g8 fullShare
      ∗ outsP c M9 M10 M11 M12 (tileAcc c (xs m ρ c) (wLo m ρ c t) (wHi m ρ c t) (M4.view.read (Elt F) g4) (M5.view.read (Elt F) g5) (hG.okay c t))
          (M3.view.read (Elt F) g3) (M6.view.read (Elt F) g6) (M7.view.read (Elt F) g7) (M8.view.read (Elt F) g8)
      ∗ finP c (xs m ρ c) (C1 (wHi m ρ c t)))))
  isplitl [Htab HS HO H3 H4 H5 H6 H7 H8 H9 H10 H11 H12]
  · by_cases h0 : t.val = 0
    · ihave HS := (Entails.of_eq (show stP c (xs m ρ c) t.val (C1 (wLo m ρ c t)) = iprop((∃ fn : Buf (Elt F) (nxtM.view.loc (c : Thread nD τ)), nxtP c fn)
        ∗ (∃ fa : Buf (Elt F) (accM.view.loc (c : Thread nD τ)), accP c fa)
        ∗ Ring.AtW (σ := fun _ => Slot) (Φs c (xs m ρ c)) (fun _ => .free)) from if_pos h0)) $$ HS
      icases HS with ⟨Hn, Ha, HR⟩
      have hb := (body_first c (xs m ρ c) (tab m ρ c) (grid0.coords t) M3 h3 M4 h4 M5 h5 M6 h6 M7 h7 M8 h8 M9 h9 M10 h10 M11 h11 M12 h12
        g3 g4 g5 g6 g7 g8 g9 g10 g11 g12 fullShare ((cond_iff t).2 h0) (hG.zero c t h0) (hG.okay c t))
      iapply hb
      isplitl [Htab H3 H4 H5 H6 H7 H8]
      · isplitl [Htab]; · iexact Htab
        isplitl [H3]; · iexact H3
        isplitl [H4]; · iexact H4
        isplitl [H5]; · iexact H5
        isplitl [H6]; · iexact H6
        isplitl [H7]; · iexact H7
        iexact H8
      isplitl [H9 H10 H11 H12]
      · isplitl [H9]; · iexact H9
        isplitl [H10]; · iexact H10
        isplitl [H11]; · iexact H11
        iexact H12
      isplitl [Hn]; · iexact Hn
      isplitl [Ha]; · iexact Ha
      isplitl [HR]; · iexact HR
      iexact HO
    · ihave HS := (Entails.of_eq (show stP c (xs m ρ c) t.val (C1 (wLo m ρ c t)) = iprop((∃ fn : Buf (Elt F) (nxtM.view.loc (c : Thread nD τ)), nxtP c fn ∗ ⌜nxtW c fn = BitVec.ofNat 32 (C1 (wLo m ρ c t))⌝)
        ∗ (∃ fa : Buf (Elt F) (accM.view.loc (c : Thread nD τ)), accP c fa)
        ∗ Ring.AtW (σ := fun _ => Slot) (Φs c (xs m ρ c)) (st (C1 (wLo m ρ c t)))) from if_neg h0)) $$ HS
      icases HS with ⟨Hn, Ha, HR⟩
      have hb := (body_later c (xs m ρ c) (tab m ρ c) (grid0.coords t) M3 h3 M4 h4 M5 h5 M6 h6 M7 h7 M8 h8 M9 h9 M10 h10 M11 h11 M12 h12
        g3 g4 g5 g6 g7 g8 g9 g10 g11 g12 fullShare (fun e => h0 ((cond_iff t).1 e)) (hG.okay c t))
      iapply hb
      isplitl [Htab H3 H4 H5 H6 H7 H8]
      · isplitl [Htab]; · iexact Htab
        isplitl [H3]; · iexact H3
        isplitl [H4]; · iexact H4
        isplitl [H5]; · iexact H5
        isplitl [H6]; · iexact H6
        isplitl [H7]; · iexact H7
        iexact H8
      isplitl [H9 H10 H11 H12]
      · isplitl [H9]; · iexact H9
        isplitl [H10]; · iexact H10
        isplitl [H11]; · iexact H11
        iexact H12
      isplitl [Hn]; · iexact Hn
      isplitl [Ha]; · iexact Ha
      isplitl [HR]; · iexact HR
      iexact HO
  iintro %_ ⟨⟨Htab, H3, H4, H5, H6, H7, H8⟩, Houts, ⟨Hn, Ha, HR, HO⟩⟩
  isplitl [Htab Hx Hn Ha HR]
  · isplitl [Htab]; · iexact Htab
    isplitl [Hx]; · iexact Hx
    iapply (Entails.of_eq (show stP c (xs m ρ c) (t.val + 1) (C1 (wHi m ρ c t)) = iprop((∃ fn : Buf (Elt F) (nxtM.view.loc (c : Thread nD τ)), nxtP c fn ∗ ⌜nxtW c fn = BitVec.ofNat 32 (C1 (wHi m ρ c t))⌝)
        ∗ (∃ fa : Buf (Elt F) (accM.view.loc (c : Thread nD τ)), accP c fa)
        ∗ Ring.AtW (σ := fun _ => Slot) (Φs c (xs m ρ c)) (st (C1 (wHi m ρ c t)))) from if_neg (Nat.succ_ne_zero _)).symm)
    isplitl [Hn]; · iexact Hn
    isplitl [Ha]; · iexact Ha
    iexact HR
  isplitl [HO]; · iexact HO
  isplitl [H3]
  · iexists g3; isplitr; · ipureintro; rfl
    iexact H3
  isplitl [H4]
  · iexists g4; isplitr; · ipureintro; rfl
    iexact H4
  isplitl [H5]
  · iexists g5; isplitr; · ipureintro; rfl
    iexact H5
  isplitl [H6]
  · iexists g6; isplitr; · ipureintro; rfl
    iexact H6
  isplitl [H7]
  · iexists g7; isplitr; · ipureintro; rfl
    iexact H7
  isplitl [H8]
  · iexists g8; isplitr; · ipureintro; rfl
    iexact H8
  iexact Houts

theorem body_obligation (hG : Good m ρ) (c : Dev nD) : BodyObligation (dats m ρ hG 0 c) (defs₀ (F := F)) 𝒱₀ () Set.univ := fun t => by
  rw [bigSep_W0, bigSep_W0]
  rw [show (dats m ρ hG 0 c).Φ t.castSucc = Φc m ρ c t.val from rfl, show (dats m ρ hG 0 c).Φ t.succ = Φc m ρ c (t.val + 1) from rfl]
  unfold Dat.owesAt Pipeline.owesWithin
  rw [show (dats m ρ hG 0 c).owed t.castSucc = 0 from rfl, show (dats m ρ hG 0 c).owed t.succ = 0 from rfl]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_in m ρ hG c 0 (by decide), before_in m ρ hG c 1 (by decide), before_in m ρ hG c 2 (by decide), before_in m ρ hG c 3 (by decide), before_in m ρ hG c 4 (by decide), before_in m ρ hG c 5 (by decide)]
  iapply (wp_wand_r frame (wpE (defs₀ (F := F)) 𝒱₀ (c : Thread nD τ) none) Set.univ)
  isplitl [HΦ HO H0 H1 H2 H3 H4 H5 H6 H7 H8 H9]
  · iapply (body_point m ρ hG c t _ _ _ _ _ _ _ _ _ _ _ _ _ _ _ _ _ _ _ _ (XX m ρ c 0 t) (XX m ρ c 1 t) (XX m ρ c 2 t) (XX m ρ c 3 t) (XX m ρ c 4 t) (XX m ρ c 5 t))
    isplitl [HΦ]; · iexact HΦ
    isplitl [HO]; · iexists W; iexact HO
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9
  iintro %_ ⟨HΦ, ⟨%W', HO⟩, H0, H1, H2, H3, H4, H5, ⟨H6, H7, H8, H9⟩⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.K

end
-- ==== Proof.KRun.lean ====
/-
  The launch: the host operations, then the region; every execution ends with the arrays at the computed contents.
-/
module

public import proofs.«01_k».proof.Proof.KObl
public import proofs.«01_k».proof.Proof.Gen.Kernel.Launch
public import Idealize.ShloMosaic.Lib.Pipeline.Regions

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-- The pipeline library's algebra is the left component of the certificate's. -/
abbrev EP : Emb (UR sig nD τ) (MT nD τ sig Unit (Elt F) ℕ (UU nD τ) ℕ) := embL

/-- No host operation writes an argument. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7) :
    ∀ op ∈ (hostOps0 (F := F)), Proc.devRef .tc b ∉ op.writes := by
  obtain ⟨h0, h1, h2, h3, h4, h5, h6, h7⟩ := hb
  intro op hop
  simp only [List.mem_cons, List.mem_nil_iff, or_false] at hop
  rcases hop with rfl | rfl | rfl | rfl | rfl | rfl | rfl | rfl <;>
    simp only [StableHlo.unary_writes, StableHlo.reshape_writes, Finset.mem_singleton] <;>
    exact StableHlo.devRef_ne_of_ne ‹_›

/-- The TensorCore's unscoped references, as device buffers: the set the host operations run within. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- An operation on TensorCore references only touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The arguments reach the region, and the end, as launched. -/
theorem V_arg0 (c : Dev nD) : V m ρ c main_arg0 = m ((c : Thread nD τ).loc main_arg0) :=
  StableHlo.after_of_forall_not_mem (b := Proc.devRef .tc main_arg0) hostOps0 (V₀ m ρ c) (not_written main_arg0 (by decide))
theorem V_arg1 (c : Dev nD) : V m ρ c main_arg1 = m ((c : Thread nD τ).loc main_arg1) :=
  StableHlo.after_of_forall_not_mem (b := Proc.devRef .tc main_arg1) hostOps0 (V₀ m ρ c) (not_written main_arg1 (by decide))
theorem V_arg2 (c : Dev nD) : V m ρ c main_arg2 = m ((c : Thread nD τ).loc main_arg2) :=
  StableHlo.after_of_forall_not_mem (b := Proc.devRef .tc main_arg2) hostOps0 (V₀ m ρ c) (not_written main_arg2 (by decide))
theorem V_arg3 (c : Dev nD) : V m ρ c main_arg3 = m ((c : Thread nD τ).loc main_arg3) :=
  StableHlo.after_of_forall_not_mem (b := Proc.devRef .tc main_arg3) hostOps0 (V₀ m ρ c) (not_written main_arg3 (by decide))
theorem V_arg4 (c : Dev nD) : V m ρ c main_arg4 = m ((c : Thread nD τ).loc main_arg4) :=
  StableHlo.after_of_forall_not_mem (b := Proc.devRef .tc main_arg4) hostOps0 (V₀ m ρ c) (not_written main_arg4 (by decide))
theorem V_arg5 (c : Dev nD) : V m ρ c main_arg5 = m ((c : Thread nD τ).loc main_arg5) :=
  StableHlo.after_of_forall_not_mem (b := Proc.devRef .tc main_arg5) hostOps0 (V₀ m ρ c) (not_written main_arg5 (by decide))

/-- The ring's four DMA semaphores. -/
abbrev osem (k : Fin 4) : SemLoc sig := .dma (csm k).sem

theorem ownSemFacts : Pipeline.OwnSemFacts spec0 osem := by decide

def u₀ : UU nD τ := (initOf (Pipeline.cells (Pipeline.pin (pcfgs (F := F)) (adm m ρ)) (cellOf_inj (adm m ρ))) (Pipeline.launchToks (Pipeline.pin (pcfgs (F := F)) (adm m ρ)) (cellOf_inj (adm m ρ))), 1)

omit [FloatOps F] in
theorem ownSems0_eq (c : Dev nD) :
    (Pipeline.ownSems0 (Ix := Unit) (Name := ℕ) (U := UU nD τ) (Lvl := ℕ) (Val := Elt F) (τ := τ) osem c : sProp 𝕄) = cells4 c :=
  Pipeline.ownSems0_eq_of_list c osem [0, 1, 2, 3] (by decide) (by decide)

/-- The prefetched table, listed. -/
theorem prefHeld_eq (c : Dev nD) :
    (Pipeline.prefHeld pre0 c (fun _ => fullShare) (adm m ρ 0).1 : sProp 𝕄) = tabP c (tab m ρ c) fullShare := by
  obtain rfl : c = 0 := Subsingleton.elim _ _
  unfold Pipeline.prefHeld
  exact bigSep_univ_eq_bigSepL [(0 : Fin 1)] (by decide) (by decide) _

/-- An array's contents after the run. -/
def finalA (hG : Good m ρ) (c : Dev nD) (w : Fin 10) : Buf (Elt F) (((cfgA m ρ).win w).arr.view.loc (c.tc : Thread nD τ)) := (dats m ρ hG 0 c).arrAt w (cfgA m ρ).N

def QC (hG : Good m ρ) : PUnit × MemSt nD τ sig (Elt F) → Prop := fun r =>
  ∀ c : Dev nD, (∀ w : Fin 10, r.2.mem (((cfgA m ρ).win w).arr.view.loc (c.tc : Thread nD τ)) = finalA m ρ hG c w)
    ∧ r.2.mem ((c : Thread nD τ).loc main_arg0) = m ((c : Thread nD τ).loc main_arg0)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

/-- No core owes another anything: no level is assigned. -/
abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

/-- The eight host operations over the unscoped buffers. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

abbrev argP (c : Dev nD) (b : Ref sig .tc) : sProp 𝕄 := ((c : Thread nD τ).loc b) ↦{fullShare} V m ρ c b

/-- What the region leaves for the end: the windows' arrays at their final contents, the other arguments. -/
abbrev Tₙ (hG : Good m ρ) (c : Dev nD) : sProp 𝕄 :=
  iprop((dats m ρ hG 0 c).arrays ((dats m ρ hG 0 c).arrAt · (cfgA m ρ).N) ∗ argP m ρ c main_arg0 ∗ argP m ρ c main_arg2 ∗ argP m ρ c main_arg3
    ∗ argP m ρ c main_arg4 ∗ argP m ρ c main_arg5)

theorem Φ_first (hG : Good m ρ) (c : Dev nD) :
    iprop((argP m ρ c main_arg0 ∗ cells4 c) ∗ tabP c (tab m ρ c) fullShare ∗ Pipeline.scopedRest (Ix := Unit) (Name := ℕ) (U := UU nD τ) (Lvl := ℕ) (Val := Elt F) spec0 c)
      ⊢ (Φc m ρ c 0 : sProp 𝕄) := by
  rw [scopedRest0_eq]
  unfold Φc
  rw [show stP c (xs m ρ c) 0 (cnt m ρ c 0) = iprop((∃ fn : Buf (Elt F) (nxtM.view.loc (c : Thread nD τ)), nxtP c fn)
        ∗ (∃ fa : Buf (Elt F) (accM.view.loc (c : Thread nD τ)), accP c fa)
        ∗ Ring.AtW (σ := fun _ => Slot) (Φs c (xs m ρ c)) (fun _ => .free)) from if_pos rfl]
  iintro ⟨⟨Hx, Hc⟩, Ht, ⟨Hr, ⟨%fa, Ha⟩, ⟨%fn, Hn⟩⟩⟩
  ihave Hs := (buf_split c) $$ Hr
  ihave H := (ring_make c (xs m ρ c)) $$ [Hx Hc Hs]
  · isplitl [Hx]; · iexact Hx
    isplitl [Hc] <;> iassumption
  icases H with ⟨Hx, HR⟩
  isplitl [Ht]; · iexact Ht
  isplitl [Hx]; · iexact Hx
  isplitl [Hn]; · iexists fn; iexact Hn
  isplitl [Ha]; · iexists fa; iexact Ha
  iexact HR

theorem Φ_last (c : Dev nD) :
    (Φc m ρ c grid0.N : sProp 𝕄) ⊢ iprop((argP m ρ c main_arg0 ∗ tabP c (tab m ρ c) fullShare) ∗ cells4 c
      ∗ Pipeline.scopedRest (Ix := Unit) (Name := ℕ) (U := UU nD τ) (Lvl := ℕ) (Val := Elt F) spec0 c) := by
  rw [scopedRest0_eq]
  unfold Φc
  rw [show cnt m ρ c grid0.N = 3840 from dif_neg (lt_irrefl _)]
  rw [show stP c (xs m ρ c) grid0.N 3840 = iprop((∃ fn : Buf (Elt F) (nxtM.view.loc (c : Thread nD τ)), nxtP c fn ∗ ⌜nxtW c fn = BitVec.ofNat 32 3840⌝)
        ∗ (∃ fa : Buf (Elt F) (accM.view.loc (c : Thread nD τ)), accP c fa)
        ∗ Ring.AtW (σ := fun _ => Slot) (Φs c (xs m ρ c)) (st 3840)) from if_neg (by rw [N_0]; decide)]
  iintro ⟨Ht, Hx, ⟨%fn, Hn, -⟩, ⟨%fa, Ha⟩, HR⟩
  ihave HR := (ring_end c (xs m ρ c)) $$ HR
  ihave H := (ring_unmake c (xs m ρ c)) $$ [Hx HR]
  · isplitl [Hx] <;> iassumption
  icases H with ⟨Hx, Hc, Hs⟩
  ihave Hr := (buf_join c) $$ Hs
  isplitl [Hx Ht]
  · isplitl [Hx]; · iexact Hx
    iexact Ht
  isplitl [Hc]; · iexact Hc
  isplitl [Hr]; · iexact Hr
  isplitl [Ha]; · iexists fa; iexact Ha
  iexists fn; iexact Hn

set_option backward.isDefEq.respectTransparency.types false in
/-- The region: entered from what the host operations left, left with the arrays at their final contents. -/
def reg0 (hG : Good m ρ) : Pipeline.RegionSeg (pcfgs (F := F)) (adm m ρ) (dats m ρ hG) () defs₀ 𝒱₀ L lv 0 where
  win := (launch0 (F := F)).win.to₀
  block_pos := (launch0 (F := F)).block_pos
  stage_whole := (launch0 (F := F)).stage_whole
  K := Fin 4
  osem := osem
  ho := ownSemFacts
  hbody c := (body_obligation m ρ hG c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ hG c ∗ R c)
  X c := iprop(argP m ρ c main_arg0 ∗ cells4 c)
  Y c := iprop(argP m ρ c main_arg0 ∗ tabP c (tab m ρ c) fullShare)
  Z c := iprop(argP m ρ c main_arg2 ∗ argP m ρ c main_arg3 ∗ argP m ρ c main_arg4 ∗ argP m ρ c main_arg5)
  hentry c := by
    rw [show StableHlo.held (c : Thread nD τ) ucRefs (StableHlo.after hostOps0 (V₀ m ρ c)) = unscopedBufs c (V m ρ c) from (unscopedBufs_held c _).symm,
      ownSems0_eq]
    have hsplit := (Pipeline.arrays_of_unscopedBufs (pcfgs (F := F)) (adm m ρ) (dats m ρ hG) (launch0 (F := F)).win (launch0 (F := F)).arr_whole c
      ((dats m ρ hG 0 c).share_full fun _ => rfl) (V m ρ c) (A_eq m ρ hG c)).trans (BIClass.sep_mono Entails.rfl ((Entails.of_eq (Pipeline.unscopedRest_split preFacts0 c (V m ρ c))).trans
        (BIClass.sep_mono (Entails.of_eq (show _ = tabP c (tab m ρ c) fullShare from bigSep_univ_eq_bigSepL [(0 : Fin 1)] (by decide) (by decide) _)) (Entails.of_eq (unscopedRestP0_eq c (V m ρ c))))))
    iintro ⟨⟨Hub, HO⟩, Hos, -⟩
    ihave H := hsplit $$ Hub
    icases H with ⟨Ha, Ht, H0, H2, H3, H4, H5, -, -⟩
    imodintro
    isplitl [Ha]; · iexact Ha
    isplitl [Ht]; · iapply (Entails.of_eq (prefHeld_eq m ρ c).symm); iexact Ht
    isplitl [HO]
    · unfold Pipeline.Dat.owesAt Pipeline.owesWithin
      icases HO with ⟨%W, HO⟩; iexists W; isplitr; · ipureintro; exact fun _ _ => Or.inl trivial
      iexact HO
    isplitl [H0 Hos]
    · isplitl [H0]; · iexact H0
      iexact Hos
    isplitl [H2]; · iexact H2
    isplitl [H3]; · iexact H3
    isplitl [H4]; · iexact H4
    iexact H5
  hin c := by
    refine (BIClass.sep_mono Entails.rfl (BIClass.sep_mono (Entails.of_eq (prefHeld_eq m ρ c)) Entails.rfl)).trans (Φ_first m ρ hG c)
  hout c := by
    rw [ownSems0_eq]
    exact Φ_last m ρ c
  hexit c := by
    iintro ⟨Ha, HO, ⟨H0, -⟩, ⟨H2, H3, H4, H5⟩⟩
    imodintro
    isplitr [HO]
    · isplitl [Ha]; · iexact Ha
      isplitl [H0]; · iexact H0
      isplitl [H2]; · iexact H2
      isplitl [H3]; · iexact H3
      isplitl [H4]; · iexact H4
      iexact H5
    · unfold Pipeline.Dat.owesAt Pipeline.owesWithin
      icases HO with ⟨%W, -, HO⟩; iexists W; iexact HO

abbrev segs (hG : Good m ρ) : List (Pipeline.Seg (pcfgs (F := F)) (adm m ρ) (dats m ρ hG) () defs₀ 𝒱₀ L lv) := [.host (seg0 m ρ), .region (reg0 m ρ hG)]

set_option backward.isDefEq.respectTransparency.types false in
/-- From any memory with zero counters and run offsets in order: every weakly fair execution of the program terminates
    without fault, with the windows' arrays at the computed contents and the other arguments unchanged. -/
theorem run_main (hG : Good m ρ) : θ_run defs (onTc (τ := τ) (main (F := F))) (s₀ m ρ) (fun r => QC m ρ hG r ∧ r.2.sem = fun _ => 0) :=
  Pipeline.θ_run_regions_kit_sems (pcfgs (F := F)) (adm m ρ) (dats m ρ hG) () (cellOf_inj (adm m ρ)) EP defs₀ 𝒱₀ L lv m ρ main (segs m ρ hG)
    (fun c Q => by rw [main_segs (adm m ρ) (dats m ρ hG) () 𝒱₀ L lv (seg0 m ρ) (reg0 m ρ hG) rfl c])
    (by simp only [Pipeline.Seg.pipes_host, Pipeline.Seg.pipes_region, Pipeline.Seg.pipes_nil]; decide) (O₀ := 0) (hL := fun _ _ => rfl) (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ hG)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => (∀ w : Fin 10, s.mem (((cfgA m ρ).win w).arr.view.loc (c.tc : Thread nD τ)) = finalA m ρ hG c w)
      ∧ s.mem ((c : Thread nD τ).loc main_arg0) = m ((c : Thread nD τ).loc main_arg0)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5))
    (hfin := fun c s' => by
      dsimp only [Tₙ, argP]; rw [V_arg0, V_arg2, V_arg3, V_arg4, V_arg5]
      iintro ⟨⟨Ha, H0, H2, H3, H4, H5⟩, HSI⟩
      icombine HSI H0 gives %h0
      icombine HSI H2 gives %h2
      icombine HSI H3 gives %h3
      icombine HSI H4 gives %h4
      icombine HSI H5 gives %h5
      ihave Hr := (Pipeline.arrays_read (pcfgs (F := F)) (adm m ρ) (dats m ρ hG) (launch0 (F := F)).arr_whole c ((dats m ρ hG 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h2, Buf.eq_of_forall_mem_univ h3, Buf.eq_of_forall_mem_univ h4, Buf.eq_of_forall_mem_univ h5⟩
      iexact HSI)
    (hQ := fun _ h hz => ⟨h, funext fun g => hz g (.inr (by revert g; decide))⟩)

/-- The first window's array is an input: it ends as it was. -/
theorem finalA_w (hG : Good m ρ) (c : Dev nD) : finalA m ρ hG c 0 = m ((c : Thread nD τ).loc main_arg1) :=
  ((dats (F := F) m ρ hG 0 c).arrAt_in 0 rfl _).trans (V_arg1 m ρ c)

end Cert.Proof.K

end
-- ==== Proof.KGood.lean ====
/-
  What the run offsets being in order gives the kernel, and the frame.
-/
module

public import proofs.«01_k».proof.Proof.KRun
public import proofs.«01_k».proof.Proof.Offs
public import proofs.«01_k».proof.Proof.Gen.Kernel.Launch
public import Idealize.ShloMosaic.Lib.Pipeline.Regions

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-- The launch's run offsets. -/
abbrev offs (c : Dev nD) : IVec S122881 32 := m ((c : Thread nD τ).loc main_arg2)

theorem off3_val : ∀ t : Fin grid0.N, k0_off3 (grid0.coords t) 0 = t.val := by decide +kernel
theorem off4_val : ∀ t : Fin grid0.N, k0_off4 (grid0.coords t) 0 = t.val + 1 := by decide +kernel

/-- The table is every 256th run offset. -/
theorem tab_eq (c : Dev nD) : tab m ρ c = Host.slice S481 ![0] ![256] (offs m c) slicesBy_S122881_S481_0s256 := by
  show StableHlo.after hostOps0 (V₀ m ρ c) (Proc.devRef .tc main_v0) = _
  after_results

theorem tab_at (c : Dev nD) (j : S481.Idx) (n : ℕ) (hn : n < 122881) (e : 256 * (j 0).val = n) : tab m ρ c j = ofs (offs m c) n hn := by
  rw [tab_eq]
  refine congrArg (offs m c) (idx_ext hn ?_)
  show 0 + 256 * (j 0).val = n
  omega

theorem wLo_eq (c : Dev nD) (t : Fin grid0.N) (hn : 256 * t.val < 122881) : wLo m ρ c t = ofs (offs m c) (256 * t.val) hn := by
  refine tab_at m ρ c _ _ hn ?_
  show 256 * (k0_off3 (grid0.coords t) 0 + 1 * 0) = _
  rw [off3_val]
  omega
theorem wHi_eq (c : Dev nD) (t : Fin grid0.N) (hn : 256 * (t.val + 1) < 122881) : wHi m ρ c t = ofs (offs m c) (256 * (t.val + 1)) hn := by
  refine tab_at m ρ c _ _ hn ?_
  show 256 * (k0_off4 (grid0.coords t) 0 + 1 * 0) = _
  rw [off4_val]

theorem pt_lt (t : Fin grid0.N) : t.val < 480 := lt_of_lt_of_eq t.isLt N_0

theorem wLo_nat (c : Dev nD) (t : Fin grid0.N) : (wLo m ρ c t).toNat = off (offs m c) (256 * t.val) := by
  have := pt_lt t
  rw [wLo_eq m ρ c t (by omega), off_of]
theorem wHi_nat (c : Dev nD) (t : Fin grid0.N) : (wHi m ρ c t).toNat = off (offs m c) (256 * (t.val + 1)) := by
  have := pt_lt t
  rw [wHi_eq m ρ c t (by omega), off_of]

/-- Run offsets in order are all the kernel asks. -/
theorem good_of (hs : ∀ c, Sorted (offs m c)) : Good m ρ where
  okay c t := by
    have := pt_lt t
    unfold Okay
    rw [wLo_nat, wHi_nat]
    exact ⟨(hs c).mono (by omega) (by omega), (hs c).off_le (by omega)⟩
  zero c t h := by rw [wLo_nat, h]; exact (hs c).off_zero
  next c t t' h := by
    have := pt_lt t
    have := pt_lt t'
    rw [wHi_eq m ρ c t (by omega), wLo_eq m ρ c t' (by omega)]
    exact congrArg (offs m c) (idx_ext _ (show 256 * (t.val + 1) = 256 * t'.val by omega))
  last c t h := by
    have : grid0.N = 480 := N_0
    rw [wHi_nat, show 256 * (t.val + 1) = 122880 by omega]
    exact (hs c).off_last

/-- The frame: under run offsets in order, every execution ends without fault with the arguments unchanged. -/
theorem frame_of (hs : ∀ c, Sorted (offs m c)) : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun r h => ⟨fun c => by
    obtain ⟨ha, h0, h2, h3, h4, h5⟩ := h.1 c
    exact ⟨h0, (ha 0).trans (finalA_w m ρ (good_of m ρ hs) c), h2, h3, h4, h5⟩, h.2⟩) (run_main m ρ (good_of m ρ hs))

end Cert.Proof.K

end
-- ==== Proof.VRow.lean ====
/-
  One row of the update, as numbers: from the row's summed gradient, its stored codes, scale, bias and momentum,
  the new momentum, the new weights, their smallest and largest, the new scale and the new codes. The kernel works a
  row in two halves of 128 columns; the reference in one of 256.
-/
module

public import Idealize.ShloMosaic.Lib.Pointwise

@[expose] public section

noncomputable section

namespace Cert.Proof

open Idealize.ShloMosaic

/-- Column `x` of the left half of a row, and of the right half. -/
abbrev loL (x : Fin 128) : Fin 256 := ⟨x.val, by omega⟩
abbrev hiL (x : Fin 128) : Fin 256 := ⟨128 + x.val, by omega⟩

/-- The row a triple of a result's index names. -/
def row3 (i : Fin 480) (j : Fin 2) (l : Fin 128) : Fin 122880 := ⟨i.val * 256 + j.val * 128 + l.val, by omega⟩

section Row
variable (a : Fin 256 → EReal) (q : Fin 256 → BitVec 8) (s b mo : EReal)

/-- The new momentum: the old one and the mean of the squares of the summed gradient. -/
def mnewR : EReal := mo + Ideal.div (∑ d, a d * a d) (Ideal.ofBits .f32 0x43800000#32)
/-- The new weights. -/
def wnewR (d : Fin 256) : EReal :=
  FloatOps.sitofp (F := Ideal) .f32 (BitVec.setWidth 32 (q d)) * s + b
    - Ideal.div (Ideal.ofBits .f32 0x3DCCCCCD#32 * a d) (Ideal.sqrt (mnewR a mo) + Ideal.ofBits .f32 0x322BCC77#32)
/-- Their smallest and largest. -/
def minR : EReal := Finset.fold min (Ideal.ofBits .f32 0x7F800000#32) (wnewR a q s b mo) Finset.univ
def maxR : EReal := Finset.fold max (Ideal.ofBits .f32 0xFF800000#32) (wnewR a q s b mo) Finset.univ
/-- The new scale: a 255th of the spread, one where there is none. -/
def sclR : EReal := if maxR a q s b mo = minR a q s b mo then 1
  else Ideal.div (maxR a q s b mo - minR a q s b mo) (Ideal.ofBits .f32 0x437F0000#32)
/-- The rounded code, before the conversion. -/
def rndR (d : Fin 256) : EReal :=
  min (FloatOps.sitofp (F := Ideal) .f32 255#32) (max (FloatOps.sitofp (F := Ideal) .f32 0#32)
    (Ideal.liftRound Ideal.roundHalfEven (Ideal.div (wnewR a q s b mo d - minR a q s b mo) (sclR a q s b mo))))
/-- The new codes. -/
def codR (d : Fin 256) : BitVec 8 := BitVec.setWidth 8 (FloatOps.fptosi (F := Ideal) (φ := .f32) 32 (rndR a q s b mo d))
end Row

/-- A row's columns are those of its halves. -/
theorem col_cases (d : Fin 256) : (∃ x, d = loL x) ∨ ∃ x, d = hiL x := by
  rcases d with ⟨d, hd⟩
  by_cases h : d < 128
  · exact .inl ⟨⟨d, h⟩, rfl⟩
  · exact .inr ⟨⟨d - 128, by omega⟩, Fin.ext (by show d = 128 + (d - 128); omega)⟩

theorem sum_halves (f : Fin 256 → EReal) : ∑ x : Fin 128, (f (loL x) + f (hiL x)) = ∑ d, f d := by
  rw [Finset.sum_add_distrib]
  exact (Fin.sum_univ_add (a := 128) (b := 128) f).symm

theorem fold_min_halves (z : EReal) (f : Fin 256 → EReal) :
    Finset.fold min z (fun x : Fin 128 => min (f (loL x)) (f (hiL x))) Finset.univ = Finset.fold min z f Finset.univ := by
  apply le_antisymm
  · rw [Finset.le_fold_min]
    refine ⟨(Finset.le_fold_min _).1 le_rfl |>.1, fun d _ => ?_⟩
    have h := (Finset.le_fold_min (s := Finset.univ) (b := z) (f := fun x : Fin 128 => min (f (loL x)) (f (hiL x))) _).1 le_rfl |>.2
    rcases col_cases d with ⟨x, rfl⟩ | ⟨x, rfl⟩
    · exact (h x (Finset.mem_univ _)).trans (min_le_left _ _)
    · exact (h x (Finset.mem_univ _)).trans (min_le_right _ _)
  · rw [Finset.le_fold_min]
    have h := (Finset.le_fold_min (s := Finset.univ) (b := z) (f := f) _).1 le_rfl
    exact ⟨h.1, fun x _ => le_min (h.2 _ (Finset.mem_univ _)) (h.2 _ (Finset.mem_univ _))⟩

theorem fold_max_halves (z : EReal) (f : Fin 256 → EReal) :
    Finset.fold max z (fun x : Fin 128 => max (f (loL x)) (f (hiL x))) Finset.univ = Finset.fold max z f Finset.univ := by
  apply le_antisymm
  · rw [Finset.fold_max_le]
    have h := (Finset.fold_max_le (s := Finset.univ) (b := z) (f := f) _).1 le_rfl
    exact ⟨h.1, fun x _ => max_le (h.2 _ (Finset.mem_univ _)) (h.2 _ (Finset.mem_univ _))⟩
  · rw [Finset.fold_max_le]
    refine ⟨(Finset.fold_max_le _).1 le_rfl |>.1, fun d _ => ?_⟩
    have h := (Finset.fold_max_le (s := Finset.univ) (b := z) (f := fun x : Fin 128 => max (f (loL x)) (f (hiL x))) _).1 le_rfl |>.2
    rcases col_cases d with ⟨x, rfl⟩ | ⟨x, rfl⟩
    · exact (le_max_left _ _).trans (h x (Finset.mem_univ _))
    · exact (le_max_right _ _).trans (h x (Finset.mem_univ _))

theorem ofBits_256 : Ideal.ofBits .f32 0x43800000#32 = ((256 : ℝ) : EReal) := by
  simp [Ideal.ofBits, Ideal.ieee, -EReal.coe_mul]; norm_num
theorem ofBits_inv256 : Ideal.ofBits .f32 0x3B800000#32 = ((1 / 256 : ℝ) : EReal) := by
  simp [Ideal.ofBits, Ideal.ieee, -EReal.coe_mul]; norm_num

/-- The kernel multiplies by a 256th where the reference divides by 256. -/
theorem mul_inv256 (x : EReal) : x * Ideal.ofBits .f32 0x3B800000#32 = Ideal.div x (Ideal.ofBits .f32 0x43800000#32) := by
  rw [ofBits_256, ofBits_inv256, Ideal.div_coe (by norm_num)]

end Cert.Proof

end
-- ==== Proof.VRef.lean ====
/-
  What the reference computes from the summed gradients, element by element: `VRow`'s, row by row.
-/
module

public import proofs.«01_k».proof.Proof.Gen.ReferenceIdeal.Run
public import proofs.«01_k».proof.Proof.VRow
public import Idealize.ShloMosaic.Lib.Pointwise

@[expose] public section

noncomputable section

namespace Cert.Proof.R

open Cert.ReferenceIdeal Cert.ReferenceIdeal.Gen
open Idealize.ShloMosaic Idealize.ShloMosaic.TcCoe
open Idealize.SL.Sem

section Row
variable (G : FVec Ideal S122880x256 .f32) (a1 : IVec S122880x256 8) (a3 a4 a5 : FVec Ideal S122880 .f32)

/-- The new momenta. -/
def refM : FVec Ideal S122880 .f32 :=
  addf a5 (Host.divf (Host.reduceAdd (mulf G G) (constant S_ .f32 0x00000000#32) reducesTo_S122880x256_S122880_d1 h_S_)
    (broadcastInDim S122880 ![] bcast_S_S122880 (constant S_ .f32 0x43800000#32)))
/-- The new weights. -/
def refW : FVec Ideal S122880x256 .f32 :=
  subf (addf (mulf (sitofp .f32 (extui 32 a1 natLt_8_32)) (broadcastInDim S122880x256 ![0, 1] bcast_S122880x1_S122880x256_0_1 (broadcastInDim S122880x1 ![0] bcast_S122880_S122880x1_0 a3)))
      (broadcastInDim S122880x256 ![0, 1] bcast_S122880x1_S122880x256_0_1 (broadcastInDim S122880x1 ![0] bcast_S122880_S122880x1_0 a4)))
    (Host.divf (mulf (broadcastInDim S122880x256 ![] bcast_S_S122880x256 (constant S_ .f32 0x3DCCCCCD#32)) G)
      (broadcastInDim S122880x256 ![0, 1] bcast_S122880x1_S122880x256_0_1 (broadcastInDim S122880x1 ![0] bcast_S122880_S122880x1_0
        (addf (Host.sqrt (refM G a5)) (broadcastInDim S122880 ![] bcast_S_S122880 (constant S_ .f32 0x322BCC77#32))))))
/-- Their smallest and largest of a row. -/
def refMin : FVec Ideal S122880 .f32 :=
  Host.reduce FloatOps.minimumf (refW G a1 a3 a4 a5) (constant S_ .f32 0x7F800000#32) reducesTo_S122880x256_S122880_d1 h_S_
def refMax : FVec Ideal S122880 .f32 :=
  Host.reduce FloatOps.maximumf (refW G a1 a3 a4 a5) (constant S_ .f32 0xFF800000#32) reducesTo_S122880x256_S122880_d1 h_S_
/-- The new scales. -/
def refS : FVec Ideal S122880 .f32 :=
  select (cmpf .oeq (refMax G a1 a3 a4 a5) (refMin G a1 a3 a4 a5)) (broadcastInDim S122880 ![] bcast_S_S122880 (constant S_ .f32 0x3F800000#32))
    (Host.divf (subf (refMax G a1 a3 a4 a5) (refMin G a1 a3 a4 a5)) (broadcastInDim S122880 ![] bcast_S_S122880 (constant S_ .f32 0x437F0000#32)))
/-- The new codes. -/
def refC : IVec S122880x256 8 :=
  trunci 8 (fptosi 32 (minimumf (broadcastInDim S122880x256 ![] bcast_S_S122880x256 (sitofp .f32 (constantI S_ 32 255#32)))
    (maximumf (broadcastInDim S122880x256 ![] bcast_S_S122880x256 (sitofp .f32 (constantI S_ 32 0#32)))
      (Host.roundeven (Host.divf (subf (refW G a1 a3 a4 a5)
          (broadcastInDim S122880x256 ![0, 1] bcast_S122880x1_S122880x256_0_1 (broadcastInDim S122880x1 ![0] bcast_S122880_S122880x1_0 (refMin G a1 a3 a4 a5))))
        (broadcastInDim S122880x256 ![0, 1] bcast_S122880x1_S122880x256_0_1 (broadcastInDim S122880x1 ![0] bcast_S122880_S122880x1_0 (refS G a1 a3 a4 a5)))))))) natLt_8_32

variable (r : Fin 122880)
abbrev aR : Fin 256 → EReal := fun d => G (ix2 r d)
abbrev qR : Fin 256 → BitVec 8 := fun d => a1 (ix2 r d)

theorem refM_at : refM G a5 (ix1 r) = mnewR (aR G r) (a5 (ix1 r)) := by
  pointwise [refM]
  rfl

theorem refW_at (d : Fin 256) : refW G a1 a3 a4 a5 (ix2 r d) = wnewR (aR G r) (qR a1 r) (a3 (ix1 r)) (a4 (ix1 r)) (a5 (ix1 r)) d := by
  pointwise [refW]
  rw [refM_at]
  rfl

theorem refMin_at : refMin G a1 a3 a4 a5 (ix1 r) = minR (aR G r) (qR a1 r) (a3 (ix1 r)) (a4 (ix1 r)) (a5 (ix1 r)) := by
  have h := refW_at G a1 a3 a4 a5 r
  unfold refMin
  generalize refW G a1 a3 a4 a5 = W at h ⊢
  pointwise
  simp only [h]
  rfl

theorem refMax_at : refMax G a1 a3 a4 a5 (ix1 r) = maxR (aR G r) (qR a1 r) (a3 (ix1 r)) (a4 (ix1 r)) (a5 (ix1 r)) := by
  have h := refW_at G a1 a3 a4 a5 r
  unfold refMax
  generalize refW G a1 a3 a4 a5 = W at h ⊢
  pointwise
  simp only [h]
  rfl

theorem pick_at (L U : FVec Ideal S122880 .f32) :
    (select (cmpf .oeq U L) (broadcastInDim S122880 ![] bcast_S_S122880 (constant S_ .f32 0x3F800000#32))
      (Host.divf (subf U L) (broadcastInDim S122880 ![] bcast_S_S122880 (constant S_ .f32 0x437F0000#32)))) (ix1 r)
    = (if U (ix1 r) = L (ix1 r) then 1 else Ideal.div (U (ix1 r) - L (ix1 r)) (Ideal.ofBits .f32 0x437F0000#32)) := by
  pointwise

theorem refS_at : refS G a1 a3 a4 a5 (ix1 r) = sclR (aR G r) (qR a1 r) (a3 (ix1 r)) (a4 (ix1 r)) (a5 (ix1 r)) := by
  unfold refS
  rw [pick_at, refMin_at, refMax_at]
  unfold sclR
  exact if_congr Iff.rfl rfl rfl

theorem code_at (W : FVec Ideal S122880x256 .f32) (L U : FVec Ideal S122880 .f32) (d : Fin 256) :
    (trunci 8 (fptosi 32 (minimumf (broadcastInDim S122880x256 ![] bcast_S_S122880x256 (sitofp .f32 (constantI S_ 32 255#32)))
      (maximumf (broadcastInDim S122880x256 ![] bcast_S_S122880x256 (sitofp .f32 (constantI S_ 32 0#32)))
        (Host.roundeven (Host.divf (subf W
            (broadcastInDim S122880x256 ![0, 1] bcast_S122880x1_S122880x256_0_1 (broadcastInDim S122880x1 ![0] bcast_S122880_S122880x1_0 L)))
          (broadcastInDim S122880x256 ![0, 1] bcast_S122880x1_S122880x256_0_1 (broadcastInDim S122880x1 ![0] bcast_S122880_S122880x1_0 U)))))))
        natLt_8_32 : IVec S122880x256 8) (ix2 r d)
    = BitVec.setWidth 8 (FloatOps.fptosi (F := Ideal) (φ := .f32) 32
        (min (FloatOps.sitofp (F := Ideal) .f32 255#32) (max (FloatOps.sitofp (F := Ideal) .f32 0#32)
          (Ideal.liftRound Ideal.roundHalfEven (Ideal.div (W (ix2 r d) - L (ix1 r)) (U (ix1 r))))))) := by
  pointwise

theorem refC_at (d : Fin 256) : refC G a1 a3 a4 a5 (ix2 r d) = codR (aR G r) (qR a1 r) (a3 (ix1 r)) (a4 (ix1 r)) (a5 (ix1 r)) d := by
  unfold refC
  rw [code_at, refW_at, refMin_at, refS_at]
  unfold codR rndR
  with_reducible rfl
end Row

theorem cast3_at {α : Type} (x : S122880.Idx → α) (i : Fin 480) (j : Fin 2) (l : Fin 128) :
    shapeCast S480x2x128 x shapeCasts_S122880_S480x2x128 (ix3 i j l) = x (ix1 (row3 i j l)) := by
  pointwise
  rfl

section Sum
variable (a0 : IVec S983040x128 32) (a2 : IVec S122881 32)

/-- The occurrences' gradients. -/
def refX : FVec Ideal S983040x256 .f32 :=
  concatenate S983040x256 1 [⟨S983040x128, (bitcastToFloat (F := Ideal) .f32 (Host.shli a0 (broadcastInDim S983040x128 ![] bcast_S_S983040x128 (constantI S_ 32 16#32))))⟩, ⟨S983040x128, (bitcastToFloat (F := Ideal) .f32 (andi a0 (broadcastInDim S983040x128 ![] bcast_S_S983040x128 (constantI S_ 32 4294901760#32))))⟩] concatenates_S983040x128_S983040x128_S983040x256_d1
/-- The row each occurrence belongs to. -/
def refI : IVec S983040 32 :=
  subi (Host.reduce IntOp.addi (extui 32 (cmpi .sle (broadcastInDim S122881x983040 ![0, 1] bcast_S122881x1_S122881x983040_0_1 (broadcastInDim S122881x1 ![0] bcast_S122881_S122881x1_0 a2)) (broadcastInDim S122881x983040 ![0, 1] bcast_S1x983040_S122881x983040_0_1 (broadcastInDim S1x983040 ![1] bcast_S983040_S1x983040_1 (iotaInDim S983040 32 0)))) natLt_1_32) (constantI S_ 32 0#32) reducesTo_S122881x983040_S983040_d0 h_S_) (broadcastInDim S983040 ![] bcast_S_S983040 (constantI S_ 32 1#32))
/-- The summed gradients. -/
def refG : FVec Ideal S122880x256 .f32 :=
  Host.scatterAdd scatter_S122880x256_S983040x1_S983040x256_1_0_0_1 (broadcastInDim S122880x256 ![] bcast_S_S122880x256 (constant S_ .f32 0x00000000#32))
    (broadcastInDim S983040x1 ![0] bcast_S983040_S983040x1_0 (refI a2)) (refX a0)
end Sum

section Res
variable (m : (ℓ : Loc nD τ sig) → Buf (Elt Ideal) ℓ) (c : Dev nD)

theorem res52 : Value.res_main_v52 (F := Ideal) m c =
    refC (refG (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) := by
  rfl

theorem res53 : Value.res_main_v53 (F := Ideal) m c =
    shapeCast S480x2x128 (refS (refG (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) shapeCasts_S122880_S480x2x128 := by
  rfl

theorem res54 : Value.res_main_v54 (F := Ideal) m c =
    shapeCast S480x2x128 (refMin (refG (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) shapeCasts_S122880_S480x2x128 := by
  rfl

end Res

end Cert.Proof.R

end
-- ==== Proof.VSum.lean ====
/-
  The sum of a run's occurrence gradients, and how the kernel's tiles of chunks come to it.
-/
module

public import proofs.«01_k».proof.Proof.VRow
public import Idealize.ShloMosaic.Lib.Pointwise

@[expose] public section

noncomputable section

namespace Cert.Proof

open Idealize.ShloMosaic

/-- Occurrence `n`'s gradient at column `d`: the low or the high half of a packed word, a bfloat16, as its value. -/
def gOcc (x : Fin 983040 → Fin 128 → BitVec 32) (n : Fin 983040) (d : Fin 256) : EReal :=
  if h : d.val < 128 then Ideal.ofBits .f32 (x n ⟨d.val, h⟩ <<< 16)
  else Ideal.ofBits .f32 (x n ⟨d.val - 128, by omega⟩ &&& 4294901760#32)

/-- That of number `n`, nothing past the last. -/
def gNat (x : Fin 983040 → Fin 128 → BitVec 32) (n : ℕ) (d : Fin 256) : EReal :=
  if h : n < 983040 then gOcc x ⟨n, h⟩ d else 0

/-- The sum of the gradients of the occurrences from `lo` to `hi`, at column `d`. -/
def runSum (x : Fin 983040 → Fin 128 → BitVec 32) (lo hi : ℕ) (d : Fin 256) : EReal :=
  ∑ n ∈ Finset.range 983040, if lo ≤ n ∧ n < hi then gNat x n d else 0

/-- A term of it. -/
def term (x : Fin 983040 → Fin 128 → BitVec 32) (lo hi : ℕ) (d : Fin 256) (n : ℕ) : EReal :=
  if lo ≤ n ∧ n < hi then gNat x n d else 0

/-- Summing the terms of a stretch that holds the run is summing the run. -/
theorem stretch (x : Fin 983040 → Fin 128 → BitVec 32) (lo hi : ℕ) (d : Fin 256) (a K : ℕ) (ha : a ≤ lo) (hb : hi ≤ a + K) (hc : a + K ≤ 983040) :
    ∑ n ∈ Finset.range K, term x lo hi d (a + n) = runSum x lo hi d := by
  obtain ⟨R, hR⟩ := Nat.exists_eq_add_of_le hc
  unfold runSum
  rw [hR, Finset.sum_range_add, Finset.sum_range_add, Finset.sum_eq_zero (s := Finset.range a), Finset.sum_eq_zero (s := Finset.range R), zero_add, add_zero]
  · rfl
  · intro n _
    rw [if_neg]; omega
  · intro n hn
    have := Finset.mem_range.1 hn
    rw [if_neg]; omega

/-- One chunk more. -/
theorem chunk_step (x : Fin 983040 → Fin 128 → BitVec 32) (lo hi : ℕ) (d : Fin 256) (a k : ℕ) :
    ∑ n ∈ Finset.range (256 * (k + 1)), term x lo hi d (256 * a + n)
    = ∑ n ∈ Finset.range (256 * k), term x lo hi d (256 * a + n) + ∑ y : Fin 256, term x lo hi d (256 * (a + k) + y.val) := by
  rw [show 256 * (k + 1) = 256 * k + 256 by ring, Finset.sum_range_add, ← Fin.sum_univ_eq_sum_range (fun n => term x lo hi d (256 * a + (256 * k + n))) 256]
  exact congrArg _ (Finset.sum_congr rfl fun y _ => by rw [show 256 * a + (256 * k + y.val) = 256 * (a + k) + y.val by ring])

end Cert.Proof

end
-- ==== Proof.VScat.lean ====
/-
  The reference's segment sum: a scatter of the occurrences' gradients into their rows, which is each row's sum over its run.
-/
module

public import proofs.«01_k».proof.Proof.VRef
public import proofs.«01_k».proof.Proof.VSum
public import proofs.«01_k».proof.Proof.Offs
public import Idealize.ShloMosaic.Lib.WordSum
public import Idealize.ShloMosaic.Lib.Affine
public import Idealize.ShloMosaic.Lib.Routing.OpsPair

@[expose] public section

noncomputable section

namespace Cert.Proof.R

open Cert.ReferenceIdeal Cert.ReferenceIdeal.Gen
open Idealize.ShloMosaic Idealize.ShloMosaic.TcCoe
open Idealize.SL.Sem

section Gen
variable {R N C w : ℕ} (d : ScatterDims ⟨2, ![R, C]⟩ ⟨2, ![N, 1]⟩ ⟨2, ![N, C]⟩) (huw : d.updateWindowDims = [1])
  (hiw : d.insertedWindowDims = [0]) (hsd : d.scatterDimsToOperandDims = [0]) (hivd : d.indexVectorDim = 1)
  (idx : IVec ⟨2, ![N, 1]⟩ w) (n : Fin N) (e : Fin C)

include hsd in
theorem start1 : d.start (ix2 n e) idx 1 = 0 := by
  unfold ScatterDims.start
  rw [dif_neg]
  rw [hsd]; simp

include huw hsd hivd in
theorem start0 : d.start (ix2 n e) idx 0 = (idx (ix2 n (0 : Fin 1))).toInt := by
  have hm : (0 : Fin 2) ∈ d.scatterDimsToOperandDims := by rw [hsd]; exact List.mem_singleton.2 rfl
  have hk0 : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have e0 : ∀ X : Fin 2, X = 0 → (ix2 n e X).val = n.val := fun X h => by subst h; rfl
  unfold ScatterDims.start
  rw [dif_pos hm]
  refine congrArg (fun q => (idx q).toInt) ?_
  funext b'
  apply Fin.ext
  match b' with
  | ⟨0, _⟩ =>
    unfold ScatterDims.siIdx
    rw [dif_neg (by rw [hivd]; exact Nat.zero_ne_one)]
    unfold ScatterDims.siCoord
    simp only [Fin.val_cast]
    exact e0 _ (hk0 _ (List.getElem_mem _))
  | ⟨1, _⟩ =>
    unfold ScatterDims.siIdx
    rw [dif_pos (by rw [hivd])]
    show List.idxOf (0 : Fin 2) d.scatterDimsToOperandDims = 0
    rw [hsd]; simp

include hiw in
theorem window0 : d.window (ix2 n e) 0 = 0 := by
  unfold ScatterDims.window
  rw [dif_neg fun h => (of_decide_eq_true (List.mem_filter.1 h).2) (by rw [hiw]; exact List.mem_singleton.2 rfl)]

include huw hiw in
theorem window1 : d.window (ix2 n e) 1 = e.val := by
  have e1 : ∀ X : Fin 2, X = 1 → (ix2 n e X).val = e.val := fun X h => by subst h; rfl
  unfold ScatterDims.window
  have hm : (1 : Fin 2) ∈ d.sKept := List.mem_filter.2 ⟨List.mem_finRange _, by rw [hiw]; rfl⟩
  rw [dif_pos hm]
  refine e1 _ ?_
  have : ∀ X ∈ d.updateWindowDims, X = (1 : Fin 2) := fun X hX => by rw [huw] at hX; exact List.mem_singleton.1 hX
  exact this _ (List.getElem_mem _)

include huw hiw hsd hivd in
/-- Where an update of a scatter of rows lands. -/
theorem lands (r : Fin R) (e' : Fin C) : d.resultIdx? (ix2 n e) idx = some (ix2 r e') ↔ (idx (ix2 n (0 : Fin 1))).toInt = r.val ∧ e = e' := by
  rw [Routing.resultIdx?_eq_some]
  have h0 := start0 d huw hsd hivd idx n e
  have h1 := start1 d hsd idx n e
  have w0 := window0 d hiw n e
  have w1 := window1 d huw hiw n e
  constructor
  · intro h
    have a0 := h (0 : Fin 2)
    have a1 := h (1 : Fin 2)
    rw [h0, w0] at a0
    rw [h1, w1] at a1
    refine ⟨?_, Fin.ext ?_⟩
    · simpa using a0
    · simpa using a1
  · rintro ⟨h, rfl⟩ a
    match a with
    | ⟨0, _⟩ =>
      refine Eq.trans (congrArg₂ (fun (p : ℤ) (q : ℕ) => p + (q : ℤ)) h0 w0) ?_
      rw [h]; exact add_zero _
    | ⟨1, _⟩ =>
      refine Eq.trans (congrArg₂ (fun (p : ℤ) (q : ℕ) => p + (q : ℤ)) h1 w1) ?_
      exact zero_add _

include huw hiw hsd hivd in
/-- A scatter of rows, at an element: what was there plus the updates whose index is its row. -/
theorem scat_at (x : (⟨2, ![R, C]⟩ : Shape).Idx → EReal) (upd : (⟨2, ![N, C]⟩ : Shape).Idx → EReal) (r : Fin R) (c : Fin C) :
    Ideal.hostScatterAdd d x idx upd (ix2 r c)
      = x (ix2 r c) + ∑ n : Fin N, if (idx (ix2 n (0 : Fin 1))).toInt = r.val then upd (ix2 n c) else 0 := by
  unfold Ideal.hostScatterAdd
  refine congrArg (x (ix2 r c) + ·) ?_
  rw [Finset.sum_filter, sum_idx2]
  refine Finset.sum_congr rfl fun n _ => ?_
  rw [Finset.sum_eq_single c]
  · exact if_congr ((lands d huw hiw hsd hivd idx n c r c).trans (and_iff_left rfl)) rfl rfl
  · intro e _ he
    exact if_neg fun h => he ((lands d huw hiw hsd hivd idx n e r c).1 h).2
  · intro h; exact absurd (Finset.mem_univ _) h
end Gen

/-- The occurrences' gradients, element by element. -/
theorem refX_at (a0 : IVec S983040x128 32) (n : Fin 983040) (d : Fin 256) : refX a0 (ix2 n d) = gOcc (fun n l => a0 (ix2 n l)) n d := by
  by_cases h : d.val < 128
  · pointwise [refX]
    simp only [gOcc, dif_pos h]
    rfl
  · pointwise [refX]
    simp only [gOcc, dif_neg h]
    rfl

theorem fold_add {ι : Type} (S : Finset ι) (f : ι → BitVec 32) : Finset.fold IntOp.addi 0#32 f S = ∑ k ∈ S, f k :=
  (Finset.sum_eq_fold S f).symm

theorem red_at (v : IVec S122881x983040 32) (n : Fin 983040) : Host.reduce IntOp.addi v (constantI S_ 32 0#32) reducesTo_S122881x983040_S983040_d0 h_S_ (ix1 n) = ∑ k : Fin 122881, v (ix2 k n) := by
  pointwise
  exact fold_add _ _

theorem le_at (a2 : IVec S122881 32) (k : Fin 122881) (n : Fin 983040) :
   (extui 32 (cmpi .sle (broadcastInDim S122881x983040 ![0, 1] bcast_S122881x1_S122881x983040_0_1 (broadcastInDim S122881x1 ![0] bcast_S122881_S122881x1_0 a2)) (broadcastInDim S122881x983040 ![0, 1] bcast_S1x983040_S122881x983040_0_1 (broadcastInDim S1x983040 ![1] bcast_S983040_S1x983040_1 (iotaInDim S983040 32 0)))) natLt_1_32) (ix2 k n)
    = (IntOp.cmpi .sle (a2 (ix1 k)) (BitVec.ofNat 32 n.val)).setWidth 32 := by
  pointwise

theorem refI_at (a2 : IVec S122881 32) (n : Fin 983040) :
    refI a2 (ix1 n) = (∑ k : Fin 122881, (IntOp.cmpi .sle (a2 (ix1 k)) (BitVec.ofNat 32 n.val)).setWidth 32) - 1#32 := by
  refine congrArg (· - 1#32) ((red_at _ n).trans ?_)
  exact Finset.sum_congr rfl fun k _ => le_at a2 k n

/-- How many run offsets are at most `n`. -/
def cnt (a2 : IVec S122881 32) (n : ℕ) : ℕ := ((Finset.range 122881).filter fun k => off a2 k ≤ n).card

theorem cnt_iff {a2 : IVec S122881 32} (hs : Sorted a2) (n r : ℕ) (hr : r < 122880) : cnt a2 n = r + 1 ↔ off a2 r ≤ n ∧ n < off a2 (r + 1) := by
  constructor
  · intro h
    constructor
    · by_contra hc
      have : cnt a2 n ≤ (Finset.range r).card := Finset.card_le_card fun k hk => by
        obtain ⟨hk, hk'⟩ := Finset.mem_filter.1 hk
        have hk := Finset.mem_range.1 hk
        refine Finset.mem_range.2 ?_
        by_contra hkr
        have := hs.mono (show r ≤ k by omega) hk
        omega
      rw [Finset.card_range] at this
      omega
    · by_contra hc
      have : (Finset.range (r + 2)).card ≤ cnt a2 n := Finset.card_le_card fun k hk => by
        have hk := Finset.mem_range.1 hk
        have := hs.mono (show k ≤ r + 1 by omega) (by omega)
        exact Finset.mem_filter.2 ⟨Finset.mem_range.2 (by omega), by omega⟩
      rw [Finset.card_range] at this
      omega
  · rintro ⟨h1, h2⟩
    have : ((Finset.range 122881).filter fun k => off a2 k ≤ n) = Finset.range (r + 1) := by
      ext k
      constructor
      · intro hk
        obtain ⟨hk, hk'⟩ := Finset.mem_filter.1 hk
        have hk := Finset.mem_range.1 hk
        refine Finset.mem_range.2 ?_
        by_contra hkr
        have := hs.mono (show r + 1 ≤ k by omega) hk
        omega
      · intro hk
        have hk := Finset.mem_range.1 hk
        have := hs.mono (show k ≤ r by omega) (by omega)
        exact Finset.mem_filter.2 ⟨Finset.mem_range.2 (by omega), by omega⟩
    unfold cnt
    rw [this, Finset.card_range]

theorem one_at {a2 : IVec S122881 32} (hs : Sorted a2) (n : Fin 983040) (k : Fin 122881) :
    ((IntOp.cmpi .sle (a2 (ix1 k)) (BitVec.ofNat 32 n.val)).setWidth 32).toNat = if off a2 k.val ≤ n.val then 1 else 0 := by
  have hk : off a2 k.val = (a2 (ix1 k)).toNat := off_of k.isLt
  have hle := hs.off_le k.isLt
  have hn := n.isLt
  have e1 : (a2 (ix1 k)).toInt = ((a2 (ix1 k)).toNat : ℤ) := BitVec.toInt_eq_toNat_of_lt (by omega)
  have hnn : (BitVec.ofNat 32 n.val).toNat = n.val := by rw [BitVec.toNat_ofNat]; omega
  have e2 : (BitVec.ofNat 32 n.val).toInt = (n.val : ℤ) := by
    rw [BitVec.toInt_eq_toNat_of_lt (by omega), hnn]
  by_cases h : off a2 k.val ≤ n.val
  · rw [if_pos h, (IntOp.cmpi_sle).2 (by rw [e1, e2]; omega)]
    rfl
  · rw [if_neg h]
    have : IntOp.cmpi .sle (a2 (ix1 k)) (BitVec.ofNat 32 n.val) ≠ 1#1 := fun hc => by
      have := (IntOp.cmpi_sle).1 hc
      rw [e1, e2] at this
      omega
    revert this
    generalize IntOp.cmpi .sle (a2 (ix1 k)) (BitVec.ofNat 32 n.val) = b
    revert b
    decide

theorem card_sum (K : ℕ) (p : ℕ → Prop) [DecidablePred p] : ∑ k : Fin K, (if p k.val then 1 else 0) = ((Finset.range K).filter p).card := by
  rw [Fin.sum_univ_eq_sum_range (fun k => if p k then 1 else 0) K, ← Finset.sum_filter, ← Finset.card_eq_sum_ones]

theorem sum_cnt {a2 : IVec S122881 32} (hs : Sorted a2) (n : Fin 983040) :
    ∑ k : Fin 122881, ((IntOp.cmpi .sle (a2 (ix1 k)) (BitVec.ofNat 32 n.val)).setWidth 32).toNat = cnt a2 n.val := by
  exact (Finset.sum_congr rfl fun k _ => one_at hs n k).trans (card_sum 122881 fun k => off a2 k ≤ n.val)

theorem cnt_le (a2 : IVec S122881 32) (n : ℕ) : cnt a2 n ≤ 122881 :=
  (Finset.card_filter_le _ _).trans_eq (Finset.card_range _)

theorem cnt_pos {a2 : IVec S122881 32} (hs : Sorted a2) (n : ℕ) : 1 ≤ cnt a2 n :=
  Finset.card_pos.2 ⟨0, Finset.mem_filter.2 ⟨Finset.mem_range.2 (by omega), by rw [hs.off_zero]; omega⟩⟩

/-- An occurrence's row is the one whose run it is in. -/
theorem row_iff {a2 : IVec S122881 32} (hs : Sorted a2) (n : Fin 983040) (r : Fin 122880) :
    (refI a2 (ix1 n)).toInt = r.val ↔ off a2 r.val ≤ n.val ∧ n.val < off a2 (r.val + 1) := by
  rw [← cnt_iff hs n.val r.val r.isLt, refI_at]
  have hle := cnt_le a2 n.val
  have hpos := cnt_pos hs n.val
  have e : (∑ k : Fin 122881, (IntOp.cmpi .sle (a2 (ix1 k)) (BitVec.ofNat 32 n.val)).setWidth 32).toNat = cnt a2 n.val := by
    rw [WordSum.toNat_sum _ _ (by rw [sum_cnt hs]; omega), sum_cnt hs]
  generalize (∑ k : Fin 122881, (IntOp.cmpi .sle (a2 (ix1 k)) (BitVec.ofNat 32 n.val)).setWidth 32) = b at e ⊢
  have e' : (b - 1#32).toNat = cnt a2 n.val - 1 := by
    rw [BitVec.toNat_sub, e]
    show (2 ^ 32 - 1 + cnt a2 n.val) % 2 ^ 32 = _
    omega
  rw [BitVec.toInt_eq_toNat_of_lt (by omega), e']
  omega

theorem idx_at (v : IVec S983040 32) (n : Fin 983040) : broadcastInDim S983040x1 ![0] bcast_S983040_S983040x1_0 v (ix2 n (0 : Fin 1)) = v (ix1 n) := by
  pointwise

theorem zero_at (r : Fin 122880) (d : Fin 256) : broadcastInDim S122880x256 ![] bcast_S_S122880x256 (constant (F := Ideal) S_ .f32 0x00000000#32) (ix2 r d) = (0 : EReal) := by
  pointwise

theorem scat_sum (K : ℕ) (f : Fin K → EReal) (g : ℕ → EReal) (h : ∀ n, f n = g n.val) : ∑ n : Fin K, f n = ∑ n ∈ Finset.range K, g n := by
  rw [Finset.sum_congr rfl fun n _ => h n, Fin.sum_univ_eq_sum_range g K]

theorem dims_at (x : FVec Ideal S122880x256 .f32) (idx : IVec S983040x1 32) (upd : FVec Ideal S983040x256 .f32) (r : Fin 122880) (d : Fin 256) :
    Host.scatterAdd scatter_S122880x256_S983040x1_S983040x256_1_0_0_1 x idx upd (ix2 r d)
      = x (ix2 r d) + ∑ n : Fin 983040, if (idx (ix2 n (0 : Fin 1))).toInt = r.val then upd (ix2 n d) else 0 :=
  scat_at (R := 122880) (N := 983040) (C := 256) scatter_S122880x256_S983040x1_S983040x256_1_0_0_1 rfl rfl rfl rfl idx x upd r d

/-- The segment sum of row `r` is the sum over its run. -/
theorem refG_at (a0 : IVec S983040x128 32) {a2 : IVec S122881 32} (hs : Sorted a2) (r : Fin 122880) (d : Fin 256) :
    refG a0 a2 (ix2 r d) = runSum (fun n l => a0 (ix2 n l)) (off a2 r.val) (off a2 (r.val + 1)) d := by
  unfold refG
  refine (dims_at _ _ _ r d).trans ?_
  rw [zero_at, zero_add]
  unfold runSum
  refine scat_sum 983040 _ _ fun n => ?_
  rw [idx_at, refX_at]
  refine (if_congr (row_iff hs n r) rfl rfl).trans ?_
  rw [gNat, dif_pos n.isLt]

end Cert.Proof.R

end
-- ==== Proof.VOut.lean ====
/-
  The four blocks the kernel stores, element by element: each row's is `VRow`'s of the row's sums, codes, scale, bias
  and momentum.
-/
module

public import proofs.«01_k».proof.Proof.IOut
public import proofs.«01_k».proof.Proof.VRow
public import Idealize.ShloMosaic.Lib.Pointwise

@[expose] public section

noncomputable section

namespace Cert.Proof.I

open Cert.KernelIdeal Cert.KernelIdeal.Gen
open Idealize.ShloMosaic

/-- Row `r` of the upper and of the lower half of a block. -/
abbrev tR (r : Fin 128) : Fin 256 := ⟨r.val, by omega⟩
abbrev bR (r : Fin 128) : Fin 256 := ⟨128 + r.val, by omega⟩

theorem topA_at {e : EltTy} (X : Vec Ideal S256x256 e) (r : Fin 128) (d : Fin 256) : topA X (ix2 r d) = X (ix2 (tR r) d) := by
  refine congrArg X (funext fun a => Fin.ext ?_)
  match a with
  | ⟨0, _⟩ => show 0 + 1 * r.val = r.val; omega
  | ⟨1, _⟩ => show 0 + 1 * d.val = d.val; omega
theorem botA_at {e : EltTy} (X : Vec Ideal S256x256 e) (r : Fin 128) (d : Fin 256) : botA X (ix2 r d) = X (ix2 (bR r) d) := by
  refine congrArg X (funext fun a => Fin.ext ?_)
  match a with
  | ⟨0, _⟩ => show 128 + 1 * r.val = 128 + r.val; omega
  | ⟨1, _⟩ => show 0 + 1 * d.val = d.val; omega
theorem topS_at {e : EltTy} (X : Vec Ideal S1x2x128 e) (l : Fin 128) : topS X (ix3 0 0 l) = X (ix3 0 0 l) := by
  refine congrArg X (funext fun a => Fin.ext ?_)
  match a with
  | ⟨0, _⟩ => rfl
  | ⟨1, _⟩ => rfl
  | ⟨2, _⟩ => show 0 + 1 * l.val = l.val; omega
theorem botS_at {e : EltTy} (X : Vec Ideal S1x2x128 e) (l : Fin 128) : botS X (ix3 0 0 l) = X (ix3 0 1 l) := by
  refine congrArg X (funext fun a => Fin.ext ?_)
  match a with
  | ⟨0, _⟩ => rfl
  | ⟨1, _⟩ => rfl
  | ⟨2, _⟩ => show 0 + 1 * l.val = l.val; omega

section Out
variable (A : Vec Ideal S256x256 .f32) (X3 : Vec Ideal S256x256 .i8) (X6 X7 X8 : Vec Ideal S1x2x128 .f32)

/-- The row functions of a row of the upper half. -/
abbrev aT (r : Fin 128) : Fin 256 → EReal := fun d => A (ix2 (tR r) d)
abbrev qT (r : Fin 128) : Fin 256 → BitVec 8 := fun d => X3 (ix2 (tR r) d)
abbrev aB (r : Fin 128) : Fin 256 → EReal := fun d => A (ix2 (bR r) d)
abbrev qB (r : Fin 128) : Fin 256 → BitVec 8 := fun d => X3 (ix2 (bR r) d)

theorem g0lo_at (r x : Fin 128) : k0_pay14 (topA A) (ix2 r x) = A (ix2 (tR r) (loL x)) := by
  pointwise [k0_pay14]
  rw [topA_at]
theorem g0hi_at (r x : Fin 128) : k0_pay15 (topA A) (ix2 r x) = A (ix2 (tR r) (hiL x)) := by
  pointwise [k0_pay15]
  rw [topA_at]

theorem mom0_at (r l : Fin 128) : mom0 A X8 (ix2 r l) = mnewR (aT A r) (X8 (ix3 0 0 r)) := by
  pointwise [mom0, k0_pay21]
  rw [topS_at, mul_inv256]
  unfold mnewR
  rw [← sum_halves]
  refine congrArg (fun z => _ + Ideal.div z _) (Finset.sum_congr rfl fun x _ => ?_)
  rw [g0lo_at, g0hi_at]

theorem lo0_at (r l : Fin 128) : k0_pay23 (k0_pay14 (topA A)) (k0_pay19 (topS X6) (topS X7) (topA X3)) (mom0 A X8) (ix2 r l)
    = wnewR (aT A r) (qT X3 r) (X6 (ix3 0 0 r)) (X7 (ix3 0 0 r)) (X8 (ix3 0 0 r)) (loL l) := by
  pointwise [k0_pay23, k0_pay22, k0_pay14, k0_pay19, k0_pay18, k0_pay16, k0_pay17]
  rw [mom0_at, topA_at, topA_at, topS_at, topS_at]
  rfl
theorem hi0_at (r l : Fin 128) : k0_pay24 (k0_pay15 (topA A)) (k0_pay20 (topS X6) (topS X7) (topA X3)) (mom0 A X8) (ix2 r l)
    = wnewR (aT A r) (qT X3 r) (X6 (ix3 0 0 r)) (X7 (ix3 0 0 r)) (X8 (ix3 0 0 r)) (hiL l) := by
  pointwise [k0_pay24, k0_pay22, k0_pay15, k0_pay20, k0_pay18, k0_pay16, k0_pay17]
  rw [mom0_at, topA_at, topA_at, topS_at, topS_at]
  rfl

theorem min0_at (r l : Fin 128) : min0 A X3 X6 X7 X8 (ix2 r l)
    = minR (aT A r) (qT X3 r) (X6 (ix3 0 0 r)) (X7 (ix3 0 0 r)) (X8 (ix3 0 0 r)) := by
  pointwise [min0, k0_pay25]
  exact (Finset.fold_congr fun x _ => congrArg₂ min (lo0_at A X3 X6 X7 X8 r x) (hi0_at A X3 X6 X7 X8 r x)).trans (fold_min_halves _ _)

theorem scl0_at (r l : Fin 128) : scl0 A X3 X6 X7 X8 (ix2 r l)
    = sclR (aT A r) (qT X3 r) (X6 (ix3 0 0 r)) (X7 (ix3 0 0 r)) (X8 (ix3 0 0 r)) := by
  have hm := min0_at A X3 X6 X7 X8 r l
  unfold min0 at hm
  have hx := (Finset.fold_congr (b := Ideal.ofBits .f32 0xFF800000#32) (s := Finset.univ) fun x (_ : x ∈ Finset.univ) => congrArg₂ max (lo0_at A X3 X6 X7 X8 r x) (hi0_at A X3 X6 X7 X8 r x)).trans (fold_max_halves _ _)
  pointwise [scl0, k0_pay26]
  rw [hm, hx]
  rfl

theorem g1lo_at (r x : Fin 128) : k0_pay31 (botA A) (ix2 r x) = A (ix2 (bR r) (loL x)) := by
  pointwise [k0_pay31]
  rw [botA_at]
theorem g1hi_at (r x : Fin 128) : k0_pay32 (botA A) (ix2 r x) = A (ix2 (bR r) (hiL x)) := by
  pointwise [k0_pay32]
  rw [botA_at]

theorem mom1_at (r l : Fin 128) : mom1 A X8 (ix2 r l) = mnewR (aB A r) (X8 (ix3 0 1 r)) := by
  pointwise [mom1, k0_pay37, k0_pay35]
  rw [botS_at, mul_inv256]
  unfold mnewR
  rw [← sum_halves]
  refine congrArg (fun z => _ + Ideal.div z _) (Finset.sum_congr rfl fun x _ => ?_)
  rw [g1lo_at, g1hi_at]

theorem den1_at (r l : Fin 128) : k0_pay38 (k0_pay31 (botA A)) (k0_pay32 (botA A)) (k0_pay35 (botS X8)) (ix2 r l)
    = Ideal.sqrt (mnewR (aB A r) (X8 (ix3 0 1 r))) + Ideal.ofBits .f32 0x322BCC77#32 := by
  have hm := mom1_at A X8 r l
  unfold mom1 at hm
  pointwise [k0_pay38]
  rw [hm]

theorem lo1_at (r l : Fin 128) : k0_pay39 (k0_pay31 (botA A)) (k0_pay32 (botA A)) (k0_pay33 (botS X6)) (k0_pay34 (botS X7)) (k0_pay35 (botS X8)) (botA X3) (ix2 r l)
    = wnewR (aB A r) (qB X3 r) (X6 (ix3 0 1 r)) (X7 (ix3 0 1 r)) (X8 (ix3 0 1 r)) (loL l) := by
  have hm := den1_at A X8 r l
  dsimp only [k0_pay39]
  generalize k0_pay38 (k0_pay31 (botA A)) (k0_pay32 (botA A)) (k0_pay35 (botS X8)) = D at hm ⊢
  pointwise [k0_pay31, k0_pay33, k0_pay34, k0_pay36]
  rw [hm, botA_at, botA_at, botS_at, botS_at]
  rfl
theorem hi1_at (r l : Fin 128) : hi1 A X3 X6 X7 X8 (ix2 r l)
    = wnewR (aB A r) (qB X3 r) (X6 (ix3 0 1 r)) (X7 (ix3 0 1 r)) (X8 (ix3 0 1 r)) (hiL l) := by
  have hm := den1_at A X8 r l
  dsimp only [hi1, k0_pay40]
  generalize k0_pay38 (k0_pay31 (botA A)) (k0_pay32 (botA A)) (k0_pay35 (botS X8)) = D at hm ⊢
  pointwise [k0_pay32, k0_pay33, k0_pay34, k0_pay36]
  rw [hm, botA_at, botA_at, botS_at, botS_at]
  rfl

theorem min1_at (r l : Fin 128) : min1 A X3 X6 X7 X8 (ix2 r l)
    = minR (aB A r) (qB X3 r) (X6 (ix3 0 1 r)) (X7 (ix3 0 1 r)) (X8 (ix3 0 1 r)) := by
  have hh := hi1_at A X3 X6 X7 X8 r
  unfold hi1 at hh
  pointwise [min1, k0_pay41]
  exact (Finset.fold_congr fun x _ => congrArg₂ min (lo1_at A X3 X6 X7 X8 r x) (hh x)).trans (fold_min_halves _ _)

theorem scl1_at (r l : Fin 128) : scl1 A X3 X6 X7 X8 (ix2 r l)
    = sclR (aB A r) (qB X3 r) (X6 (ix3 0 1 r)) (X7 (ix3 0 1 r)) (X8 (ix3 0 1 r)) := by
  have hm := min1_at A X3 X6 X7 X8 r l
  unfold min1 at hm
  have hh := hi1_at A X3 X6 X7 X8 r
  unfold hi1 at hh
  have hx := (Finset.fold_congr (b := Ideal.ofBits .f32 0xFF800000#32) (s := Finset.univ) fun x (_ : x ∈ Finset.univ) => congrArg₂ max (lo1_at A X3 X6 X7 X8 r x) (hh x)).trans (fold_max_halves _ _)
  pointwise [scl1, k0_pay42]
  rw [hm, hx]
  rfl

theorem cod0_lo (r x : Fin 128) : cod0 A X3 X6 X7 X8 (ix2 r (loL x))
    = codR (aT A r) (qT X3 r) (X6 (ix3 0 0 r)) (X7 (ix3 0 0 r)) (X8 (ix3 0 0 r)) (loL x) := by
  have h1 := lo0_at A X3 X6 X7 X8 r x
  have h2 := min0_at A X3 X6 X7 X8 r x
  have h3 := scl0_at A X3 X6 X7 X8 r x
  unfold cod0 k0_pay27
  unfold min0 at h2
  unfold scl0 at h3
  generalize k0_pay25 (k0_pay14 (topA A)) (k0_pay15 (topA A)) (k0_pay19 (topS X6) (topS X7) (topA X3)) (k0_pay20 (topS X6) (topS X7) (topA X3)) (mom0 A X8) = M at *
  generalize k0_pay26 (k0_pay14 (topA A)) (k0_pay15 (topA A)) (k0_pay19 (topS X6) (topS X7) (topA X3)) (k0_pay20 (topS X6) (topS X7) (topA X3)) (mom0 A X8) = S at *
  generalize k0_pay23 (k0_pay14 (topA A)) (k0_pay19 (topS X6) (topS X7) (topA X3)) (mom0 A X8) = L at *
  generalize k0_pay24 (k0_pay15 (topA A)) (k0_pay20 (topS X6) (topS X7) (topA X3)) (mom0 A X8) = H at *
  pointwise
  rw [h1, h2, h3]
  rfl

theorem cod0_hi (r x : Fin 128) : cod0 A X3 X6 X7 X8 (ix2 r (hiL x))
    = codR (aT A r) (qT X3 r) (X6 (ix3 0 0 r)) (X7 (ix3 0 0 r)) (X8 (ix3 0 0 r)) (hiL x) := by
  have h1 := hi0_at A X3 X6 X7 X8 r x
  have h2 := min0_at A X3 X6 X7 X8 r x
  have h3 := scl0_at A X3 X6 X7 X8 r x
  unfold cod0 k0_pay27
  unfold min0 at h2
  unfold scl0 at h3
  generalize k0_pay25 (k0_pay14 (topA A)) (k0_pay15 (topA A)) (k0_pay19 (topS X6) (topS X7) (topA X3)) (k0_pay20 (topS X6) (topS X7) (topA X3)) (mom0 A X8) = M at *
  generalize k0_pay26 (k0_pay14 (topA A)) (k0_pay15 (topA A)) (k0_pay19 (topS X6) (topS X7) (topA X3)) (k0_pay20 (topS X6) (topS X7) (topA X3)) (mom0 A X8) = S at *
  generalize k0_pay23 (k0_pay14 (topA A)) (k0_pay19 (topS X6) (topS X7) (topA X3)) (mom0 A X8) = L at *
  generalize k0_pay24 (k0_pay15 (topA A)) (k0_pay20 (topS X6) (topS X7) (topA X3)) (mom0 A X8) = H at *
  pointwise
  rw [h1, h2, h3]
  rfl

theorem cod1_lo (r x : Fin 128) : cod1 A X3 X6 X7 X8 (ix2 r (loL x))
    = codR (aB A r) (qB X3 r) (X6 (ix3 0 1 r)) (X7 (ix3 0 1 r)) (X8 (ix3 0 1 r)) (loL x) := by
  have h1 := lo1_at A X3 X6 X7 X8 r x
  have h2 := min1_at A X3 X6 X7 X8 r x
  have h3 := scl1_at A X3 X6 X7 X8 r x
  have h4 : q1 A X3 X6 X7 X8 (ix2 r x) = Ideal.liftRound Ideal.roundHalfEven (Ideal.div (wnewR (aB A r) (qB X3 r) (X6 (ix3 0 1 r)) (X7 (ix3 0 1 r)) (X8 (ix3 0 1 r)) (loL x)
      - minR (aB A r) (qB X3 r) (X6 (ix3 0 1 r)) (X7 (ix3 0 1 r)) (X8 (ix3 0 1 r))) (sclR (aB A r) (qB X3 r) (X6 (ix3 0 1 r)) (X7 (ix3 0 1 r)) (X8 (ix3 0 1 r)))) := by
    unfold min1 at h2
    unfold scl1 at h3
    rw [← h1, ← h2, ← h3]
    unfold q1
    pointwise [k0_pay43]
  unfold cod1 k0_pay1
  generalize hi1 A X3 X6 X7 X8 = H at *
  generalize min1 A X3 X6 X7 X8 = M at *
  generalize scl1 A X3 X6 X7 X8 = S at *
  generalize q1 A X3 X6 X7 X8 = Q at *
  pointwise
  rw [h4]
  rfl

theorem cod1_hi (r x : Fin 128) : cod1 A X3 X6 X7 X8 (ix2 r (hiL x))
    = codR (aB A r) (qB X3 r) (X6 (ix3 0 1 r)) (X7 (ix3 0 1 r)) (X8 (ix3 0 1 r)) (hiL x) := by
  have h1 := hi1_at A X3 X6 X7 X8 r x
  have h2 := min1_at A X3 X6 X7 X8 r x
  have h3 := scl1_at A X3 X6 X7 X8 r x
  unfold cod1 k0_pay1
  generalize hi1 A X3 X6 X7 X8 = H at *
  generalize min1 A X3 X6 X7 X8 = M at *
  generalize scl1 A X3 X6 X7 X8 = S at *
  generalize q1 A X3 X6 X7 X8 = Q at *
  pointwise
  rw [h1, h2, h3]
  rfl

/-! The blocks stored. -/

theorem halves2_bot (w0 w1 : Vec Ideal S128x256 .i8) (r : Fin 128) (d : Fin 256) : halves2 w0 w1 (ix2 (bR r) d) = w1 (ix2 r d) :=
  (botA_at (halves2 w0 w1) r d).symm.trans (congrFun (VecWindow.window_put_same (s := S256x256) _ ![128, 0] S128x256.size (by decide) w1) (ix2 r d))
theorem halves2_top (w0 w1 : Vec Ideal S128x256 .i8) (r : Fin 128) (d : Fin 256) : halves2 w0 w1 (ix2 (tR r) d) = w0 (ix2 r d) :=
  (topA_at (halves2 w0 w1) r d).symm.trans ((congrFun (VecWindow.window_put_of_disjoint (s := S256x256) _ ![128, 0] S128x256.size
    ![0, 0] S128x256.size (by decide) w1 0 (.inl (by decide))) (ix2 r d)).trans
    (congrFun (VecWindow.window_put_same (s := S256x256) _ ![0, 0] S128x256.size (by decide) w0) (ix2 r d)))
theorem halves3_bot (w0 w1 : Vec Ideal S1x1x128 .f32) (l : Fin 128) : halves3 w0 w1 (ix3 0 1 l) = w1 (ix3 0 0 l) :=
  (botS_at (halves3 w0 w1) l).symm.trans (congrFun (VecWindow.window_put_same (s := S1x2x128) _ ![0, 1, 0] S1x1x128.size (by decide) w1) (ix3 0 0 l))
theorem halves3_top (w0 w1 : Vec Ideal S1x1x128 .f32) (l : Fin 128) : halves3 w0 w1 (ix3 0 0 l) = w0 (ix3 0 0 l) :=
  (topS_at (halves3 w0 w1) l).symm.trans ((congrFun (VecWindow.window_put_of_disjoint (s := S1x2x128) _ ![0, 1, 0] S1x1x128.size
    ![0, 0, 0] S1x1x128.size (by decide) w1 1 (.inl (by decide))) (ix3 0 0 l)).trans
    (congrFun (VecWindow.window_put_same (s := S1x2x128) _ ![0, 0, 0] S1x1x128.size (by decide) w0) (ix3 0 0 l)))

/-- The row of a block a half and a place in it name. -/
abbrev rw2 (j : Fin 2) (l : Fin 128) : Fin 256 := ⟨j.val * 128 + l.val, by omega⟩
theorem rw2_zero (l : Fin 128) : rw2 0 l = tR l := Fin.ext (by simp)
theorem rw2_one (l : Fin 128) : rw2 1 l = bR l := Fin.ext (by simp)

theorem col_halves (d : Fin 256) : (∃ x, d = loL x) ∨ ∃ x, d = hiL x := by
  by_cases h : d.val < 128
  · exact .inl ⟨⟨d.val, h⟩, rfl⟩
  · exact .inr ⟨⟨d.val - 128, by omega⟩, Fin.ext (by show d.val = 128 + (d.val - 128); omega)⟩

theorem out9_at (j : Fin 2) (l : Fin 128) (d : Fin 256) : out9 A X3 X6 X7 X8 (ix2 (rw2 j l) d)
    = codR (fun e => A (ix2 (rw2 j l) e)) (fun e => X3 (ix2 (rw2 j l) e)) (X6 (ix3 0 j l)) (X7 (ix3 0 j l)) (X8 (ix3 0 j l)) d := by
  obtain rfl | rfl : j = 0 ∨ j = 1 := by omega
  · rw [rw2_zero]
    refine (halves2_top _ _ l d).trans ?_
    obtain ⟨x, rfl⟩ | ⟨x, rfl⟩ := col_halves d
    · exact cod0_lo A X3 X6 X7 X8 l x
    · exact cod0_hi A X3 X6 X7 X8 l x
  · rw [rw2_one]
    refine (halves2_bot _ _ l d).trans ?_
    obtain ⟨x, rfl⟩ | ⟨x, rfl⟩ := col_halves d
    · exact cod1_lo A X3 X6 X7 X8 l x
    · exact cod1_hi A X3 X6 X7 X8 l x

theorem col28 (X : FVec Ideal S128x128 .f32) (l : Fin 128) : k0_pay28 (F := Ideal) X (ix3 0 0 l) = X (ix2 l 0) := by pointwise [k0_pay28]
theorem col29 (X : FVec Ideal S128x128 .f32) (l : Fin 128) : k0_pay29 (F := Ideal) X (ix3 0 0 l) = X (ix2 l 0) := by pointwise [k0_pay29]
theorem col30 (X : FVec Ideal S128x128 .f32) (l : Fin 128) : k0_pay30 (F := Ideal) X (ix3 0 0 l) = X (ix2 l 0) := by pointwise [k0_pay30]
theorem col2 (X : FVec Ideal S128x128 .f32) (l : Fin 128) : k0_pay2 (F := Ideal) X (ix3 0 0 l) = X (ix2 l 0) := by pointwise [k0_pay2]
theorem col3 (X : FVec Ideal S128x128 .f32) (l : Fin 128) : k0_pay3 (F := Ideal) X (ix3 0 0 l) = X (ix2 l 0) := by pointwise [k0_pay3]
theorem col4 (X : FVec Ideal S128x128 .f32) (l : Fin 128) : k0_pay4 (F := Ideal) X (ix3 0 0 l) = X (ix2 l 0) := by pointwise [k0_pay4]

theorem out10_at (j : Fin 2) (l : Fin 128) : out10 A X3 X6 X7 X8 (ix3 0 j l)
    = sclR (fun e => A (ix2 (rw2 j l) e)) (fun e => X3 (ix2 (rw2 j l) e)) (X6 (ix3 0 j l)) (X7 (ix3 0 j l)) (X8 (ix3 0 j l)) := by
  obtain rfl | rfl : j = 0 ∨ j = 1 := by omega
  · rw [rw2_zero]
    exact (halves3_top _ _ l).trans ((col28 _ l).trans (scl0_at A X3 X6 X7 X8 l 0))
  · rw [rw2_one]
    exact (halves3_bot _ _ l).trans ((col2 _ l).trans (scl1_at A X3 X6 X7 X8 l 0))

theorem out11_at (j : Fin 2) (l : Fin 128) : out11 A X3 X6 X7 X8 (ix3 0 j l)
    = minR (fun e => A (ix2 (rw2 j l) e)) (fun e => X3 (ix2 (rw2 j l) e)) (X6 (ix3 0 j l)) (X7 (ix3 0 j l)) (X8 (ix3 0 j l)) := by
  obtain rfl | rfl : j = 0 ∨ j = 1 := by omega
  · rw [rw2_zero]
    exact (halves3_top _ _ l).trans ((col29 _ l).trans (min0_at A X3 X6 X7 X8 l 0))
  · rw [rw2_one]
    exact (halves3_bot _ _ l).trans ((col3 _ l).trans (min1_at A X3 X6 X7 X8 l 0))

theorem out12_at (j : Fin 2) (l : Fin 128) : out12 A X8 (ix3 0 j l) = mnewR (fun e => A (ix2 (rw2 j l) e)) (X8 (ix3 0 j l)) := by
  obtain rfl | rfl : j = 0 ∨ j = 1 := by omega
  · rw [rw2_zero]
    exact (halves3_top _ _ l).trans ((col30 _ l).trans (mom0_at A X8 l 0))
  · rw [rw2_one]
    exact (halves3_bot _ _ l).trans ((col4 _ l).trans (mom1_at A X8 l 0))

end Out

end Cert.Proof.I

end
-- ==== Proof.VAcc.lean ====
/-
  A tile's accumulator after its chunks: at row and column, the sum of that row's run of occurrence gradients.
-/
module

public import proofs.«01_k».proof.Proof.VOut
public import proofs.«01_k».proof.Proof.VSum

@[expose] public section

noncomputable section

namespace Cert.Proof.I

open Cert.KernelIdeal Cert.KernelIdeal.Gen
open Idealize.ShloMosaic Idealize.ShloMosaic.TcCoe
open Idealize.SL.Sem

variable (c : Dev nD) (fx : Buf (Elt Ideal) (xM.view.loc (c : Thread nD τ)))

/-- The packed words, by occurrence and column. -/
def wordOf (n : Fin 983040) (l : Fin 128) : BitVec 32 := (fx : IVec S983040x128 32) (ix2 n l)

theorem payload_at (j : Fin 3840) (r : Fin 256) (l : Fin 128) :
    payload c fx j (ix2 r l) = wordOf c fx ⟨256 * j.val + r.val, by omega⟩ l := by
  refine congrArg fx (funext fun a => Fin.ext ?_)
  match a with
  | ⟨0, _⟩ => show 256 * j.val + 1 * r.val = 256 * j.val + r.val; omega
  | ⟨1, _⟩ => show 0 + 1 * l.val = l.val; omega

theorem chunk_at (j : Fin 3840) (r : Fin 256) (l : Fin 128) :
    chunkV c fx j (ix3 0 r l) = wordOf c fx ⟨256 * j.val + r.val, by omega⟩ l := by
  rw [← payload_at]
  unfold chunkV
  generalize payload c fx j = P
  pointwise

/-- A chunk's gradients. -/
theorem grads_at (j : Fin 3840) (y d : Fin 256) :
    k0_pay5 (chunkV c fx j) (ix2 y d) = gNat (wordOf c fx) (256 * j.val + y.val) d := by
  have h := chunk_at c fx j y
  generalize chunkV c fx j = P at h ⊢
  pointwise [k0_pay5]
  simp only [h]
  have hn : 256 * j.val + y.val < 983040 := by omega
  rw [gNat, dif_pos hn]
  rfl

theorem iotaW_at (r : Fin 256) (l : Fin 128) : iotaW (ix2 r l) = BitVec.ofNat 32 l.val := by
  pointwise [iotaW]

/-- Whether an occurrence number is in a run, as the kernel asks it. -/
theorem in_run (L H : BitVec 32) (hL : L.toNat ≤ 983040) (hH : H.toNat ≤ 983040) (w : BitVec 32) (n : ℕ) (hw : w.toNat = n) (hn : n < 983040) :
    (IntOp.andi (IntOp.cmpi .sge w L) (IntOp.cmpi .slt w H) = 1#1) ↔ (L.toNat ≤ n ∧ n < H.toNat) := by
  rw [IntOp.andi_eq_one, IntOp.cmpi_sge, IntOp.cmpi_slt, BitVec.toInt_eq_toNat_of_lt (by omega), BitVec.toInt_eq_toNat_of_lt (by omega),
    BitVec.toInt_eq_toNat_of_lt (by omega), hw]
  omega

section Mask
variable {v4 v7 : BitVec 32} (h : Okay v4 v7) (v64 v65 : IVec S256x128 32) (k : Fin (k0_t1_loop v4 v7).trips) (r y : Fin 256)
  (L H : BitVec 32) (hL : L.toNat ≤ 983040) (hH : H.toNat ≤ 983040) (e64 : ∀ l : Fin 128, v64 (ix2 r l) = L) (e65 : ∀ l : Fin 128, v65 (ix2 r l) = H)
include h hL hH e64 e65

/-- The 0/1 matrix of which occurrence of a chunk belongs to which row. -/
theorem mask_at : k0_pay6 (F := Ideal) v4 v7 (fl v4) v64 v65 iotaW 1#32 0#32 1#32 k (ix2 r y)
    = if L.toNat ≤ 256 * (C0 v4 + k) + y.val ∧ 256 * (C0 v4 + k) + y.val < H.toNat then (1 : EReal) else 0 := by
  have hc := chunk_lt h k
  have hw := chunk_word h k
  have hi := iotaW_at r
  generalize (iotaW : IVec S256x128 32) = I at hi ⊢
  pointwise [k0_pay6]
  rw [hw]
  simp only [e64, e65, hi]
  have key (w : BitVec 32) (e : w.toNat = 256 * (C0 v4 + k) + y.val) :
      Scalar.select (IntOp.andi (IntOp.cmpi .sge w L) (IntOp.cmpi .slt w H)) (1 : EReal) 0
      = if L.toNat ≤ 256 * (C0 v4 + k) + y.val ∧ 256 * (C0 v4 + k) + y.val < H.toNat then (1 : EReal) else 0 :=
    if_congr (in_run L H hL hH w _ e (by omega)) rfl rfl
  split
  · refine key _ ?_
    show (BitVec.ofNat 32 y.val + (BitVec.ofNat 32 (C0 v4 + k) * 256#32 + 0#32)).toNat = _
    simp only [BitVec.toNat_add, BitVec.toNat_mul, BitVec.toNat_ofNat]
    omega
  · refine key _ ?_
    show (BitVec.ofNat 32 (y.val - 128) + (BitVec.ofNat 32 (C0 v4 + k) * 256#32 + 128#32)).toNat = _
    simp only [BitVec.toNat_add, BitVec.toNat_mul, BitVec.toNat_ofNat]
    omega

/-- One trip adds the chunk's terms of the run. -/
theorem next_at (a : Vec Ideal S256x256 .f32) (d : Fin 256) :
    accNext c fx v4 v7 v64 v65 iotaW k ⟨C0 v4 + k, chunk_lt h k⟩ a (ix2 r d)
    = a (ix2 r d) + ∑ y : Fin 256, term (wordOf c fx) L.toNat H.toNat d (256 * (C0 v4 + k) + y.val) := by
  have hm := mask_at h v64 v65 k r (L := L) (H := H) (hL := hL) (hH := hH) (e64 := e64) (e65 := e65)
  have hg := grads_at c fx ⟨C0 v4 + k, chunk_lt h k⟩
  unfold accNext
  generalize k0_pay5 (chunkV c fx ⟨C0 v4 + k, chunk_lt h k⟩) = G at hg ⊢
  generalize k0_pay6 (F := Ideal) v4 v7 (fl v4) v64 v65 iotaW 1#32 0#32 1#32 k = M at hm ⊢
  have e : k0_pay12 G M a (ix2 r d) = a (ix2 r d) + ∑ y : Fin 256, M (ix2 r y) * G (ix2 y d) := by pointwise [k0_pay12]
  rw [e]
  refine congrArg _ (Finset.sum_congr rfl fun y _ => ?_)
  rw [hm, hg]
  unfold term
  split
  · exact one_mul _
  · exact zero_mul _

theorem fold_at (d : Fin 256) : ∀ n : ℕ, n ≤ (k0_t1_loop v4 v7).trips →
    fold c fx v4 v7 v64 v65 iotaW h (k0_pay11 (F := Ideal)) n (ix2 r d)
    = ∑ i ∈ Finset.range (256 * n), term (wordOf c fx) L.toNat H.toNat d (256 * C0 v4 + i) := by
  intro n
  induction n with
  | zero =>
    intro _
    show k0_pay11 (F := Ideal) (ix2 r d) = _
    pointwise [k0_pay11]
    exact Finset.sum_range_zero _ |>.symm
  | succ n ih =>
    intro hn
    rw [chunk_step, ← ih (by omega)]
    exact (congrFun (fold_succ c fx v4 v7 v64 v65 iotaW h _ ⟨n, by omega⟩) (ix2 r d)).trans
      (next_at c fx h v64 v65 ⟨n, by omega⟩ r L H hL hH e64 e65 _ d)

end Mask

theorem startW_at (X : Vec Ideal S1x2x128 .i32) (j : Fin 2) (l z : Fin 128) : startW X (ix2 (rw2 j l) z) = X (ix3 0 j l) := by
  have h : startW X (ix2 (rw2 j l) z) = if h : (rw2 j l).val < 128 then topS X (ix3 0 0 ⟨(rw2 j l).val, h⟩) else botS X (ix3 0 0 ⟨(rw2 j l).val - 128, by omega⟩) := by
    unfold startW
    pointwise [k0_pay9]
  rw [h]
  obtain rfl | rfl : j = 0 ∨ j = 1 := by omega
  · rw [dif_pos (by simp), topS_at]
    exact congrArg (fun q => X (ix3 0 0 q)) (Fin.ext (by simp))
  · rw [dif_neg (by simp), botS_at]
    exact congrArg (fun q => X (ix3 0 1 q)) (Fin.ext (by simp))
theorem endW_at (X : Vec Ideal S1x2x128 .i32) (j : Fin 2) (l z : Fin 128) : endW X (ix2 (rw2 j l) z) = X (ix3 0 j l) := by
  have h : endW X (ix2 (rw2 j l) z) = if h : (rw2 j l).val < 128 then topS X (ix3 0 0 ⟨(rw2 j l).val, h⟩) else botS X (ix3 0 0 ⟨(rw2 j l).val - 128, by omega⟩) := by
    unfold endW
    pointwise [k0_pay10]
  rw [h]
  obtain rfl | rfl : j = 0 ∨ j = 1 := by omega
  · rw [dif_pos (by simp), topS_at]
    exact congrArg (fun q => X (ix3 0 0 q)) (Fin.ext (by simp))
  · rw [dif_neg (by simp), botS_at]
    exact congrArg (fun q => X (ix3 0 1 q)) (Fin.ext (by simp))

/-- A tile's sums, once its rows' runs lie between the tile's two bounds. -/
theorem tileAcc_at {v4 v7 : BitVec 32} (h : Okay v4 v7) (X4 X5 : Vec Ideal S1x2x128 .i32) (j : Fin 2) (l : Fin 128) (d : Fin 256)
    (hlo : v4.toNat ≤ BitVec.toNat (X4 (ix3 0 j l))) (hlo' : BitVec.toNat (X4 (ix3 0 j l)) ≤ 983040) (hhi : BitVec.toNat (X5 (ix3 0 j l)) ≤ v7.toNat) :
    tileAcc c fx v4 v7 X4 X5 h (ix2 (rw2 j l) d) = runSum (wordOf c fx) (BitVec.toNat (X4 (ix3 0 j l))) (BitVec.toNat (X5 (ix3 0 j l))) d := by
  have h2 := h.2
  unfold tileAcc
  rw [fold_at c fx h (startW X4) (endW X5) (rw2 j l) (X4 (ix3 0 j l)) (X5 (ix3 0 j l)) hlo' (by omega) (startW_at X4 j l) (endW_at X5 j l) d _ le_rfl,
    trips_eq h]
  obtain ⟨h1, h2⟩ := h
  refine stretch _ _ _ d _ _ ?_ ?_ ?_ <;> simp only [C0, C1] <;> omega

end Cert.Proof.I

end
-- ==== Proof.VArr.lean ====
/-
  The windows' blocks as rows of the arrays.
-/
module

public import proofs.«01_k».proof.Proof.IGood
public import proofs.«01_k».proof.Proof.VAcc
public import Idealize.ShloMosaic.Lib.Pipeline.ValueKit
public import Idealize.ShloMosaic.Lib.Pipeline.Covers

@[expose] public section

set_option maxRecDepth 16384

noncomputable section

namespace Cert.Proof.I

open Cert.KernelIdeal Cert.KernelIdeal.Gen
open Idealize.ShloMosaic Idealize.ShloMosaic.TcCoe
open Idealize.SL.Sem
open Idealize.ShloMosaic.Pipeline (Dat Cfg Window BodyObligation cellOf)

theorem idx1 : ∀ t : Fin grid0.N, cc0_transform_1 (grid0.coords t) = ![t.val, 0] := by decide +kernel
theorem idx2 : ∀ t : Fin grid0.N, cc0_transform_2 (grid0.coords t) = ![t.val, 0, 0] := by decide +kernel
theorem idx3 : ∀ t : Fin grid0.N, cc0_transform_3 (grid0.coords t) = ![t.val, 0, 0] := by decide +kernel
theorem idx4 : ∀ t : Fin grid0.N, cc0_transform_4 (grid0.coords t) = ![t.val, 0, 0] := by decide +kernel
theorem idx5 : ∀ t : Fin grid0.N, cc0_transform_5 (grid0.coords t) = ![t.val, 0, 0] := by decide +kernel
theorem idx6 : ∀ t : Fin grid0.N, cc0_transform_6 (grid0.coords t) = ![t.val, 0, 0] := by decide +kernel
theorem idx7 : ∀ t : Fin grid0.N, cc0_transform_7 (grid0.coords t) = ![t.val, 0] := by decide +kernel
theorem idx8 : ∀ t : Fin grid0.N, cc0_transform_8 (grid0.coords t) = ![t.val, 0, 0] := by decide +kernel
theorem idx9 : ∀ t : Fin grid0.N, cc0_transform_9 (grid0.coords t) = ![t.val, 0, 0] := by decide +kernel
theorem idx10 : ∀ t : Fin grid0.N, cc0_transform_10 (grid0.coords t) = ![t.val, 0, 0] := by decide +kernel

variable (m : (ℓ : Loc nD τ sig) → Buf (Elt Ideal) ℓ) (ρ : Dev nD → PrngReg)

/-- A window whose block's first index is the point fetches at every point. -/
theorem fetch_all (w : Fin 10) (ho : ((cfgA m ρ).win w).isOut = false) (a : Fin ((cfgA m ρ).win w).shape.rank)
    (h : ∀ t, ((cfgA m ρ).win w).index t a = t.val) (t : Fin grid0.N) : ((cfgA m ρ).win w).fetch t = true := by
  unfold Pipeline.Window.fetch
  rw [ho]
  by_cases h0 : t.val = 0
  · simp [h0]
  · have : ∃ hh : 0 < t.val, ((cfgA m ρ).win w).index t ≠ ((cfgA m ρ).win w).index ⟨t.val - 1, lt_of_le_of_lt (Nat.sub_le _ _) t.isLt⟩ :=
      ⟨by omega, fun e => by have := congrFun e a; rw [h, h] at this; replace this : t.val = t.val - 1 := this; omega⟩
    simp only [Bool.not_false, Bool.true_and, Bool.or_eq_true, decide_eq_true_eq]
    exact .inr this

theorem XX0_at (c : Dev nD) (t : Fin grid0.N) (r d : Fin 256) :
    XX m ρ c 0 t (ix2 r d) = (V m ρ c main_arg1 : IVec S122880x256 8) (ix2 (⟨256 * t.val + r.val, by have := pt_lt t; omega⟩ : Fin 122880) d) := by
  unfold XX
  refine (congrFun (Pipeline.heldIn_of_fetch (cfg := cfgA m ρ) (AA m ρ c) (0 : Fin 10) t (fetch_all m ρ 0 rfl (0 : Fin 2) (fun t => congrFun (idx1 t) 0) t)) (ix2 r d)).trans ?_
  have hm : ((cfgA m ρ).win 0).moved ((cfgA m ρ).grid.coords t) (ix2 r d) = true :=
    (((cfgA m ρ).win 0).moved_iff _ _).mpr fun a => ((ix2 r d : S256x256.Idx) a).isLt
  refine (dif_pos hm).trans ?_
  refine congrArg (V m ρ c main_arg1) (funext fun a => Fin.ext ?_)
  match a with
  | ⟨0, _⟩ =>
    blk_simp
    show ((cfgA m ρ).win 0).index t (0 : Fin 2) * 256 + r.val = 256 * t.val + r.val
    rw [show ((cfgA m ρ).win 0).index t (0 : Fin 2) = t.val from congrFun (idx1 t) 0, Nat.mul_comm]
  | ⟨1, _⟩ =>
    blk_simp
    show ((cfgA m ρ).win 0).index t (1 : Fin 2) * 256 + d.val = d.val
    rw [show ((cfgA m ρ).win 0).index t (1 : Fin 2) = 0 from congrFun (idx1 t) 1]
    omega

theorem XX1_at (c : Dev nD) (t : Fin grid0.N) (j : Fin 2) (l : Fin 128) :
    XX m ρ c 1 t (ix3 0 j l) = (V m ρ c main_v3 : IVec S480x2x128 32) (ix3 (⟨t.val, pt_lt t⟩ : Fin 480) j l) := by
  unfold XX
  refine (congrFun (Pipeline.heldIn_of_fetch (cfg := cfgA m ρ) (AA m ρ c) (1 : Fin 10) t (fetch_all m ρ 1 rfl (0 : Fin 3) (fun t => congrFun (idx2 t) 0) t)) (ix3 0 j l)).trans ?_
  have hm : ((cfgA m ρ).win 1).moved ((cfgA m ρ).grid.coords t) (ix3 0 j l) = true :=
    (((cfgA m ρ).win 1).moved_iff _ _).mpr fun a => ((ix3 0 j l : S1x2x128.Idx) a).isLt
  refine (dif_pos hm).trans ?_
  refine congrArg (V m ρ c main_v3) (funext fun a => Fin.ext ?_)
  match a with
  | ⟨0, _⟩ =>
    blk_simp
    exact congrFun (idx2 t) 0
  | ⟨1, _⟩ =>
    blk_simp
    show ((cfgA m ρ).win 1).index t (1 : Fin 3) * 2 + j.val = j.val
    rw [show ((cfgA m ρ).win 1).index t (1 : Fin 3) = 0 from congrFun (idx2 t) 1]
    omega
  | ⟨2, _⟩ =>
    blk_simp
    show ((cfgA m ρ).win 1).index t (2 : Fin 3) * 128 + l.val = l.val
    rw [show ((cfgA m ρ).win 1).index t (2 : Fin 3) = 0 from congrFun (idx2 t) 2]
    omega

theorem XX2_at (c : Dev nD) (t : Fin grid0.N) (j : Fin 2) (l : Fin 128) :
    XX m ρ c 2 t (ix3 0 j l) = (V m ρ c main_v4 : IVec S480x2x128 32) (ix3 (⟨t.val, pt_lt t⟩ : Fin 480) j l) := by
  unfold XX
  refine (congrFun (Pipeline.heldIn_of_fetch (cfg := cfgA m ρ) (AA m ρ c) (2 : Fin 10) t (fetch_all m ρ 2 rfl (0 : Fin 3) (fun t => congrFun (idx3 t) 0) t)) (ix3 0 j l)).trans ?_
  have hm : ((cfgA m ρ).win 2).moved ((cfgA m ρ).grid.coords t) (ix3 0 j l) = true :=
    (((cfgA m ρ).win 2).moved_iff _ _).mpr fun a => ((ix3 0 j l : S1x2x128.Idx) a).isLt
  refine (dif_pos hm).trans ?_
  refine congrArg (V m ρ c main_v4) (funext fun a => Fin.ext ?_)
  match a with
  | ⟨0, _⟩ =>
    blk_simp
    exact congrFun (idx3 t) 0
  | ⟨1, _⟩ =>
    blk_simp
    show ((cfgA m ρ).win 2).index t (1 : Fin 3) * 2 + j.val = j.val
    rw [show ((cfgA m ρ).win 2).index t (1 : Fin 3) = 0 from congrFun (idx3 t) 1]
    omega
  | ⟨2, _⟩ =>
    blk_simp
    show ((cfgA m ρ).win 2).index t (2 : Fin 3) * 128 + l.val = l.val
    rw [show ((cfgA m ρ).win 2).index t (2 : Fin 3) = 0 from congrFun (idx3 t) 2]
    omega

theorem XX3_at (c : Dev nD) (t : Fin grid0.N) (j : Fin 2) (l : Fin 128) :
    XX m ρ c 3 t (ix3 0 j l) = (V m ρ c main_v5 : FVec Ideal S480x2x128 .f32) (ix3 (⟨t.val, pt_lt t⟩ : Fin 480) j l) := by
  unfold XX
  refine (congrFun (Pipeline.heldIn_of_fetch (cfg := cfgA m ρ) (AA m ρ c) (3 : Fin 10) t (fetch_all m ρ 3 rfl (0 : Fin 3) (fun t => congrFun (idx4 t) 0) t)) (ix3 0 j l)).trans ?_
  have hm : ((cfgA m ρ).win 3).moved ((cfgA m ρ).grid.coords t) (ix3 0 j l) = true :=
    (((cfgA m ρ).win 3).moved_iff _ _).mpr fun a => ((ix3 0 j l : S1x2x128.Idx) a).isLt
  refine (dif_pos hm).trans ?_
  refine congrArg (V m ρ c main_v5) (funext fun a => Fin.ext ?_)
  match a with
  | ⟨0, _⟩ =>
    blk_simp
    exact congrFun (idx4 t) 0
  | ⟨1, _⟩ =>
    blk_simp
    show ((cfgA m ρ).win 3).index t (1 : Fin 3) * 2 + j.val = j.val
    rw [show ((cfgA m ρ).win 3).index t (1 : Fin 3) = 0 from congrFun (idx4 t) 1]
    omega
  | ⟨2, _⟩ =>
    blk_simp
    show ((cfgA m ρ).win 3).index t (2 : Fin 3) * 128 + l.val = l.val
    rw [show ((cfgA m ρ).win 3).index t (2 : Fin 3) = 0 from congrFun (idx4 t) 2]
    omega

theorem XX4_at (c : Dev nD) (t : Fin grid0.N) (j : Fin 2) (l : Fin 128) :
    XX m ρ c 4 t (ix3 0 j l) = (V m ρ c main_v6 : FVec Ideal S480x2x128 .f32) (ix3 (⟨t.val, pt_lt t⟩ : Fin 480) j l) := by
  unfold XX
  refine (congrFun (Pipeline.heldIn_of_fetch (cfg := cfgA m ρ) (AA m ρ c) (4 : Fin 10) t (fetch_all m ρ 4 rfl (0 : Fin 3) (fun t => congrFun (idx5 t) 0) t)) (ix3 0 j l)).trans ?_
  have hm : ((cfgA m ρ).win 4).moved ((cfgA m ρ).grid.coords t) (ix3 0 j l) = true :=
    (((cfgA m ρ).win 4).moved_iff _ _).mpr fun a => ((ix3 0 j l : S1x2x128.Idx) a).isLt
  refine (dif_pos hm).trans ?_
  refine congrArg (V m ρ c main_v6) (funext fun a => Fin.ext ?_)
  match a with
  | ⟨0, _⟩ =>
    blk_simp
    exact congrFun (idx5 t) 0
  | ⟨1, _⟩ =>
    blk_simp
    show ((cfgA m ρ).win 4).index t (1 : Fin 3) * 2 + j.val = j.val
    rw [show ((cfgA m ρ).win 4).index t (1 : Fin 3) = 0 from congrFun (idx5 t) 1]
    omega
  | ⟨2, _⟩ =>
    blk_simp
    show ((cfgA m ρ).win 4).index t (2 : Fin 3) * 128 + l.val = l.val
    rw [show ((cfgA m ρ).win 4).index t (2 : Fin 3) = 0 from congrFun (idx5 t) 2]
    omega

theorem XX5_at (c : Dev nD) (t : Fin grid0.N) (j : Fin 2) (l : Fin 128) :
    XX m ρ c 5 t (ix3 0 j l) = (V m ρ c main_v7 : FVec Ideal S480x2x128 .f32) (ix3 (⟨t.val, pt_lt t⟩ : Fin 480) j l) := by
  unfold XX
  refine (congrFun (Pipeline.heldIn_of_fetch (cfg := cfgA m ρ) (AA m ρ c) (5 : Fin 10) t (fetch_all m ρ 5 rfl (0 : Fin 3) (fun t => congrFun (idx6 t) 0) t)) (ix3 0 j l)).trans ?_
  have hm : ((cfgA m ρ).win 5).moved ((cfgA m ρ).grid.coords t) (ix3 0 j l) = true :=
    (((cfgA m ρ).win 5).moved_iff _ _).mpr fun a => ((ix3 0 j l : S1x2x128.Idx) a).isLt
  refine (dif_pos hm).trans ?_
  refine congrArg (V m ρ c main_v7) (funext fun a => Fin.ext ?_)
  match a with
  | ⟨0, _⟩ =>
    blk_simp
    exact congrFun (idx6 t) 0
  | ⟨1, _⟩ =>
    blk_simp
    show ((cfgA m ρ).win 5).index t (1 : Fin 3) * 2 + j.val = j.val
    rw [show ((cfgA m ρ).win 5).index t (1 : Fin 3) = 0 from congrFun (idx6 t) 1]
    omega
  | ⟨2, _⟩ =>
    blk_simp
    show ((cfgA m ρ).win 5).index t (2 : Fin 3) * 128 + l.val = l.val
    rw [show ((cfgA m ρ).win 5).index t (2 : Fin 3) = 0 from congrFun (idx6 t) 2]
    omega

theorem cast3_at {α : Type} (x : S122880.Idx → α) (i : Fin 480) (j : Fin 2) (l : Fin 128) :
    shapeCast S480x2x128 x shapeCasts_S122880_S480x2x128 (ix3 i j l) = x (ix1 (row3 i j l)) := by
  pointwise
  rfl

theorem V1_eq (c : Dev nD) : V m ρ c main_arg1 = m ((c : Thread nD τ).loc main_arg1) := by
  show StableHlo.after hostOps0 (V₀ m ρ c) (Proc.devRef .tc main_arg1) = _
  after_results
theorem V0_eq (c : Dev nD) : V m ρ c main_arg0 = m ((c : Thread nD τ).loc main_arg0) := by
  show StableHlo.after hostOps0 (V₀ m ρ c) (Proc.devRef .tc main_arg0) = _
  after_results
theorem V3_eq (c : Dev nD) : V m ρ c main_v3 = shapeCast S480x2x128 (extractStridedSlice S122880 ![0] (offs m c) slices_S122881_S122880_0) shapeCasts_S122880_S480x2x128 := by
  show StableHlo.after hostOps0 (V₀ m ρ c) (Proc.devRef .tc main_v3) = _
  after_results
  rfl
theorem V4_eq (c : Dev nD) : V m ρ c main_v4 = shapeCast S480x2x128 (extractStridedSlice S122880 ![1] (offs m c) slices_S122881_S122880_1) shapeCasts_S122880_S480x2x128 := by
  show StableHlo.after hostOps0 (V₀ m ρ c) (Proc.devRef .tc main_v4) = _
  after_results
  rfl
theorem V5_eq (c : Dev nD) : V m ρ c main_v5 = shapeCast S480x2x128 (m ((c : Thread nD τ).loc main_arg3) : FVec Ideal S122880 .f32) shapeCasts_S122880_S480x2x128 := by
  show StableHlo.after hostOps0 (V₀ m ρ c) (Proc.devRef .tc main_v5) = _
  after_results
  rfl
theorem V6_eq (c : Dev nD) : V m ρ c main_v6 = shapeCast S480x2x128 (m ((c : Thread nD τ).loc main_arg4) : FVec Ideal S122880 .f32) shapeCasts_S122880_S480x2x128 := by
  show StableHlo.after hostOps0 (V₀ m ρ c) (Proc.devRef .tc main_v6) = _
  after_results
  rfl
theorem V7_eq (c : Dev nD) : V m ρ c main_v7 = shapeCast S480x2x128 (m ((c : Thread nD τ).loc main_arg5) : FVec Ideal S122880 .f32) shapeCasts_S122880_S480x2x128 := by
  show StableHlo.after hostOps0 (V₀ m ρ c) (Proc.devRef .tc main_v7) = _
  after_results
  rfl

section Rows
variable (c : Dev nD) (t : Fin grid0.N) (j : Fin 2) (l : Fin 128)

/-- The row of the arrays a place of tile `t` is. -/
abbrev rowT : Fin 122880 := row3 ⟨t.val, pt_lt t⟩ j l

theorem start_at : XX m ρ c 1 t (ix3 0 j l) = ofs (offs m c) (rowT t j l).val (by omega) := by
  rw [XX1_at, V3_eq]
  refine (cast3_at _ _ _ _).trans (congrArg (offs m c) (idx_ext _ ?_))
  show 0 + (rowT t j l).val = (rowT t j l).val
  omega
theorem end_at : XX m ρ c 2 t (ix3 0 j l) = ofs (offs m c) ((rowT t j l).val + 1) (by omega) := by
  rw [XX2_at, V4_eq]
  refine (cast3_at _ _ _ _).trans (congrArg (offs m c) (idx_ext _ ?_))
  show 1 + (rowT t j l).val = (rowT t j l).val + 1
  omega
theorem scale_at : XX m ρ c 3 t (ix3 0 j l) = (m ((c : Thread nD τ).loc main_arg3) : FVec Ideal S122880 .f32) (ix1 (rowT t j l)) := by
  rw [XX3_at, V5_eq]
  exact cast3_at _ _ _ _
theorem bias_at : XX m ρ c 4 t (ix3 0 j l) = (m ((c : Thread nD τ).loc main_arg4) : FVec Ideal S122880 .f32) (ix1 (rowT t j l)) := by
  rw [XX4_at, V6_eq]
  exact cast3_at _ _ _ _
theorem mom_at : XX m ρ c 5 t (ix3 0 j l) = (m ((c : Thread nD τ).loc main_arg5) : FVec Ideal S122880 .f32) (ix1 (rowT t j l)) := by
  rw [XX5_at, V7_eq]
  exact cast3_at _ _ _ _
theorem codes_at (d : Fin 256) : XX m ρ c 0 t (ix2 (rw2 j l) d) = (m ((c : Thread nD τ).loc main_arg1) : IVec S122880x256 8) (ix2 (rowT t j l) d) := by
  rw [XX0_at, V1_eq]
  exact congrArg (fun q => (m ((c : Thread nD τ).loc main_arg1) : IVec S122880x256 8) (ix2 q d))
    (Fin.ext (show 256 * t.val + (j.val * 128 + l.val) = t.val * 256 + j.val * 128 + l.val by omega))

/-- The launch's packed words. -/
def words (n : Fin 983040) (l : Fin 128) : BitVec 32 := (m ((c : Thread nD τ).loc main_arg0) : IVec S983040x128 32) (ix2 n l)

/-- A row's summed gradients. -/
def rowSum (r : Fin 122880) (d : Fin 256) : EReal := runSum (words m c) (off (offs m c) r.val) (off (offs m c) (r.val + 1)) d

theorem acc_at (hG : Good m ρ) (hs : Sorted (offs m c)) (d : Fin 256) :
    accAt m ρ hG c t (ix2 (rw2 j l) d) = rowSum m c (rowT t j l) d := by
  have e1 : BitVec.toNat (XX m ρ c 1 t (ix3 0 j l)) = off (offs m c) (rowT t j l).val := by rw [start_at, off_of]
  have e2 : BitVec.toNat (XX m ρ c 2 t (ix3 0 j l)) = off (offs m c) ((rowT t j l).val + 1) := by rw [end_at, off_of]
  have ht := pt_lt t
  have hr : (rowT t j l).val = t.val * 256 + j.val * 128 + l.val := rfl
  unfold accAt rowSum
  rw [← e1, ← e2, tileAcc_at]
  · have ew : wordOf c (xs m ρ c) = words m c := by
      funext n l
      unfold wordOf words
      rw [show xs m ρ c = m ((c : Thread nD τ).loc main_arg0) from V0_eq m ρ c]
    rw [ew]
  · rw [e1, wLo_nat]
    exact hs.mono (by omega) (by omega)
  · rw [e1]
    exact hs.off_le (by omega)
  · rw [e2, wHi_nat]
    exact hs.mono (by omega) (by omega)
end Rows

end Cert.Proof.I

end
-- ==== Proof.VFin.lean ====
/-
  The kernel's four results, element by element.
-/
module

public import proofs.«01_k».proof.Proof.VArr

@[expose] public section

set_option maxRecDepth 16384

noncomputable section

namespace Cert.Proof.I

open Cert.KernelIdeal Cert.KernelIdeal.Gen
open Idealize.ShloMosaic Idealize.ShloMosaic.TcCoe
open Idealize.SL.Sem
open Idealize.ShloMosaic.Pipeline (Dat Cfg Window BodyObligation cellOf)

variable (m : (ℓ : Loc nD τ sig) → Buf (Elt Ideal) ℓ) (ρ : Dev nD → PrngReg) (hG : Good m ρ) (c : Dev nD)

section Spec
variable (r : Fin 122880)
/-- A row's codes, scale, bias and momentum at launch. -/
abbrev qM : Fin 256 → BitVec 8 := fun d => (m ((c : Thread nD τ).loc main_arg1) : IVec S122880x256 8) (ix2 r d)
abbrev sM : EReal := (m ((c : Thread nD τ).loc main_arg3) : FVec Ideal S122880 .f32) (ix1 r)
abbrev bM : EReal := (m ((c : Thread nD τ).loc main_arg4) : FVec Ideal S122880 .f32) (ix1 r)
abbrev mM : EReal := (m ((c : Thread nD τ).loc main_arg5) : FVec Ideal S122880 .f32) (ix1 r)
end Spec

/-- The four results. -/
def codeF : IVec S122880x256 8 := fun y => codR (rowSum m c (y 0)) (qM m c (y 0)) (sM m c (y 0)) (bM m c (y 0)) (mM m c (y 0)) (y 1)
def sclF : FVec Ideal S480x2x128 .f32 := fun y =>
  let r := row3 (y 0) (y 1) (y 2); sclR (rowSum m c r) (qM m c r) (sM m c r) (bM m c r) (mM m c r)
def minF : FVec Ideal S480x2x128 .f32 := fun y =>
  let r := row3 (y 0) (y 1) (y 2); minR (rowSum m c r) (qM m c r) (sM m c r) (bM m c r) (mM m c r)
def momF : FVec Ideal S480x2x128 .f32 := fun y =>
  let r := row3 (y 0) (y 1) (y 2); mnewR (rowSum m c r) (mM m c r)

theorem cov (w : Fin 10) (ho : ((cfgA m ρ).win w).isOut = true) (hsz : ∀ a, 0 < ((cfgA m ρ).win w).size a)
    (hsurj : ∀ β : (a : Fin ((cfgA m ρ).win w).shape.rank) → Fin (((cfgA m ρ).win w).nblk a), ∃ t, ∀ a, ((cfgA m ρ).win w).index t a = β a) :
    ((cfgA m ρ).win w).Covers :=
  ((cfgA m ρ).win w).covers_of_index_surj ho hsz hsurj

theorem cov6 : ((cfgA m ρ).win 6).Covers := by
  refine cov m ρ 6 rfl (by decide : ∀ a : Fin 2, 0 < S256x256.size a) fun β => ?_
  have h0 : (β (0 : Fin 2)).val < 480 := lt_of_lt_of_eq (β (0 : Fin 2)).isLt (by show (122880 + 256 - 1) / 256 = 480; norm_num)
  have h1 : (β (1 : Fin 2)).val < 1 := lt_of_lt_of_eq (β (1 : Fin 2)).isLt (by show (256 + 256 - 1) / 256 = 1; norm_num)
  have hN : grid0.N = 480 := N_0
  refine ⟨⟨(β (0 : Fin 2)).val, lt_of_lt_of_eq h0 hN.symm⟩, fun a => ?_⟩
  match a with
  | ⟨0, _⟩ => exact congrFun (idx7 _) 0
  | ⟨1, _⟩ => exact (congrFun (idx7 ⟨(β (0 : Fin 2)).val, lt_of_lt_of_eq h0 hN.symm⟩) 1).trans (show 0 = (β (1 : Fin 2)).val by omega)

theorem cov7 : ((cfgA m ρ).win 7).Covers := by
  refine cov m ρ 7 rfl (by decide : ∀ a : Fin 3, 0 < S1x2x128.size a) fun β => ?_
  have h0 : (β (0 : Fin 3)).val < 480 := lt_of_lt_of_eq (β (0 : Fin 3)).isLt (by show (480 + 1 - 1) / 1 = 480; norm_num)
  have h1 : (β (1 : Fin 3)).val < 1 := lt_of_lt_of_eq (β (1 : Fin 3)).isLt (by show (2 + 2 - 1) / 2 = 1; norm_num)
  have h2 : (β (2 : Fin 3)).val < 1 := lt_of_lt_of_eq (β (2 : Fin 3)).isLt (by show (128 + 128 - 1) / 128 = 1; norm_num)
  have hN : grid0.N = 480 := N_0
  refine ⟨⟨(β (0 : Fin 3)).val, lt_of_lt_of_eq h0 hN.symm⟩, fun a => ?_⟩
  match a with
  | ⟨0, _⟩ => exact congrFun (idx8 _) 0
  | ⟨1, _⟩ => exact (congrFun (idx8 ⟨(β (0 : Fin 3)).val, lt_of_lt_of_eq h0 hN.symm⟩) 1).trans (show 0 = (β (1 : Fin 3)).val by omega)
  | ⟨2, _⟩ => exact (congrFun (idx8 ⟨(β (0 : Fin 3)).val, lt_of_lt_of_eq h0 hN.symm⟩) 2).trans (show 0 = (β (2 : Fin 3)).val by omega)

theorem cov8 : ((cfgA m ρ).win 8).Covers := by
  refine cov m ρ 8 rfl (by decide : ∀ a : Fin 3, 0 < S1x2x128.size a) fun β => ?_
  have h0 : (β (0 : Fin 3)).val < 480 := lt_of_lt_of_eq (β (0 : Fin 3)).isLt (by show (480 + 1 - 1) / 1 = 480; norm_num)
  have h1 : (β (1 : Fin 3)).val < 1 := lt_of_lt_of_eq (β (1 : Fin 3)).isLt (by show (2 + 2 - 1) / 2 = 1; norm_num)
  have h2 : (β (2 : Fin 3)).val < 1 := lt_of_lt_of_eq (β (2 : Fin 3)).isLt (by show (128 + 128 - 1) / 128 = 1; norm_num)
  have hN : grid0.N = 480 := N_0
  refine ⟨⟨(β (0 : Fin 3)).val, lt_of_lt_of_eq h0 hN.symm⟩, fun a => ?_⟩
  match a with
  | ⟨0, _⟩ => exact congrFun (idx9 _) 0
  | ⟨1, _⟩ => exact (congrFun (idx9 ⟨(β (0 : Fin 3)).val, lt_of_lt_of_eq h0 hN.symm⟩) 1).trans (show 0 = (β (1 : Fin 3)).val by omega)
  | ⟨2, _⟩ => exact (congrFun (idx9 ⟨(β (0 : Fin 3)).val, lt_of_lt_of_eq h0 hN.symm⟩) 2).trans (show 0 = (β (2 : Fin 3)).val by omega)

theorem cov9 : ((cfgA m ρ).win 9).Covers := by
  refine cov m ρ 9 rfl (by decide : ∀ a : Fin 3, 0 < S1x2x128.size a) fun β => ?_
  have h0 : (β (0 : Fin 3)).val < 480 := lt_of_lt_of_eq (β (0 : Fin 3)).isLt (by show (480 + 1 - 1) / 1 = 480; norm_num)
  have h1 : (β (1 : Fin 3)).val < 1 := lt_of_lt_of_eq (β (1 : Fin 3)).isLt (by show (2 + 2 - 1) / 2 = 1; norm_num)
  have h2 : (β (2 : Fin 3)).val < 1 := lt_of_lt_of_eq (β (2 : Fin 3)).isLt (by show (128 + 128 - 1) / 128 = 1; norm_num)
  have hN : grid0.N = 480 := N_0
  refine ⟨⟨(β (0 : Fin 3)).val, lt_of_lt_of_eq h0 hN.symm⟩, fun a => ?_⟩
  match a with
  | ⟨0, _⟩ => exact congrFun (idx10 _) 0
  | ⟨1, _⟩ => exact (congrFun (idx10 ⟨(β (0 : Fin 3)).val, lt_of_lt_of_eq h0 hN.symm⟩) 1).trans (show 0 = (β (1 : Fin 3)).val by omega)
  | ⟨2, _⟩ => exact (congrFun (idx10 ⟨(β (0 : Fin 3)).val, lt_of_lt_of_eq h0 hN.symm⟩) 2).trans (show 0 = (β (2 : Fin 3)).val by omega)

section Point
variable (t : Fin grid0.N) (j : Fin 2) (l : Fin 128) (hs : Sorted (offs m c))
include hs

theorem rowA : (fun e => accAt m ρ hG c t (ix2 (rw2 j l) e)) = rowSum m c (rowT t j l) := funext fun e => acc_at m ρ c t j l hG hs e
omit hs in
theorem rowQ : (fun e => XX m ρ c 0 t (ix2 (rw2 j l) e)) = qM m c (rowT t j l) := funext fun e => codes_at m ρ c t j l e

theorem code_pt (d : Fin 256) : out9 (accAt m ρ hG c t) (XX m ρ c 0 t) (XX m ρ c 3 t) (XX m ρ c 4 t) (XX m ρ c 5 t) (ix2 (rw2 j l) d)
    = codeF m c (ix2 (rowT t j l) d) := by
  rw [out9_at, rowA m ρ hG c t j l hs, rowQ, scale_at, bias_at, mom_at]
  rfl
theorem scl_pt : out10 (accAt m ρ hG c t) (XX m ρ c 0 t) (XX m ρ c 3 t) (XX m ρ c 4 t) (XX m ρ c 5 t) (ix3 0 j l)
    = sclF m c (ix3 (⟨t.val, pt_lt t⟩ : Fin 480) j l) := by
  rw [out10_at, rowA m ρ hG c t j l hs, rowQ, scale_at, bias_at, mom_at]
  rfl
theorem min_pt : out11 (accAt m ρ hG c t) (XX m ρ c 0 t) (XX m ρ c 3 t) (XX m ρ c 4 t) (XX m ρ c 5 t) (ix3 0 j l)
    = minF m c (ix3 (⟨t.val, pt_lt t⟩ : Fin 480) j l) := by
  rw [out11_at, rowA m ρ hG c t j l hs, rowQ, scale_at, bias_at, mom_at]
  rfl
theorem mom_pt : out12 (accAt m ρ hG c t) (XX m ρ c 5 t) (ix3 0 j l)
    = momF m c (ix3 (⟨t.val, pt_lt t⟩ : Fin 480) j l) := by
  rw [out12_at, rowA m ρ hG c t j l hs, mom_at]
  rfl
end Point

theorem fin6 (hs : Sorted (offs m c)) : finalA m ρ hG c 6 = codeF m c := by
  refine (dats m ρ hG 0 c).arrAt_eq_of_covers 6 _ (cov6 m ρ) fun t hf y => ?_
  blk_simp
  have h0 : (y (0 : Fin 2)).val < 256 := (y (0 : Fin 2)).isLt
  have h1 : (y (1 : Fin 2)).val < 256 := (y (1 : Fin 2)).isLt
  have hy : y = ix2 (rw2 ⟨(y (0 : Fin 2)).val / 128, by omega⟩ ⟨(y (0 : Fin 2)).val % 128, by omega⟩) (⟨(y (1 : Fin 2)).val, h1⟩ : Fin 256) := by
    funext a
    match a with
    | ⟨0, _⟩ => exact Fin.ext (show (y (0 : Fin 2)).val = (y (0 : Fin 2)).val / 128 * 128 + (y (0 : Fin 2)).val % 128 by omega)
    | ⟨1, _⟩ => rfl
  refine (congrArg ((dats m ρ hG 0 c).after 6 t) hy).trans ((code_pt m ρ hG c t _ _ hs _).trans (congrArg (codeF m c) (funext fun a => Fin.ext ?_)))
  match a with
  | ⟨0, _⟩ =>
    blk_simp
    refine Eq.trans ?_ (congrArg (fun q : ℕ => q * 256 + (y (0 : Fin 2)).val) (congrFun (idx7 t) 0).symm)
    show t.val * 256 + (y (0 : Fin 2)).val / 128 * 128 + (y (0 : Fin 2)).val % 128 = t.val * 256 + (y (0 : Fin 2)).val
    omega
  | ⟨1, _⟩ =>
    blk_simp
    refine Eq.trans ?_ (congrArg (fun q : ℕ => q * 256 + (y (1 : Fin 2)).val) (congrFun (idx7 t) 1).symm)
    show (y (1 : Fin 2)).val = 0 * 256 + (y (1 : Fin 2)).val
    omega

theorem fin7 (hs : Sorted (offs m c)) : finalA m ρ hG c 7 = sclF m c := by
  refine (dats m ρ hG 0 c).arrAt_eq_of_covers 7 _ (cov7 m ρ) fun t hf y => ?_
  blk_simp
  have h0 : (y (0 : Fin 3)).val < 1 := (y (0 : Fin 3)).isLt
  have h1 : (y (1 : Fin 3)).val < 2 := (y (1 : Fin 3)).isLt
  have h2 : (y (2 : Fin 3)).val < 128 := (y (2 : Fin 3)).isLt
  have hy : y = ix3 (0 : Fin 1) (⟨(y (1 : Fin 3)).val, h1⟩ : Fin 2) (⟨(y (2 : Fin 3)).val, h2⟩ : Fin 128) := by
    funext a
    match a with
    | ⟨0, _⟩ => exact Fin.ext (show (y (0 : Fin 3)).val = 0 by omega)
    | ⟨1, _⟩ => rfl
    | ⟨2, _⟩ => rfl
  refine (congrArg ((dats m ρ hG 0 c).after 7 t) hy).trans ((scl_pt m ρ hG c t _ _ hs).trans (congrArg (sclF m c) (funext fun a => Fin.ext ?_)))
  match a with
  | ⟨0, _⟩ =>
    blk_simp
    exact (congrFun (idx8 t) 0).symm
  | ⟨1, _⟩ =>
    blk_simp
    refine Eq.trans ?_ (congrArg (fun q : ℕ => q * 2 + (y (1 : Fin 3)).val) (congrFun (idx8 t) 1).symm)
    show (y (1 : Fin 3)).val = 0 * 2 + (y (1 : Fin 3)).val
    omega
  | ⟨2, _⟩ =>
    blk_simp
    refine Eq.trans ?_ (congrArg (fun q : ℕ => q * 128 + (y (2 : Fin 3)).val) (congrFun (idx8 t) 2).symm)
    show (y (2 : Fin 3)).val = 0 * 128 + (y (2 : Fin 3)).val
    omega

theorem fin8 (hs : Sorted (offs m c)) : finalA m ρ hG c 8 = minF m c := by
  refine (dats m ρ hG 0 c).arrAt_eq_of_covers 8 _ (cov8 m ρ) fun t hf y => ?_
  blk_simp
  have h0 : (y (0 : Fin 3)).val < 1 := (y (0 : Fin 3)).isLt
  have h1 : (y (1 : Fin 3)).val < 2 := (y (1 : Fin 3)).isLt
  have h2 : (y (2 : Fin 3)).val < 128 := (y (2 : Fin 3)).isLt
  have hy : y = ix3 (0 : Fin 1) (⟨(y (1 : Fin 3)).val, h1⟩ : Fin 2) (⟨(y (2 : Fin 3)).val, h2⟩ : Fin 128) := by
    funext a
    match a with
    | ⟨0, _⟩ => exact Fin.ext (show (y (0 : Fin 3)).val = 0 by omega)
    | ⟨1, _⟩ => rfl
    | ⟨2, _⟩ => rfl
  refine (congrArg ((dats m ρ hG 0 c).after 8 t) hy).trans ((min_pt m ρ hG c t _ _ hs).trans (congrArg (minF m c) (funext fun a => Fin.ext ?_)))
  match a with
  | ⟨0, _⟩ =>
    blk_simp
    exact (congrFun (idx9 t) 0).symm
  | ⟨1, _⟩ =>
    blk_simp
    refine Eq.trans ?_ (congrArg (fun q : ℕ => q * 2 + (y (1 : Fin 3)).val) (congrFun (idx9 t) 1).symm)
    show (y (1 : Fin 3)).val = 0 * 2 + (y (1 : Fin 3)).val
    omega
  | ⟨2, _⟩ =>
    blk_simp
    refine Eq.trans ?_ (congrArg (fun q : ℕ => q * 128 + (y (2 : Fin 3)).val) (congrFun (idx9 t) 2).symm)
    show (y (2 : Fin 3)).val = 0 * 128 + (y (2 : Fin 3)).val
    omega

theorem fin9 (hs : Sorted (offs m c)) : finalA m ρ hG c 9 = momF m c := by
  refine (dats m ρ hG 0 c).arrAt_eq_of_covers 9 _ (cov9 m ρ) fun t hf y => ?_
  blk_simp
  have h0 : (y (0 : Fin 3)).val < 1 := (y (0 : Fin 3)).isLt
  have h1 : (y (1 : Fin 3)).val < 2 := (y (1 : Fin 3)).isLt
  have h2 : (y (2 : Fin 3)).val < 128 := (y (2 : Fin 3)).isLt
  have hy : y = ix3 (0 : Fin 1) (⟨(y (1 : Fin 3)).val, h1⟩ : Fin 2) (⟨(y (2 : Fin 3)).val, h2⟩ : Fin 128) := by
    funext a
    match a with
    | ⟨0, _⟩ => exact Fin.ext (show (y (0 : Fin 3)).val = 0 by omega)
    | ⟨1, _⟩ => rfl
    | ⟨2, _⟩ => rfl
  refine (congrArg ((dats m ρ hG 0 c).after 9 t) hy).trans ((mom_pt m ρ hG c t _ _ hs).trans (congrArg (momF m c) (funext fun a => Fin.ext ?_)))
  match a with
  | ⟨0, _⟩ =>
    blk_simp
    exact (congrFun (idx10 t) 0).symm
  | ⟨1, _⟩ =>
    blk_simp
    refine Eq.trans ?_ (congrArg (fun q : ℕ => q * 2 + (y (1 : Fin 3)).val) (congrFun (idx10 t) 1).symm)
    show (y (1 : Fin 3)).val = 0 * 2 + (y (1 : Fin 3)).val
    omega
  | ⟨2, _⟩ =>
    blk_simp
    refine Eq.trans ?_ (congrArg (fun q : ℕ => q * 128 + (y (2 : Fin 3)).val) (congrFun (idx10 t) 2).symm)
    show (y (2 : Fin 3)).val = 0 * 128 + (y (2 : Fin 3)).val
    omega

end Cert.Proof.I

end
-- ==== Proof.VRes.lean ====
/-
  The reference's four results, element by element, and that they are the kernel's.
-/
module

public import proofs.«01_k».proof.Proof.VScat
public import proofs.«01_k».proof.Proof.VFin

@[expose] public section

noncomputable section

namespace Cert.Proof.R

open Cert.ReferenceIdeal Cert.ReferenceIdeal.Gen
open Idealize.ShloMosaic Idealize.ShloMosaic.TcCoe
open Idealize.SL.Sem

section Spec
variable (a0 : IVec S983040x128 32) (a1 : IVec S122880x256 8) (a2 : IVec S122881 32) (a3 a4 a5 : FVec Ideal S122880 .f32)

/-- A row's summed gradients. -/
def sumA (r : Fin 122880) (d : Fin 256) : EReal := runSum (fun n l => a0 (ix2 n l)) (off a2 r.val) (off a2 (r.val + 1)) d

/-- The four results. -/
def codeA : IVec S122880x256 8 := fun y => codR (sumA a0 a2 (y 0)) (qR a1 (y 0)) (a3 (ix1 (y 0))) (a4 (ix1 (y 0))) (a5 (ix1 (y 0))) (y 1)
def sclA : FVec Ideal S480x2x128 .f32 := fun y =>
  let r := row3 (y 0) (y 1) (y 2); sclR (sumA a0 a2 r) (qR a1 r) (a3 (ix1 r)) (a4 (ix1 r)) (a5 (ix1 r))
def minA : FVec Ideal S480x2x128 .f32 := fun y =>
  let r := row3 (y 0) (y 1) (y 2); minR (sumA a0 a2 r) (qR a1 r) (a3 (ix1 r)) (a4 (ix1 r)) (a5 (ix1 r))
def momA : FVec Ideal S480x2x128 .f32 := fun y =>
  let r := row3 (y 0) (y 1) (y 2); mnewR (sumA a0 a2 r) (a5 (ix1 r))

theorem aR_eq {a2 : IVec S122881 32} (hs : Sorted a2) (r : Fin 122880) : aR (refG a0 a2) r = sumA a0 a2 r := funext fun d => refG_at a0 hs r d

/-- An index is its coordinates. -/
theorem ix2_surj (y : S122880x256.Idx) : ∃ (r : Fin 122880) (d : Fin 256), y = ix2 r d := ⟨y 0, y 1, by
  funext a
  match a with
  | ⟨0, _⟩ => rfl
  | ⟨1, _⟩ => rfl⟩
theorem ix3_surj (y : S480x2x128.Idx) : ∃ (i : Fin 480) (j : Fin 2) (l : Fin 128), y = ix3 i j l := ⟨y 0, y 1, y 2, by
  funext a
  match a with
  | ⟨0, _⟩ => rfl
  | ⟨1, _⟩ => rfl
  | ⟨2, _⟩ => rfl⟩

variable {a2}
theorem code_eq (hs : Sorted a2) : refC (refG a0 a2) a1 a3 a4 a5 = codeA a0 a1 a2 a3 a4 a5 := by
  funext y
  obtain ⟨r, d, rfl⟩ := ix2_surj y
  rw [refC_at, aR_eq a0 hs r]
  rfl

theorem scl_eq (hs : Sorted a2) : shapeCast S480x2x128 (refS (refG a0 a2) a1 a3 a4 a5) shapeCasts_S122880_S480x2x128 = sclA a0 a1 a2 a3 a4 a5 := by
  funext y
  obtain ⟨i, j, l, rfl⟩ := ix3_surj y
  rw [cast3_at, refS_at, aR_eq a0 hs]
  rfl

theorem min_eq (hs : Sorted a2) : shapeCast S480x2x128 (refMin (refG a0 a2) a1 a3 a4 a5) shapeCasts_S122880_S480x2x128 = minA a0 a1 a2 a3 a4 a5 := by
  funext y
  obtain ⟨i, j, l, rfl⟩ := ix3_surj y
  rw [cast3_at, refMin_at, aR_eq a0 hs]
  rfl

theorem mom_eq (hs : Sorted a2) : shapeCast S480x2x128 (refM (refG a0 a2) a5) shapeCasts_S122880_S480x2x128 = momA a0 a2 a5 := by
  funext y
  obtain ⟨i, j, l, rfl⟩ := ix3_surj y
  rw [cast3_at, refM_at, aR_eq a0 hs]
  rfl
end Spec

section Run
variable (m : (ℓ : Loc nD τ sig) → Buf (Elt Ideal) ℓ) (ρ : Dev nD → PrngReg)

/-- The reference's run: its four results. -/
theorem run_at (hs : ∀ c : Dev nD, Sorted (m ((c.tc : Thread nD τ).loc main_arg2))) :
    θ_run (defs (F := Ideal)) (onTc (τ := τ) (main (F := Ideal))) ⟨m, fun _ => 0, ρ⟩ fun r => ∀ c : Dev nD,
      r.2.mem ((c.tc : Thread nD τ).loc main_v52) = codeA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v53) = sclA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v54) = minA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v55) = momA (m ((c.tc : Thread nD τ).loc main_arg0)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨h52, h53, h54, h55, hr⟩ := h c
    exact ⟨h52.trans ((res52 m c).trans (code_eq _ _ _ _ _ (hs c))), h53.trans ((res53 m c).trans (scl_eq _ _ _ _ _ (hs c))),
      h54.trans ((res54 m c).trans (min_eq _ _ _ _ _ (hs c))), h55.trans (mom_eq _ _ (hs c)), hr⟩) (Value.run (F := Ideal) m ρ)
end Run

end Cert.Proof.R

namespace Cert.Proof.I
open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- The kernel's run: its four results. -/
theorem run_at (hs : ∀ c, Sorted (offs m c)) :
    θ_run (defs (F := Ideal)) (onTc (τ := τ) (main (F := Ideal))) ⟨m, fun _ => 0, ρ⟩ fun r => ∀ c : Dev nD,
      r.2.mem ((c.tc : Thread nD τ).loc main_v8_0) = codeF m c
      ∧ r.2.mem ((c.tc : Thread nD τ).loc main_v8_1) = sclF m c
      ∧ r.2.mem ((c.tc : Thread nD τ).loc main_v8_2) = minF m c
      ∧ r.2.mem ((c.tc : Thread nD τ).loc main_v8_3) = momF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨ha, h0, h2, h3, h4, h5⟩ := h.1 c
    exact ⟨(ha 6).trans (fin6 m ρ (good_of m ρ hs) c (hs c)), (ha 7).trans (fin7 m ρ (good_of m ρ hs) c (hs c)),
      (ha 8).trans (fin8 m ρ (good_of m ρ hs) c (hs c)), (ha 9).trans (fin9 m ρ (good_of m ρ hs) c (hs c)),
      h0, (ha 0).trans (finalA_w m ρ (good_of m ρ hs) c), h2, h3, h4, h5⟩) (run_main m ρ (good_of m ρ hs))

end Cert.Proof.I

end
-- ==== Proof.BTab.lean ====
/-
  The packed table of the bag kernel: what one block of it holds, word by word.
-/
module

public import proofs.«01_k».proof.Proof.Gen.Bag.Value
public import Idealize.ShloMosaic.Lib.Pipeline.ValueKit
public import Idealize.ShloMosaic.Lib.Pipeline.Covers
public import Idealize.ShloMosaic.Lib.Pointwise

@[expose] public section

set_option maxRecDepth 16384

noncomputable section

namespace Cert.Proof.B

open Cert.Bag Cert.Bag.Gen
open Idealize.ShloMosaic Idealize.ShloMosaic.TcCoe
open Idealize.SL.Sem

variable {F : FTy → Type} [BitOps F]

/-- A dequantised code: the code widened, times its bag's scale, rounded to bf16. -/
def deq (q : F .fp8e4m3) (s : F .f32) : BitVec 16 :=
  BitOps.toBits (FloatOps.truncf .bf16 (by decide) (FloatOps.mulf (FloatOps.extf .f32 bitsLt_fp8e4m3_f32 q) s))

/-- One word of the table: two columns of a row, the second in the upper half. -/
def word (a b : F .fp8e4m3) (s : F .f32) : BitVec 32 := deq b s ++ deq a s

/-- The second of a word's two columns. -/
abbrev up (l : Fin 128) : Fin 256 := ⟨128 + l.val, by omega⟩
abbrev lo (l : Fin 128) : Fin 256 := ⟨l.val, by omega⟩

/-- What the body stores of 128 rows and their scales. -/
def pay (v : FVec F S1x128 .f32) (x : Vec F S128x256 .fp8e4m3) : IVec S128x128 32 := k0_pay3 v x

theorem pay_at (v : FVec F S1x128 .f32) (x : Vec F S128x256 .fp8e4m3) (r l : Fin 128) :
    pay v x (ix2 r l) = word (x (ix2 r (lo l))) (x (ix2 r (up l))) (v (ix2 0 r)) := by
  pointwise [pay, k0_pay3, word, deq]

/-- What a block of the table holds, of its codes and scales. -/
def blkF (x0 : Vec F S2048x256 .fp8e4m3) (x1 : Vec F S16x128 .f32) : IVec S2048x128 32 := fun y =>
  have h : (y 0).val < 2048 := (y 0).isLt
  word (x0 (ix2 (y 0) (lo (y 1)))) (x0 (ix2 (y 0) (up (y 1)))) (x1 (ix2 ⟨(y 0).val / 128, by omega⟩ ⟨(y 0).val % 128, by omega⟩))

/-- One of the body's stores agrees with the block. -/
theorem piece_at (x0 : Vec F S2048x256 .fp8e4m3) (x1 : Vec F S16x128 .f32) (o k : ℕ) (h : o = 128 * k)
    (inbX : ∀ a, (![o, 0] : Fin 2 → ℕ) a + S128x256.size a ≤ S2048x256.size a)
    (inbS : ∀ a, (![k, 0] : Fin 2 → ℕ) a + S1x128.size a ≤ S16x128.size a)
    (inbO : ∀ a, (![o, 0] : Fin 2 → ℕ) a + S128x128.size a ≤ S2048x128.size a) (j : S128x128.Idx) :
    pay (View.ld x1 (Rect.unit (s := S16x128) ![k, 0] S1x128.size inbS)) (View.ld x0 (Rect.unit (s := S2048x256) ![o, 0] S128x256.size inbX)) j
      = blkF x0 x1 ((Rect.unit (s := S2048x128) ![o, 0] S128x128.size inbO).emb j) := by
  subst h
  have h0 : (j 0).val < 128 := (j 0).isLt
  have h1 : (j 1).val < 128 := (j 1).isLt
  have hj : j = ix2 (⟨(j 0).val, h0⟩ : Fin 128) (⟨(j 1).val, h1⟩ : Fin 128) := by
    funext a
    match a with
    | ⟨0, _⟩ => rfl
    | ⟨1, _⟩ => rfl
  refine (congrArg (pay _ _) hj).trans ((pay_at _ _ _ _).trans ?_)
  show word (x0 _) (x0 _) (x1 _) = word (x0 _) (x0 _) (x1 _)
  congr 1
  · refine congrArg x0 (funext fun a => Fin.ext ?_)
    match a with
    | ⟨0, _⟩ => rfl
    | ⟨1, _⟩ => show 0 + 1 * (j 1).val = 0 + 1 * (j 1).val; rfl
  · refine congrArg x0 (funext fun a => Fin.ext ?_)
    match a with
    | ⟨0, _⟩ => rfl
    | ⟨1, _⟩ => show 0 + 1 * (128 + (j 1).val) = 128 + (0 + 1 * (j 1).val); omega
  · refine congrArg x1 (funext fun a => Fin.ext ?_)
    match a with
    | ⟨0, _⟩ => show k + 1 * 0 = (128 * k + 1 * (j 0).val) / 128; omega
    | ⟨1, _⟩ => show 0 + 1 * (j 0).val = (128 * k + 1 * (j 0).val) % 128; omega

/-- The body's sixteen stores leave the block. -/
theorem blk_eq (x0 : Vec F S2048x256 .fp8e4m3) (x1 : Vec F S16x128 .f32) : out0_2 x0 x1 = blkF x0 x1 := by
  funext y
  unfold out0_2
  refine View.canon_apply_of_pieces (blkF x0 x1) _ ?_ y (cover0_2 (F := F) _ _ _ _ _ _ _ _ _ _ _ _ _ _ _ _ y)
  intro pc hpc
  rcases List.mem_cons.mp hpc with rfl | hpc
  · exact fun j => piece_at x0 x1 1920 15 rfl inb_S2048x256_S128x256_1920_0 inb_S16x128_S1x128_15_0 inb_S2048x128_S128x128_1920_0 j
  rcases List.mem_cons.mp hpc with rfl | hpc
  · exact fun j => piece_at x0 x1 1792 14 rfl inb_S2048x256_S128x256_1792_0 inb_S16x128_S1x128_14_0 inb_S2048x128_S128x128_1792_0 j
  rcases List.mem_cons.mp hpc with rfl | hpc
  · exact fun j => piece_at x0 x1 1664 13 rfl inb_S2048x256_S128x256_1664_0 inb_S16x128_S1x128_13_0 inb_S2048x128_S128x128_1664_0 j
  rcases List.mem_cons.mp hpc with rfl | hpc
  · exact fun j => piece_at x0 x1 1536 12 rfl inb_S2048x256_S128x256_1536_0 inb_S16x128_S1x128_12_0 inb_S2048x128_S128x128_1536_0 j
  rcases List.mem_cons.mp hpc with rfl | hpc
  · exact fun j => piece_at x0 x1 1408 11 rfl inb_S2048x256_S128x256_1408_0 inb_S16x128_S1x128_11_0 inb_S2048x128_S128x128_1408_0 j
  rcases List.mem_cons.mp hpc with rfl | hpc
  · exact fun j => piece_at x0 x1 1280 10 rfl inb_S2048x256_S128x256_1280_0 inb_S16x128_S1x128_10_0 inb_S2048x128_S128x128_1280_0 j
  rcases List.mem_cons.mp hpc with rfl | hpc
  · exact fun j => piece_at x0 x1 1152 9 rfl inb_S2048x256_S128x256_1152_0 inb_S16x128_S1x128_9_0 inb_S2048x128_S128x128_1152_0 j
  rcases List.mem_cons.mp hpc with rfl | hpc
  · exact fun j => piece_at x0 x1 1024 8 rfl inb_S2048x256_S128x256_1024_0 inb_S16x128_S1x128_8_0 inb_S2048x128_S128x128_1024_0 j
  rcases List.mem_cons.mp hpc with rfl | hpc
  · exact fun j => piece_at x0 x1 896 7 rfl inb_S2048x256_S128x256_896_0 inb_S16x128_S1x128_7_0 inb_S2048x128_S128x128_896_0 j
  rcases List.mem_cons.mp hpc with rfl | hpc
  · exact fun j => piece_at x0 x1 768 6 rfl inb_S2048x256_S128x256_768_0 inb_S16x128_S1x128_6_0 inb_S2048x128_S128x128_768_0 j
  rcases List.mem_cons.mp hpc with rfl | hpc
  · exact fun j => piece_at x0 x1 640 5 rfl inb_S2048x256_S128x256_640_0 inb_S16x128_S1x128_5_0 inb_S2048x128_S128x128_640_0 j
  rcases List.mem_cons.mp hpc with rfl | hpc
  · exact fun j => piece_at x0 x1 512 4 rfl inb_S2048x256_S128x256_512_0 inb_S16x128_S1x128_4_0 inb_S2048x128_S128x128_512_0 j
  rcases List.mem_cons.mp hpc with rfl | hpc
  · exact fun j => piece_at x0 x1 384 3 rfl inb_S2048x256_S128x256_384_0 inb_S16x128_S1x128_3_0 inb_S2048x128_S128x128_384_0 j
  rcases List.mem_cons.mp hpc with rfl | hpc
  · exact fun j => piece_at x0 x1 256 2 rfl inb_S2048x256_S128x256_256_0 inb_S16x128_S1x128_2_0 inb_S2048x128_S128x128_256_0 j
  rcases List.mem_cons.mp hpc with rfl | hpc
  · exact fun j => piece_at x0 x1 128 1 rfl inb_S2048x256_S128x256_128_0 inb_S16x128_S1x128_1_0 inb_S2048x128_S128x128_128_0 j
  rcases List.mem_cons.mp hpc with rfl | hpc
  · exact fun j => piece_at x0 x1 0 0 rfl inb_S2048x256_S128x256_0_0 inb_S16x128_S1x128_0_0 inb_S2048x128_S128x128_0_0 j
  nomatch hpc

/-! ## The whole table -/

variable (m : (ℓ : Loc nD τ sig) → Buf (Elt F) ℓ) (ρ : Dev nD → PrngReg) (c : Dev nD)

/-- The table of codes by batch, sequence place and column, and scales by batch and sequence place: bag `b` is place
    `b % 512` of batch `b / 512`. -/
def tabF (q : Vec F S64x512x256 .fp8e4m3) (s : FVec F S64x512 .f32) : IVec S32768x128 32 := fun y =>
  have h : (y 0).val < 32768 := (y 0).isLt
  word (q (ix3 ⟨(y 0).val / 512, by omega⟩ ⟨(y 0).val % 512, by omega⟩ (lo (y 1))))
    (q (ix3 ⟨(y 0).val / 512, by omega⟩ ⟨(y 0).val % 512, by omega⟩ (up (y 1))))
    (s (ix2 ⟨(y 0).val / 512, by omega⟩ ⟨(y 0).val % 512, by omega⟩))

theorem codes_cast {α : Type} (x : S64x512x256.Idx → α) (r : Fin 32768) (d : Fin 256) :
    shapeCast S32768x256 x shapeCasts_S64x512x256_S32768x256 (ix2 r d) = x (ix3 ⟨r.val / 512, by omega⟩ ⟨r.val % 512, by omega⟩ d) := by
  refine shapeCast_apply _ _ _ _ ?_
  rw [Shape.rowMajor_val_two, Shape.rowMajor_val_three]
  show (r.val / 512 * 512 + r.val % 512) * 256 + d.val = r.val * 256 + d.val
  omega

theorem scale_cast {α : Type} (x : S64x512.Idx → α) (r : Fin 32768) (i : Fin 256) (j : Fin 128) (h : r.val = i.val * 128 + j.val) :
    shapeCast S256x128 x shapeCasts_S64x512_S256x128 (ix2 i j) = x (ix2 ⟨r.val / 512, by omega⟩ ⟨r.val % 512, by omega⟩) := by
  refine shapeCast_apply _ _ _ _ ?_
  rw [Shape.rowMajor_val_two, Shape.rowMajor_val_two]
  show r.val / 512 * 512 + r.val % 512 = i.val * 128 + j.val
  omega

theorem V0_eq : V m c main_v0 = shapeCast S32768x256 (m ((c : Thread nD τ).loc main_arg0) : Vec F S64x512x256 .fp8e4m3) shapeCasts_S64x512x256_S32768x256 := by
  show StableHlo.after hostOps0 (fun b => m (c, b)) (Proc.devRef .tc main_v0) = _
  after_results
  rfl
theorem V1_eq : V m c main_v1 = shapeCast S256x128 (m ((c : Thread nD τ).loc main_arg1) : FVec F S64x512 .f32) shapeCasts_S64x512_S256x128 := by
  show StableHlo.after hostOps0 (fun b => m (c, b)) (Proc.devRef .tc main_v1) = _
  after_results
  rfl

theorem idx0 : ∀ t : Fin grid0.N, cc0_transform_0 (grid0.coords t) = ![t.val, 0] := by decide +kernel
theorem idx1 : ∀ t : Fin grid0.N, cc0_transform_1 (grid0.coords t) = ![t.val, 0] := by decide +kernel
theorem idx2 : ∀ t : Fin grid0.N, cc0_transform_2 (grid0.coords t) = ![t.val, 0] := by decide +kernel
theorem N_16 : grid0.N = 16 := by decide +kernel
theorem lt16 (t : Fin grid0.N) : t.val < 16 := lt_of_lt_of_eq t.isLt N_16

theorem codes_at (t : Fin grid0.N) (r : Fin 2048) (d : Fin 256) :
    (iblk m c 0 t : Vec F S2048x256 .fp8e4m3) (ix2 r d) = (V m c main_v0 : Vec F S32768x256 .fp8e4m3) (ix2 (⟨t.val * 2048 + r.val, by have := lt16 t; omega⟩ : Fin 32768) d) := by
  unfold iblk
  refine congrArg (V m c main_v0) (funext fun a => Fin.ext ?_)
  match a with
  | ⟨0, _⟩ =>
    blk_simp
    show (cfg0.win 0).index t (0 : Fin 2) * 2048 + r.val = t.val * 2048 + r.val
    rw [show (cfg0.win 0).index t (0 : Fin 2) = t.val from congrFun (idx0 t) 0]
  | ⟨1, _⟩ =>
    blk_simp
    show (cfg0.win 0).index t (1 : Fin 2) * 256 + d.val = d.val
    rw [show (cfg0.win 0).index t (1 : Fin 2) = 0 from congrFun (idx0 t) 1]
    omega

theorem scale_at (t : Fin grid0.N) (i : Fin 16) (j : Fin 128) :
    (iblk m c 1 t : Vec F S16x128 .f32) (ix2 i j) = (V m c main_v1 : Vec F S256x128 .f32) (ix2 (⟨t.val * 16 + i.val, by have := lt16 t; omega⟩ : Fin 256) j) := by
  unfold iblk
  refine congrArg (V m c main_v1) (funext fun a => Fin.ext ?_)
  match a with
  | ⟨0, _⟩ =>
    blk_simp
    show (cfg0.win 1).index t (0 : Fin 2) * 16 + i.val = t.val * 16 + i.val
    rw [show (cfg0.win 1).index t (0 : Fin 2) = t.val from congrFun (idx1 t) 0]
  | ⟨1, _⟩ =>
    blk_simp
    show (cfg0.win 1).index t (1 : Fin 2) * 128 + j.val = j.val
    rw [show (cfg0.win 1).index t (1 : Fin 2) = 0 from congrFun (idx1 t) 1]
    omega

/-- What point `t` leaves in its block, of the launch. -/
theorem word_at (t : Fin grid0.N) (r : Fin 2048) (l : Fin 128) :
    out0_2 (iblk m c 0 t) (iblk m c 1 t) (ix2 r l)
      = tabF (m ((c : Thread nD τ).loc main_arg0)) (m ((c : Thread nD τ).loc main_arg1)) (ix2 (⟨t.val * 2048 + r.val, by have := lt16 t; omega⟩ : Fin 32768) l) := by
  have ht := lt16 t
  refine (congrFun (blk_eq _ _) _).trans ?_
  have e0 := (codes_at m c t r (lo l)).trans ((congrFun (V0_eq m c) _).trans (codes_cast _ _ _))
  have e1 := (codes_at m c t r (up l)).trans ((congrFun (V0_eq m c) _).trans (codes_cast _ _ _))
  have e2 := (scale_at m c t ⟨r.val / 128, by omega⟩ ⟨r.val % 128, by omega⟩).trans ((congrFun (V1_eq m c) _).trans
    (scale_cast _ (⟨t.val * 2048 + r.val, by omega⟩ : Fin 32768) _ _ (by show t.val * 2048 + r.val = (t.val * 16 + r.val / 128) * 128 + r.val % 128; omega)))
  show word _ _ _ = word _ _ _
  exact congr (congr (congrArg word e0) e1) e2

theorem cov : (cfg0.win 2).Covers := by
  refine (cfg0.win 2).covers_of_index_surj rfl (by decide : ∀ a : Fin 2, 0 < S2048x128.size a) fun β => ?_
  have h0 : (β (0 : Fin 2)).val < 16 := lt_of_lt_of_eq (β (0 : Fin 2)).isLt (by show (32768 + 2048 - 1) / 2048 = 16; norm_num)
  have h1 : (β (1 : Fin 2)).val < 1 := lt_of_lt_of_eq (β (1 : Fin 2)).isLt (by show (128 + 128 - 1) / 128 = 1; norm_num)
  refine ⟨⟨(β (0 : Fin 2)).val, lt_of_lt_of_eq h0 N_16.symm⟩, fun a => ?_⟩
  match a with
  | ⟨0, _⟩ => exact congrFun (idx2 _) 0
  | ⟨1, _⟩ => exact (congrFun (idx2 ⟨(β (0 : Fin 2)).val, lt_of_lt_of_eq h0 N_16.symm⟩) 1).trans (show 0 = (β (1 : Fin 2)).val by omega)

theorem arr_eq : (dats m 0 c).arrAt 2 cfg0.N = tabF (m ((c : Thread nD τ).loc main_arg0)) (m ((c : Thread nD τ).loc main_arg1)) := by
  refine (dats m 0 c).arrAt_eq_of_covers 2 _ cov fun t hf y => ?_
  rw [after0_2]
  blk_simp
  have h0 : (y (0 : Fin 2)).val < 2048 := (y (0 : Fin 2)).isLt
  have h1 : (y (1 : Fin 2)).val < 128 := (y (1 : Fin 2)).isLt
  have hy : y = ix2 (⟨(y (0 : Fin 2)).val, h0⟩ : Fin 2048) (⟨(y (1 : Fin 2)).val, h1⟩ : Fin 128) := by
    funext a
    match a with
    | ⟨0, _⟩ => rfl
    | ⟨1, _⟩ => rfl
  refine (congrArg (out0_2 (iblk m c 0 t) (iblk m c 1 t)) hy).trans ((word_at m c t _ _).trans (congrArg (tabF _ _) (funext fun a => Fin.ext ?_)))
  match a with
  | ⟨0, _⟩ =>
    blk_simp
    exact congrArg (fun q : ℕ => q * 2048 + (y (0 : Fin 2)).val) (congrFun (idx2 t) 0).symm
  | ⟨1, _⟩ =>
    blk_simp
    refine Eq.trans ?_ (congrArg (fun q : ℕ => q * 128 + (y (1 : Fin 2)).val) (congrFun (idx2 t) 1).symm)
    show (y (1 : Fin 2)).val = 0 * 128 + (y (1 : Fin 2)).val
    omega

/-- The bag kernel leaves the table. -/
theorem run_at : θ_run defs (onTc (τ := τ) (main (F := F))) ⟨m, fun _ => 0, ρ⟩ fun r => ∀ c : Dev nD,
      r.2.mem ((c : Thread nD τ).loc main_v2) = tabF (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr_eq m c), (h c).2⟩) (Value.run_blocks m ρ)

end Cert.Proof.B

end
-- ==== Proof.BRef.lean ====
/-
  The bag reference's table: the same words as the kernel's.
-/
module

public import proofs.«01_k».proof.Proof.BTab
public import proofs.«01_k».proof.Proof.Gen.BagReference.Value

@[expose] public section

set_option maxRecDepth 16384

noncomputable section

namespace Cert.Proof.BR

open Cert.BagReference Cert.BagReference.Gen
open Idealize.ShloMosaic Idealize.ShloMosaic.TcCoe
open Idealize.SL.Sem
open Cert.Proof.B (deq word lo up tabF)

variable {F : FTy → Type} [BitOps F]

/-- Two 16-bit halves joined by a shift and an or are the two written one after the other. -/
theorem join (a b : BitVec 16) : IntOp.ori (a.setWidth 32) (IntOp.shli .vector (b.setWidth 32) 16#32) = b ++ a := by
  have hs : IntOp.shli .vector (b.setWidth 32) 16#32 = (b.setWidth 32) <<< 16 := by
    unfold IntOp.shli
    rw [if_pos (by decide)]
    rfl
  rw [hs]
  unfold IntOp.ori
  refine BitVec.eq_of_getLsbD_eq fun i hi => ?_
  simp only [BitVec.getLsbD_or, BitVec.getLsbD_setWidth, BitVec.getLsbD_shiftLeft, BitVec.getLsbD_append]
  by_cases h : i < 16
  · simp [h, hi]
  · have ha : a.getLsbD i = false := BitVec.getLsbD_of_ge a i (by omega)
    have h' : i - 16 < 32 := by omega
    simp [h, hi, ha, h']

variable (m : (ℓ : Loc nD τ sig) → Buf (Elt F) ℓ) (ρ : Dev nD → PrngReg) (c : Dev nD)

theorem V0_eq : V m c main_v0 = shapeCast S32768x256 (m ((c : Thread nD τ).loc main_arg0) : Vec F S64x512x256 .fp8e4m3) shapeCasts_S64x512x256_S32768x256 := by
  show StableHlo.after hostOps0 (fun b => m (c, b)) (Proc.devRef .tc main_v0) = _
  after_results
  rfl
theorem V2_eq : V m c main_v2 = broadcastInDim S32768x1 ![0] bcast_S32768_S32768x1_0
    (shapeCast S32768 (m ((c : Thread nD τ).loc main_arg1) : FVec F S64x512 .f32) shapeCasts_S64x512_S32768) := by
  show StableHlo.after hostOps0 (fun b => m (c, b)) (Proc.devRef .tc main_v2) = _
  after_results
  rfl

theorem scale_cast {α : Type} (x : S64x512.Idx → α) (r : Fin 32768) :
    broadcastInDim S32768x1 ![0] bcast_S32768_S32768x1_0 (shapeCast S32768 x shapeCasts_S64x512_S32768) (ix2 r 0)
      = x (ix2 ⟨r.val / 512, by omega⟩ ⟨r.val % 512, by omega⟩) := by
  refine (broadcastInDim_apply _ _ _ (ix2 r (0 : Fin 1)) (ix1 r) (fun a => match a with | ⟨0, _⟩ => rfl)).trans ?_
  refine shapeCast_apply _ _ _ _ ?_
  rw [Shape.rowMajor_val_two, Shape.rowMajor_val_one]
  show r.val / 512 * 512 + r.val % 512 = r.val
  omega

theorem codes_at (t : Fin grid0.N) : (iblk m c 0 t : Vec F S32768x256 .fp8e4m3) = V m c main_v0 := by
  unfold iblk
  funext y
  refine congrArg (V m c main_v0) (funext fun a => Fin.ext ?_)
  match a with
  | ⟨0, _⟩ =>
    blk_simp
    have z : win0_0.index t 0 = 0 := rfl
    rw [z]
    omega
  | ⟨1, _⟩ =>
    blk_simp
    have z : win0_0.index t 1 = 0 := rfl
    rw [z]
    omega
theorem scale_at (t : Fin grid0.N) : (iblk m c 1 t : Vec F S32768x1 .f32) = V m c main_v2 := by
  unfold iblk
  funext y
  refine congrArg (V m c main_v2) (funext fun a => Fin.ext ?_)
  match a with
  | ⟨0, _⟩ =>
    blk_simp
    have z : win0_1.index t 0 = 0 := rfl
    rw [z]
    omega
  | ⟨1, _⟩ => blk_simp; try rfl

/-- What the body leaves, of its codes and scales. -/
theorem out_at (P0 : Vec F S32768x256 .fp8e4m3) (P1 : Vec F S32768x1 .f32) (r : Fin 32768) (l : Fin 128) :
    out0_2 P0 P1 (ix2 r l) = word (P0 (ix2 r (lo l))) (P0 (ix2 r (up l))) (P1 (ix2 r 0)) := by
  have hl0 : View.ld P0 r0_0 = P0 := View.ld_unit_zero (funext fun a => match a with | ⟨0, _⟩ => rfl | ⟨1, _⟩ => rfl) _ P0
  have hl1 : View.ld P1 r0_1 = P1 := View.ld_unit_zero (funext fun a => match a with | ⟨0, _⟩ => rfl | ⟨1, _⟩ => rfl) _ P1
  unfold out0_2
  rw [hl0, hl1]
  refine (Value.canon2_eq P0 P1 _).trans ((join _ _).trans ?_)
  have i0 : Value.ix2_0 (ix2 r l) = ix2 r (lo l) := funext fun a => match a with | ⟨0, _⟩ => rfl | ⟨1, _⟩ => rfl
  have i1 : Value.ix2_1 (ix2 r l) = ix2 r 0 := funext fun a => match a with | ⟨0, _⟩ => rfl | ⟨1, _⟩ => rfl
  have i2 : Value.ix2_2 (ix2 r l) = ix2 r (up l) := funext fun a => match a with
    | ⟨0, _⟩ => rfl
    | ⟨1, _⟩ => Fin.ext (show l.val + 128 = 128 + l.val by omega)
  have i3 : Value.ix2_3 (ix2 r l) = ix2 r 0 := funext fun a => match a with | ⟨0, _⟩ => rfl | ⟨1, _⟩ => rfl
  rw [i0, i1, i2, i3]
  rfl

theorem out_tab (t : Fin grid0.N) : out0_2 (iblk m c 0 t) (iblk m c 1 t)
    = tabF (m ((c : Thread nD τ).loc main_arg0) : Vec F S64x512x256 .fp8e4m3) (m ((c : Thread nD τ).loc main_arg1) : FVec F S64x512 .f32) := by
  funext y
  have hy : y = ix2 (⟨(y (0 : Fin 2)).val, (y (0 : Fin 2)).isLt⟩ : Fin 32768) (⟨(y (1 : Fin 2)).val, (y (1 : Fin 2)).isLt⟩ : Fin 128) := by
    funext a
    match a with
    | ⟨0, _⟩ => rfl
    | ⟨1, _⟩ => rfl
  rw [codes_at, scale_at, hy, out_at, V0_eq, V2_eq, scale_cast]
  refine congr (congr (congrArg word (B.codes_cast _ _ _)) (B.codes_cast _ _ _)) rfl

theorem cov : (cfg0.win 2).Covers := by
  refine (cfg0.win 2).covers_of_index_surj rfl (by decide : ∀ a : Fin 2, 0 < S32768x128.size a) fun β => ?_
  have h0 : (β (0 : Fin 2)).val < 1 := (β (0 : Fin 2)).isLt
  have h1 : (β (1 : Fin 2)).val < 1 := (β (1 : Fin 2)).isLt
  refine ⟨t0_0, fun a => ?_⟩
  match a with
  | ⟨0, _⟩ => exact (show 0 = (β (0 : Fin 2)).val by omega)
  | ⟨1, _⟩ => exact (show 0 = (β (1 : Fin 2)).val by omega)

theorem arr_eq : (dats m 0 c).arrAt 2 cfg0.N = tabF (m ((c : Thread nD τ).loc main_arg0) : Vec F S64x512x256 .fp8e4m3) (m ((c : Thread nD τ).loc main_arg1) : FVec F S64x512 .f32) := by
  refine (dats m 0 c).arrAt_eq_of_covers 2 _ cov fun t hf y => ?_
  rw [after0_2]
  blk_simp
  refine (congrFun (out_tab m c t) y).trans (congrArg (tabF _ _) (funext fun a => Fin.ext ?_))
  match a with
  | ⟨0, _⟩ =>
    blk_simp
    have z : win0_2.index t 0 = 0 := rfl
    rw [z]
    omega
  | ⟨1, _⟩ =>
    blk_simp
    have z : win0_2.index t 1 = 0 := rfl
    rw [z]
    omega

/-- The bag reference leaves the same table. -/
theorem run_at : θ_run defs (onTc (τ := τ) (main (F := F))) ⟨m, fun _ => 0, ρ⟩ fun r => ∀ c : Dev nD,
      r.2.mem ((c : Thread nD τ).loc main_v3) = tabF (m ((c : Thread nD τ).loc main_arg0) : Vec F S64x512x256 .fp8e4m3) (m ((c : Thread nD τ).loc main_arg1) : FVec F S64x512 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr_eq m c), (h c).2⟩) (Value.run_blocks m ρ)

end Cert.Proof.BR

end
-- ==== Proof.lean ====
/-
  The claims, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_runs_ok
public import proofs.«01_k».proof.Proof.Gen.Bag
public import proofs.«01_k».proof.Proof.Gen.BagReference
public import proofs.«01_k».proof.Proof.Offs
public import proofs.«01_k».proof.Proof.IGood
public import proofs.«01_k».proof.Proof.KGood
public import proofs.«01_k».proof.Proof.VRes
public import proofs.«01_k».proof.Proof.BTab
public import proofs.«01_k».proof.Proof.BRef

@[expose] public section

noncomputable section

namespace Cert.Proof

open Idealize.ShloMosaic Idealize.SL.Sem

/-- The kernel's frame. -/
theorem frame_k : Cert.quiescent_Kernel := fun m ρ hp => K.frame_of (F := Bits) m ρ fun c => sorted_of _ _ _ _ _ _ (hp c)

/-- The idealized kernel's frame. -/
theorem frame_i : Cert.quiescent_KernelIdeal := fun m ρ hp => I.frame_of (F := Ideal) m ρ fun c => sorted_of _ _ _ _ _ _ (hp c)

/-- The reference has no semaphore. -/
theorem ref_sems {α : Type} (f g : GSem Cert.ReferenceIdeal.nD Cert.ReferenceIdeal.τ Cert.ReferenceIdeal.sig → α) : f = g :=
  funext fun g => by
    obtain ⟨_, s⟩ := g
    cases s with
    | reg s => exact s.elim0
    | dma s => exact s.elim0

/-- The reference's frame, without and with the precondition. -/
theorem frame_r : Cert.quiescent_ReferenceIdeal := fun m ρ _ =>
  (θ_run Cert.ReferenceIdeal.defs _ _).mono (fun r h => ⟨fun c => (h c).2.2.2.2, ref_sems _ _⟩) (Cert.ReferenceIdeal.Value.run (F := Ideal) m ρ)

theorem frame_rp : Cert.quiescent_ReferenceIdeal_pre_runs_ok := fun m ρ _ =>
  (θ_run Cert.ReferenceIdeal.defs _ _).mono (fun r h => ⟨fun c => (h c).2.2.2.2, ref_sems _ _⟩) (Cert.ReferenceIdeal.Value.run (F := Ideal) m ρ)

section Values
open Cert.KernelIdeal in
/-- The kernel's results are the reference's values at the kernel's arguments. -/
theorem vals (m : (ℓ : Loc nD τ sig) → Buf (Elt Ideal) ℓ) (c : Dev nD) (a0 : IVec S983040x128 32) (a1 : IVec S122880x256 8) (a2 : IVec S122881 32)
    (a3 a4 a5 : FVec Ideal S122880 .f32) (h0 : a0 = m ((c.tc : Thread nD τ).loc main_arg0)) (h1 : a1 = m ((c.tc : Thread nD τ).loc main_arg1))
    (h2 : a2 = m ((c.tc : Thread nD τ).loc main_arg2)) (h3 : a3 = m ((c.tc : Thread nD τ).loc main_arg3))
    (h4 : a4 = m ((c.tc : Thread nD τ).loc main_arg4)) (h5 : a5 = m ((c.tc : Thread nD τ).loc main_arg5)) :
    R.codeA a0 a1 a2 a3 a4 a5 = I.codeF m c ∧ R.sclA a0 a1 a2 a3 a4 a5 = I.sclF m c ∧ R.minA a0 a1 a2 a3 a4 a5 = I.minF m c
      ∧ R.momA a0 a2 a5 = I.momF m c := by
  subst h0 h1 h2 h3 h4 h5
  exact ⟨rfl, rfl, rfl, rfl⟩
end Values

/-- The idealized kernel and the reference compute the same four results. -/
theorem algebraic : Cert.algebraic_KernelIdeal_ReferenceIdeal := fun m g m' g' hp ha => by
  have hs : ∀ c, Sorted (I.offs m c) := fun c => sorted_of _ _ _ _ _ _ (hp c)
  have hs' : ∀ c : Dev Cert.ReferenceIdeal.nD, Sorted (m' ((c.tc : Thread Cert.ReferenceIdeal.nD Cert.ReferenceIdeal.τ).loc Cert.ReferenceIdeal.main_arg2)) :=
    fun c => (congrArg Sorted (ha c).2.2.1).mpr (hs c)
  refine ⟨I.codeF m, I.sclF m, I.minF m, I.momF m, I.run_at m g hs, ?_⟩
  refine (θ_run Cert.ReferenceIdeal.defs _ _).mono (fun r h c => ?_) (R.run_at m' g' hs')
  obtain ⟨e0, e1, e2, e3, e4, e5⟩ := ha c
  obtain ⟨v0, v1, v2, v3⟩ := vals m c _ _ _ _ _ _ e0 e1 e2 e3 e4 e5
  obtain ⟨r0, r1, r2, r3, hr⟩ := h c
  exact ⟨r0.trans v0, r1.trans v1, r2.trans v2, r3.trans v3, hr⟩

/-- The frames of the table kernel and of its reference. -/
theorem frame_b : Cert.quiescent_Bag := fun m ρ _ => Cert.Bag.Gen.frame m ρ
theorem frame_br : Cert.quiescent_BagReference := fun m ρ _ => Cert.BagReference.Gen.frame m ρ

section Table
open Cert.Bag in
/-- The table of equal arguments. -/
theorem tabs (m : (ℓ : Loc nD τ sig) → Buf (Elt Bits) ℓ) (c : Dev nD) (a0 : Vec Bits S64x512x256 .fp8e4m3) (a1 : FVec Bits S64x512 .f32)
    (h0 : a0 = m ((c.tc : Thread nD τ).loc main_arg0)) (h1 : a1 = m ((c.tc : Thread nD τ).loc main_arg1)) :
    B.tabF a0 a1 = B.tabF (m ((c.tc : Thread nD τ).loc main_arg0)) (m ((c.tc : Thread nD τ).loc main_arg1)) := by
  subst h0 h1
  rfl
end Table

/-- The table kernel and its reference write the same bits. -/
theorem bitexact : Cert.bitexact_Bag_BagReference := fun m g m' g' _ ha => by
  refine ⟨fun c => B.tabF (F := Bits) (m ((c.tc : Thread Cert.Bag.nD Cert.Bag.τ).loc Cert.Bag.main_arg0)) (m ((c.tc : Thread Cert.Bag.nD Cert.Bag.τ).loc Cert.Bag.main_arg1)),
    B.run_at m g, ?_⟩
  refine (θ_run Cert.BagReference.defs _ _).mono (fun r h c => ?_) (BR.run_at m' g')
  exact ⟨(h c).1.trans (tabs m c _ _ (ha c).1 (ha c).2), (h c).2⟩

theorem claim : Cert.Claim := by
  refine ⟨Cert.Kernel.Gen.facts, Cert.KernelIdeal.Gen.facts, Cert.ReferenceIdeal.Gen.facts, Cert.Bag.Gen.facts, Cert.BagReference.Gen.facts,
    Cert.Pre_runs_ok.Gen.facts, frame_k, frame_i, frame_r, frame_rp, frame_b, frame_br, ?_, algebraic, bitexact⟩
  trivial

end Cert.Proof

end
